-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_InProjDw (m : (ℓ : Loc Cert.InProjDw.nD Cert.InProjDw.τ Cert.InProjDw.sig) → Buf (Elt Bits) ℓ) : Prop :=
  True

def Pre_InProjDwIdeal (m : (ℓ : Loc Cert.InProjDwIdeal.nD Cert.InProjDwIdeal.τ Cert.InProjDwIdeal.sig) → Buf (Elt Ideal) ℓ) : Prop :=
  True

def Pre_InProjDwRefIdeal (m : (ℓ : Loc Cert.InProjDwRefIdeal.nD Cert.InProjDwRefIdeal.τ Cert.InProjDwRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff1Dx (m : (ℓ : Loc Cert.Ff1Dx.nD Cert.Ff1Dx.τ Cert.Ff1Dx.sig) → Buf (Elt Bits) ℓ) : Prop :=
  True

def Pre_Ff1DxIdeal (m : (ℓ : Loc Cert.Ff1DxIdeal.nD Cert.Ff1DxIdeal.τ Cert.Ff1DxIdeal.sig) → Buf (Elt Ideal) ℓ) : Prop :=
  True

def Pre_Ff1DxRefIdeal (m : (ℓ : Loc Cert.Ff1DxRefIdeal.nD Cert.Ff1DxRefIdeal.τ Cert.Ff1DxRefIdeal.sig) → Buf (Elt Ideal) ℓ) : Prop :=
  True

def Pre_Ff1Dw (m : (ℓ : Loc Cert.Ff1Dw.nD Cert.Ff1Dw.τ Cert.Ff1Dw.sig) → Buf (Elt Bits) ℓ) : Prop :=
  True

def Pre_Ff1DwIdeal (m : (ℓ : Loc Cert.Ff1DwIdeal.nD Cert.Ff1DwIdeal.τ Cert.Ff1DwIdeal.sig) → Buf (Elt Ideal) ℓ) : Prop :=
  True

def Pre_Ff1DwRefIdeal (m : (ℓ : Loc Cert.Ff1DwRefIdeal.nD Cert.Ff1DwRefIdeal.τ Cert.Ff1DwRefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Ff2Dx (m : (ℓ : Loc Cert.Ff2Dx.nD Cert.Ff2Dx.τ Cert.Ff2Dx.sig) → Buf (Elt Bits) ℓ) : Prop :=
  True

def Pre_Ff2DxIdeal (m : (ℓ : Loc Cert.Ff2DxIdeal.nD Cert.Ff2DxIdeal.τ Cert.Ff2DxIdeal.sig) → Buf (Elt Ideal) ℓ) : Prop :=
  True

def Pre_Ff2DxRefIdeal (m : (ℓ : Loc Cert.Ff2DxRefIdeal.nD Cert.Ff2DxRefIdeal.τ Cert.Ff2DxRefIdeal.sig) → Buf (Elt Ideal) ℓ) : Prop :=
  True

def Pre_Ff2Dw (m : (ℓ : Loc Cert.Ff2Dw.nD Cert.Ff2Dw.τ Cert.Ff2Dw.sig) → Buf (Elt Bits) ℓ) : Prop :=
  True

def Pre_Ff2DwIdeal (m : (ℓ : Loc Cert.Ff2DwIdeal.nD Cert.Ff2DwIdeal.τ Cert.Ff2DwIdeal.sig) → Buf (Elt Ideal) ℓ) : Prop :=
  True

def Pre_Ff2DwRefIdeal (m : (ℓ : Loc Cert.Ff2DwRefIdeal.nD Cert.Ff2DwRefIdeal.τ Cert.Ff2DwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_AttnOutDx (m : (ℓ : Loc Cert.AttnOutDx.nD Cert.AttnOutDx.τ Cert.AttnOutDx.sig) → Buf (Elt Bits) ℓ) : Prop :=
  True

def Pre_AttnOutDxIdeal (m : (ℓ : Loc Cert.AttnOutDxIdeal.nD Cert.AttnOutDxIdeal.τ Cert.AttnOutDxIdeal.sig) → Buf (Elt Ideal) ℓ) : Prop :=
  True

def Pre_AttnOutDxRefIdeal (m : (ℓ : Loc Cert.AttnOutDxRefIdeal.nD Cert.AttnOutDxRefIdeal.τ Cert.AttnOutDxRefIdeal.sig) → Buf (Elt Ideal) ℓ) : Prop :=
  True

def Pre_AttnOutDw (m : (ℓ : Loc Cert.AttnOutDw.nD Cert.AttnOutDw.τ Cert.AttnOutDw.sig) → Buf (Elt Bits) ℓ) : Prop :=
  True

def Pre_AttnOutDwIdeal (m : (ℓ : Loc Cert.AttnOutDwIdeal.nD Cert.AttnOutDwIdeal.τ Cert.AttnOutDwIdeal.sig) → Buf (Elt Ideal) ℓ) : Prop :=
  True

def Pre_AttnOutDwRefIdeal (m : (ℓ : Loc Cert.AttnOutDwRefIdeal.nD Cert.AttnOutDwRefIdeal.τ Cert.AttnOutDwRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamFf2 (m : (ℓ : Loc Cert.AdamFf2.nD Cert.AdamFf2.τ Cert.AdamFf2.sig) → Buf (Elt Bits) ℓ) : Prop :=
  True

def Pre_AdamFf2Ideal (m : (ℓ : Loc Cert.AdamFf2Ideal.nD Cert.AdamFf2Ideal.τ Cert.AdamFf2Ideal.sig) → Buf (Elt Ideal) ℓ) : Prop :=
  True

def Pre_AdamFf2RefIdeal (m : (ℓ : Loc Cert.AdamFf2RefIdeal.nD Cert.AdamFf2RefIdeal.τ Cert.AdamFf2RefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_InProjDw [hInProjDw : Cert.InProjDw.Facts] : Prop :=
  ∀ (m : (ℓ : Loc Cert.InProjDw.nD Cert.InProjDw.τ Cert.InProjDw.sig) → Buf (Elt Bits) ℓ) (g : Dev Cert.InProjDw.nD → PrngReg), Pre_InProjDw m →
    θ_run (Cert.InProjDw.defs (F := Bits)) (onTc (τ := Cert.InProjDw.τ) (Cert.InProjDw.main (F := Bits))) ⟨m, fun _ => 0, g⟩ (fun r => (∀ c : Dev Cert.InProjDw.nD,
      r.2.mem ((c.tc : Thread Cert.InProjDw.nD Cert.InProjDw.τ).loc Cert.InProjDw.main_arg0) = m ((c.tc : Thread Cert.InProjDw.nD Cert.InProjDw.τ).loc Cert.InProjDw.main_arg0)
      ∧ r.2.mem ((c.tc : Thread Cert.InProjDw.nD Cert.InProjDw.τ).loc Cert.InProjDw.main_arg1) = m ((c.tc : Thread Cert.InProjDw.nD Cert.InProjDw.τ).loc Cert.InProjDw.main_arg1))
      ∧ r.2.sem = fun _ => 0)

def quiescent_InProjDwIdeal [hInProjDwIdeal : Cert.InProjDwIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg), Pre_InProjDwIdeal m →
    θ_run (Cert.InProjDwIdeal.defs (F := Ideal)) (onTc (τ := Cert.InProjDwIdeal.τ) (Cert.InProjDwIdeal.main (F := Ideal))) ⟨m, fun _ => 0, g⟩ (fun r => (∀ c : Dev Cert.InProjDwIdeal.nD,
      r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
      ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ r.2.sem = fun _ => 0)

def quiescent_InProjDwRefIdeal [hInProjDwRefIdeal : Cert.InProjDwRefIdeal.Facts] : Prop :=
  ∀ (m : (ℓ : Loc Cert.InProjDwRefIdeal.nD Cert.InProjDwRefIdeal.τ Cert.InProjDwRefIdeal.sig) → Buf (Elt Ideal) ℓ) (g : Dev Cert.InProjDwRefIdeal.nD → PrngReg), Pre_InProjDwRefIdeal m →
    θ_run (Cert.InProjDwRefIdeal.defs (F := Ideal)) (onTc (τ := Cert.InProjDwRefIdeal.τ) (Cert.InProjDwRefIdeal.main (F := Ideal))) ⟨m, fun _ => 0, g⟩ (fun r => (∀ c : Dev Cert.InProjDwRefIdeal.nD,
      r.2.mem ((c.tc : Thread Cert.InProjDwRefIdeal.nD Cert.InProjDwRefIdeal.τ).loc Cert.InProjDwRefIdeal.main_arg0) = m ((c.tc : Thread Cert.InProjDwRefIdeal.nD Cert.InProjDwRefIdeal.τ).loc Cert.InProjDwRefIdeal.main_arg0)
      ∧ r.2.mem ((c.tc : Thread Cert.InProjDwRefIdeal.nD Cert.InProjDwRefIdeal.τ).loc Cert.InProjDwRefIdeal.main_arg1) = m ((c.tc : Thread Cert.InProjDwRefIdeal.nD Cert.InProjDwRefIdeal.τ).loc Cert.InProjDwRefIdeal.main_arg1))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff1Dx [hFf1Dx : Cert.Ff1Dx.Facts] : Prop :=
  ∀ (m : (ℓ : Loc Cert.Ff1Dx.nD Cert.Ff1Dx.τ Cert.Ff1Dx.sig) → Buf (Elt Bits) ℓ) (g : Dev Cert.Ff1Dx.nD → PrngReg), Pre_Ff1Dx m →
    θ_run (Cert.Ff1Dx.defs (F := Bits)) (onTc (τ := Cert.Ff1Dx.τ) (Cert.Ff1Dx.main (F := Bits))) ⟨m, fun _ => 0, g⟩ (fun r => (∀ c : Dev Cert.Ff1Dx.nD,
      r.2.mem ((c.tc : Thread Cert.Ff1Dx.nD Cert.Ff1Dx.τ).loc Cert.Ff1Dx.main_arg0) = m ((c.tc : Thread Cert.Ff1Dx.nD Cert.Ff1Dx.τ).loc Cert.Ff1Dx.main_arg0)
      ∧ r.2.mem ((c.tc : Thread Cert.Ff1Dx.nD Cert.Ff1Dx.τ).loc Cert.Ff1Dx.main_arg1) = m ((c.tc : Thread Cert.Ff1Dx.nD Cert.Ff1Dx.τ).loc Cert.Ff1Dx.main_arg1))
      ∧ r.2.sem = fun _ => 0)

def quiescent_Ff1DxIdeal [hFf1DxIdeal : Cert.Ff1DxIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg), Pre_Ff1DxIdeal m →
    θ_run (Cert.Ff1DxIdeal.defs (F := Ideal)) (onTc (τ := Cert.Ff1DxIdeal.τ) (Cert.Ff1DxIdeal.main (F := Ideal))) ⟨m, fun _ => 0, g⟩ (fun r => (∀ c : Dev Cert.Ff1DxIdeal.nD,
      r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
      ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ r.2.sem = fun _ => 0)

def quiescent_Ff1DxRefIdeal [hFf1DxRefIdeal : Cert.Ff1DxRefIdeal.Facts] : Prop :=
  ∀ (m : (ℓ : Loc Cert.Ff1DxRefIdeal.nD Cert.Ff1DxRefIdeal.τ Cert.Ff1DxRefIdeal.sig) → Buf (Elt Ideal) ℓ) (g : Dev Cert.Ff1DxRefIdeal.nD → PrngReg), Pre_Ff1DxRefIdeal m →
    θ_run (Cert.Ff1DxRefIdeal.defs (F := Ideal)) (onTc (τ := Cert.Ff1DxRefIdeal.τ) (Cert.Ff1DxRefIdeal.main (F := Ideal))) ⟨m, fun _ => 0, g⟩ (fun r => (∀ c : Dev Cert.Ff1DxRefIdeal.nD,
      r.2.mem ((c.tc : Thread Cert.Ff1DxRefIdeal.nD Cert.Ff1DxRefIdeal.τ).loc Cert.Ff1DxRefIdeal.main_arg0) = m ((c.tc : Thread Cert.Ff1DxRefIdeal.nD Cert.Ff1DxRefIdeal.τ).loc Cert.Ff1DxRefIdeal.main_arg0)
      ∧ r.2.mem ((c.tc : Thread Cert.Ff1DxRefIdeal.nD Cert.Ff1DxRefIdeal.τ).loc Cert.Ff1DxRefIdeal.main_arg1) = m ((c.tc : Thread Cert.Ff1DxRefIdeal.nD Cert.Ff1DxRefIdeal.τ).loc Cert.Ff1DxRefIdeal.main_arg1))
      ∧ r.2.sem = fun _ => 0)

def quiescent_Ff1Dw [hFf1Dw : Cert.Ff1Dw.Facts] : Prop :=
  ∀ (m : (ℓ : Loc Cert.Ff1Dw.nD Cert.Ff1Dw.τ Cert.Ff1Dw.sig) → Buf (Elt Bits) ℓ) (g : Dev Cert.Ff1Dw.nD → PrngReg), Pre_Ff1Dw m →
    θ_run (Cert.Ff1Dw.defs (F := Bits)) (onTc (τ := Cert.Ff1Dw.τ) (Cert.Ff1Dw.main (F := Bits))) ⟨m, fun _ => 0, g⟩ (fun r => (∀ c : Dev Cert.Ff1Dw.nD,
      r.2.mem ((c.tc : Thread Cert.Ff1Dw.nD Cert.Ff1Dw.τ).loc Cert.Ff1Dw.main_arg0) = m ((c.tc : Thread Cert.Ff1Dw.nD Cert.Ff1Dw.τ).loc Cert.Ff1Dw.main_arg0)
      ∧ r.2.mem ((c.tc : Thread Cert.Ff1Dw.nD Cert.Ff1Dw.τ).loc Cert.Ff1Dw.main_arg1) = m ((c.tc : Thread Cert.Ff1Dw.nD Cert.Ff1Dw.τ).loc Cert.Ff1Dw.main_arg1)
      ∧ r.2.mem ((c.tc : Thread Cert.Ff1Dw.nD Cert.Ff1Dw.τ).loc Cert.Ff1Dw.main_arg2) = m ((c.tc : Thread Cert.Ff1Dw.nD Cert.Ff1Dw.τ).loc Cert.Ff1Dw.main_arg2))
      ∧ r.2.sem = fun _ => 0)

def quiescent_Ff1DwIdeal [hFf1DwIdeal : Cert.Ff1DwIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg), Pre_Ff1DwIdeal m →
    θ_run (Cert.Ff1DwIdeal.defs (F := Ideal)) (onTc (τ := Cert.Ff1DwIdeal.τ) (Cert.Ff1DwIdeal.main (F := Ideal))) ⟨m, fun _ => 0, g⟩ (fun r => (∀ c : Dev Cert.Ff1DwIdeal.nD,
      r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
      ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1)
      ∧ r.2.mem ((c.tc : Thread Cert.Ff1DwIdeal.nD Cert.Ff1DwIdeal.τ).loc Cert.Ff1DwIdeal.main_arg2) = m ((c.tc : Thread Cert.Ff1DwIdeal.nD Cert.Ff1DwIdeal.τ).loc Cert.Ff1DwIdeal.main_arg2))
      ∧ r.2.sem = fun _ => 0)

def quiescent_Ff1DwRefIdeal [hFf1DwRefIdeal : Cert.Ff1DwRefIdeal.Facts] : Prop :=
  ∀ (m : (ℓ : Loc Cert.Ff1DwRefIdeal.nD Cert.Ff1DwRefIdeal.τ Cert.Ff1DwRefIdeal.sig) → Buf (Elt Ideal) ℓ) (g : Dev Cert.Ff1DwRefIdeal.nD → PrngReg), Pre_Ff1DwRefIdeal m →
    θ_run (Cert.Ff1DwRefIdeal.defs (F := Ideal)) (onTc (τ := Cert.Ff1DwRefIdeal.τ) (Cert.Ff1DwRefIdeal.main (F := Ideal))) ⟨m, fun _ => 0, g⟩ (fun r => (∀ c : Dev Cert.Ff1DwRefIdeal.nD,
      r.2.mem ((c.tc : Thread Cert.Ff1DwRefIdeal.nD Cert.Ff1DwRefIdeal.τ).loc Cert.Ff1DwRefIdeal.main_arg0) = m ((c.tc : Thread Cert.Ff1DwRefIdeal.nD Cert.Ff1DwRefIdeal.τ).loc Cert.Ff1DwRefIdeal.main_arg0)
      ∧ r.2.mem ((c.tc : Thread Cert.Ff1DwRefIdeal.nD Cert.Ff1DwRefIdeal.τ).loc Cert.Ff1DwRefIdeal.main_arg1) = m ((c.tc : Thread Cert.Ff1DwRefIdeal.nD Cert.Ff1DwRefIdeal.τ).loc Cert.Ff1DwRefIdeal.main_arg1)
      ∧ r.2.mem ((c.tc : Thread Cert.Ff1DwRefIdeal.nD Cert.Ff1DwRefIdeal.τ).loc Cert.Ff1DwRefIdeal.main_arg2) = m ((c.tc : Thread Cert.Ff1DwRefIdeal.nD Cert.Ff1DwRefIdeal.τ).loc Cert.Ff1DwRefIdeal.main_arg2))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_Ff2Dx [hFf2Dx : Cert.Ff2Dx.Facts] : Prop :=
  ∀ (m : (ℓ : Loc Cert.Ff2Dx.nD Cert.Ff2Dx.τ Cert.Ff2Dx.sig) → Buf (Elt Bits) ℓ) (g : Dev Cert.Ff2Dx.nD → PrngReg), Pre_Ff2Dx m →
    θ_run (Cert.Ff2Dx.defs (F := Bits)) (onTc (τ := Cert.Ff2Dx.τ) (Cert.Ff2Dx.main (F := Bits))) ⟨m, fun _ => 0, g⟩ (fun r => (∀ c : Dev Cert.Ff2Dx.nD,
      r.2.mem ((c.tc : Thread Cert.Ff2Dx.nD Cert.Ff2Dx.τ).loc Cert.Ff2Dx.main_arg0) = m ((c.tc : Thread Cert.Ff2Dx.nD Cert.Ff2Dx.τ).loc Cert.Ff2Dx.main_arg0)
      ∧ r.2.mem ((c.tc : Thread Cert.Ff2Dx.nD Cert.Ff2Dx.τ).loc Cert.Ff2Dx.main_arg1) = m ((c.tc : Thread Cert.Ff2Dx.nD Cert.Ff2Dx.τ).loc Cert.Ff2Dx.main_arg1))
      ∧ r.2.sem = fun _ => 0)

def quiescent_Ff2DxIdeal [hFf2DxIdeal : Cert.Ff2DxIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg), Pre_Ff2DxIdeal m →
    θ_run (Cert.Ff2DxIdeal.defs (F := Ideal)) (onTc (τ := Cert.Ff2DxIdeal.τ) (Cert.Ff2DxIdeal.main (F := Ideal))) ⟨m, fun _ => 0, g⟩ (fun r => (∀ c : Dev Cert.Ff2DxIdeal.nD,
      r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
      ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1))
      ∧ r.2.sem = fun _ => 0)

def quiescent_Ff2DxRefIdeal [hFf2DxRefIdeal : Cert.Ff2DxRefIdeal.Facts] : Prop :=
  ∀ (m : (ℓ : Loc Cert.Ff2DxRefIdeal.nD Cert.Ff2DxRefIdeal.τ Cert.Ff2DxRefIdeal.sig) → Buf (Elt Ideal) ℓ) (g : Dev Cert.Ff2DxRefIdeal.nD → PrngReg), Pre_Ff2DxRefIdeal m →
    θ_run (Cert.Ff2DxRefIdeal.defs (F := Ideal)) (onTc (τ := Cert.Ff2DxRefIdeal.τ) (Cert.Ff2DxRefIdeal.main (F := Ideal))) ⟨m, fun _ => 0, g⟩ (fun r => (∀ c : Dev Cert.Ff2DxRefIdeal.nD,
      r.2.mem ((c.tc : Thread Cert.Ff2DxRefIdeal.nD Cert.Ff2DxRefIdeal.τ).loc Cert.Ff2DxRefIdeal.main_arg0) = m ((c.tc : Thread Cert.Ff2DxRefIdeal.nD Cert.Ff2DxRefIdeal.τ).loc Cert.Ff2DxRefIdeal.main_arg0)
      ∧ r.2.mem ((c.tc : Thread Cert.Ff2DxRefIdeal.nD Cert.Ff2DxRefIdeal.τ).loc Cert.Ff2DxRefIdeal.main_arg1) = m ((c.tc : Thread Cert.Ff2DxRefIdeal.nD Cert.Ff2DxRefIdeal.τ).loc Cert.Ff2DxRefIdeal.main_arg1))
      ∧ r.2.sem = fun _ => 0)

def quiescent_Ff2Dw [hFf2Dw : Cert.Ff2Dw.Facts] : Prop :=
  ∀ (m : (ℓ : Loc Cert.Ff2Dw.nD Cert.Ff2Dw.τ Cert.Ff2Dw.sig) → Buf (Elt Bits) ℓ) (g : Dev Cert.Ff2Dw.nD → PrngReg), Pre_Ff2Dw m →
    θ_run (Cert.Ff2Dw.defs (F := Bits)) (onTc (τ := Cert.Ff2Dw.τ) (Cert.Ff2Dw.main (F := Bits))) ⟨m, fun _ => 0, g⟩ (fun r => (∀ c : Dev Cert.Ff2Dw.nD,
      r.2.mem ((c.tc : Thread Cert.Ff2Dw.nD Cert.Ff2Dw.τ).loc Cert.Ff2Dw.main_arg0) = m ((c.tc : Thread Cert.Ff2Dw.nD Cert.Ff2Dw.τ).loc Cert.Ff2Dw.main_arg0)
      ∧ r.2.mem ((c.tc : Thread Cert.Ff2Dw.nD Cert.Ff2Dw.τ).loc Cert.Ff2Dw.main_arg1) = m ((c.tc : Thread Cert.Ff2Dw.nD Cert.Ff2Dw.τ).loc Cert.Ff2Dw.main_arg1)
      ∧ r.2.mem ((c.tc : Thread Cert.Ff2Dw.nD Cert.Ff2Dw.τ).loc Cert.Ff2Dw.main_arg2) = m ((c.tc : Thread Cert.Ff2Dw.nD Cert.Ff2Dw.τ).loc Cert.Ff2Dw.main_arg2))
      ∧ r.2.sem = fun _ => 0)

def quiescent_Ff2DwIdeal [hFf2DwIdeal : Cert.Ff2DwIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg), Pre_Ff2DwIdeal m →
    θ_run (Cert.Ff2DwIdeal.defs (F := Ideal)) (onTc (τ := Cert.Ff2DwIdeal.τ) (Cert.Ff2DwIdeal.main (F := Ideal))) ⟨m, fun _ => 0, g⟩ (fun r => (∀ c : Dev Cert.Ff2DwIdeal.nD,
      r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
      ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
      ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ r.2.sem = fun _ => 0)

def quiescent_Ff2DwRefIdeal [hFf2DwRefIdeal : Cert.Ff2DwRefIdeal.Facts] : Prop :=
  ∀ (m : (ℓ : Loc Cert.Ff2DwRefIdeal.nD Cert.Ff2DwRefIdeal.τ Cert.Ff2DwRefIdeal.sig) → Buf (Elt Ideal) ℓ) (g : Dev Cert.Ff2DwRefIdeal.nD → PrngReg), Pre_Ff2DwRefIdeal m →
    θ_run (Cert.Ff2DwRefIdeal.defs (F := Ideal)) (onTc (τ := Cert.Ff2DwRefIdeal.τ) (Cert.Ff2DwRefIdeal.main (F := Ideal))) ⟨m, fun _ => 0, g⟩ (fun r => (∀ c : Dev Cert.Ff2DwRefIdeal.nD,
      r.2.mem ((c.tc : Thread Cert.Ff2DwRefIdeal.nD Cert.Ff2DwRefIdeal.τ).loc Cert.Ff2DwRefIdeal.main_arg0) = m ((c.tc : Thread Cert.Ff2DwRefIdeal.nD Cert.Ff2DwRefIdeal.τ).loc Cert.Ff2DwRefIdeal.main_arg0)
      ∧ r.2.mem ((c.tc : Thread Cert.Ff2DwRefIdeal.nD Cert.Ff2DwRefIdeal.τ).loc Cert.Ff2DwRefIdeal.main_arg1) = m ((c.tc : Thread Cert.Ff2DwRefIdeal.nD Cert.Ff2DwRefIdeal.τ).loc Cert.Ff2DwRefIdeal.main_arg1)
      ∧ r.2.mem ((c.tc : Thread Cert.Ff2DwRefIdeal.nD Cert.Ff2DwRefIdeal.τ).loc Cert.Ff2DwRefIdeal.main_arg2) = m ((c.tc : Thread Cert.Ff2DwRefIdeal.nD Cert.Ff2DwRefIdeal.τ).loc Cert.Ff2DwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1))
      ∧ r.2.sem = fun _ => 0)

def quiescent_AttnOutDx [hAttnOutDx : Cert.AttnOutDx.Facts] : Prop :=
  ∀ (m : (ℓ : Loc Cert.AttnOutDx.nD Cert.AttnOutDx.τ Cert.AttnOutDx.sig) → Buf (Elt Bits) ℓ) (g : Dev Cert.AttnOutDx.nD → PrngReg), Pre_AttnOutDx m →
    θ_run (Cert.AttnOutDx.defs (F := Bits)) (onTc (τ := Cert.AttnOutDx.τ) (Cert.AttnOutDx.main (F := Bits))) ⟨m, fun _ => 0, g⟩ (fun r => (∀ c : Dev Cert.AttnOutDx.nD,
      r.2.mem ((c.tc : Thread Cert.AttnOutDx.nD Cert.AttnOutDx.τ).loc Cert.AttnOutDx.main_arg0) = m ((c.tc : Thread Cert.AttnOutDx.nD Cert.AttnOutDx.τ).loc Cert.AttnOutDx.main_arg0)
      ∧ r.2.mem ((c.tc : Thread Cert.AttnOutDx.nD Cert.AttnOutDx.τ).loc Cert.AttnOutDx.main_arg1) = m ((c.tc : Thread Cert.AttnOutDx.nD Cert.AttnOutDx.τ).loc Cert.AttnOutDx.main_arg1))
      ∧ r.2.sem = fun _ => 0)

def quiescent_AttnOutDxIdeal [hAttnOutDxIdeal : Cert.AttnOutDxIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg), Pre_AttnOutDxIdeal m →
    θ_run (Cert.AttnOutDxIdeal.defs (F := Ideal)) (onTc (τ := Cert.AttnOutDxIdeal.τ) (Cert.AttnOutDxIdeal.main (F := Ideal))) ⟨m, fun _ => 0, g⟩ (fun r => (∀ c : Dev Cert.AttnOutDxIdeal.nD,
      r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
      ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ r.2.sem = fun _ => 0)

def quiescent_AttnOutDxRefIdeal [hAttnOutDxRefIdeal : Cert.AttnOutDxRefIdeal.Facts] : Prop :=
  ∀ (m : (ℓ : Loc Cert.AttnOutDxRefIdeal.nD Cert.AttnOutDxRefIdeal.τ Cert.AttnOutDxRefIdeal.sig) → Buf (Elt Ideal) ℓ) (g : Dev Cert.AttnOutDxRefIdeal.nD → PrngReg), Pre_AttnOutDxRefIdeal m →
    θ_run (Cert.AttnOutDxRefIdeal.defs (F := Ideal)) (onTc (τ := Cert.AttnOutDxRefIdeal.τ) (Cert.AttnOutDxRefIdeal.main (F := Ideal))) ⟨m, fun _ => 0, g⟩ (fun r => (∀ c : Dev Cert.AttnOutDxRefIdeal.nD,
      r.2.mem ((c.tc : Thread Cert.AttnOutDxRefIdeal.nD Cert.AttnOutDxRefIdeal.τ).loc Cert.AttnOutDxRefIdeal.main_arg0) = m ((c.tc : Thread Cert.AttnOutDxRefIdeal.nD Cert.AttnOutDxRefIdeal.τ).loc Cert.AttnOutDxRefIdeal.main_arg0)
      ∧ r.2.mem ((c.tc : Thread Cert.AttnOutDxRefIdeal.nD Cert.AttnOutDxRefIdeal.τ).loc Cert.AttnOutDxRefIdeal.main_arg1) = m ((c.tc : Thread Cert.AttnOutDxRefIdeal.nD Cert.AttnOutDxRefIdeal.τ).loc Cert.AttnOutDxRefIdeal.main_arg1))
      ∧ r.2.sem = fun _ => 0)

def quiescent_AttnOutDw [hAttnOutDw : Cert.AttnOutDw.Facts] : Prop :=
  ∀ (m : (ℓ : Loc Cert.AttnOutDw.nD Cert.AttnOutDw.τ Cert.AttnOutDw.sig) → Buf (Elt Bits) ℓ) (g : Dev Cert.AttnOutDw.nD → PrngReg), Pre_AttnOutDw m →
    θ_run (Cert.AttnOutDw.defs (F := Bits)) (onTc (τ := Cert.AttnOutDw.τ) (Cert.AttnOutDw.main (F := Bits))) ⟨m, fun _ => 0, g⟩ (fun r => (∀ c : Dev Cert.AttnOutDw.nD,
      r.2.mem ((c.tc : Thread Cert.AttnOutDw.nD Cert.AttnOutDw.τ).loc Cert.AttnOutDw.main_arg0) = m ((c.tc : Thread Cert.AttnOutDw.nD Cert.AttnOutDw.τ).loc Cert.AttnOutDw.main_arg0)
      ∧ r.2.mem ((c.tc : Thread Cert.AttnOutDw.nD Cert.AttnOutDw.τ).loc Cert.AttnOutDw.main_arg1) = m ((c.tc : Thread Cert.AttnOutDw.nD Cert.AttnOutDw.τ).loc Cert.AttnOutDw.main_arg1)
      ∧ r.2.mem ((c.tc : Thread Cert.AttnOutDw.nD Cert.AttnOutDw.τ).loc Cert.AttnOutDw.main_arg2) = m ((c.tc : Thread Cert.AttnOutDw.nD Cert.AttnOutDw.τ).loc Cert.AttnOutDw.main_arg2))
      ∧ r.2.sem = fun _ => 0)

def quiescent_AttnOutDwIdeal [hAttnOutDwIdeal : Cert.AttnOutDwIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg), Pre_AttnOutDwIdeal m →
    θ_run (Cert.AttnOutDwIdeal.defs (F := Ideal)) (onTc (τ := Cert.AttnOutDwIdeal.τ) (Cert.AttnOutDwIdeal.main (F := Ideal))) ⟨m, fun _ => 0, g⟩ (fun r => (∀ c : Dev Cert.AttnOutDwIdeal.nD,
      r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
      ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1)
      ∧ r.2.mem ((c.tc : Thread Cert.AttnOutDwIdeal.nD Cert.AttnOutDwIdeal.τ).loc Cert.AttnOutDwIdeal.main_arg2) = m ((c.tc : Thread Cert.AttnOutDwIdeal.nD Cert.AttnOutDwIdeal.τ).loc Cert.AttnOutDwIdeal.main_arg2))
      ∧ r.2.sem = fun _ => 0)

def quiescent_AttnOutDwRefIdeal [hAttnOutDwRefIdeal : Cert.AttnOutDwRefIdeal.Facts] : Prop :=
  ∀ (m : (ℓ : Loc Cert.AttnOutDwRefIdeal.nD Cert.AttnOutDwRefIdeal.τ Cert.AttnOutDwRefIdeal.sig) → Buf (Elt Ideal) ℓ) (g : Dev Cert.AttnOutDwRefIdeal.nD → PrngReg), Pre_AttnOutDwRefIdeal m →
    θ_run (Cert.AttnOutDwRefIdeal.defs (F := Ideal)) (onTc (τ := Cert.AttnOutDwRefIdeal.τ) (Cert.AttnOutDwRefIdeal.main (F := Ideal))) ⟨m, fun _ => 0, g⟩ (fun r => (∀ c : Dev Cert.AttnOutDwRefIdeal.nD,
      r.2.mem ((c.tc : Thread Cert.AttnOutDwRefIdeal.nD Cert.AttnOutDwRefIdeal.τ).loc Cert.AttnOutDwRefIdeal.main_arg0) = m ((c.tc : Thread Cert.AttnOutDwRefIdeal.nD Cert.AttnOutDwRefIdeal.τ).loc Cert.AttnOutDwRefIdeal.main_arg0)
      ∧ r.2.mem ((c.tc : Thread Cert.AttnOutDwRefIdeal.nD Cert.AttnOutDwRefIdeal.τ).loc Cert.AttnOutDwRefIdeal.main_arg1) = m ((c.tc : Thread Cert.AttnOutDwRefIdeal.nD Cert.AttnOutDwRefIdeal.τ).loc Cert.AttnOutDwRefIdeal.main_arg1)
      ∧ r.2.mem ((c.tc : Thread Cert.AttnOutDwRefIdeal.nD Cert.AttnOutDwRefIdeal.τ).loc Cert.AttnOutDwRefIdeal.main_arg2) = m ((c.tc : Thread Cert.AttnOutDwRefIdeal.nD Cert.AttnOutDwRefIdeal.τ).loc Cert.AttnOutDwRefIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3)
      ∧ r.2.mem ((c.tc : Thread Cert.AdamConv.nD Cert.AdamConv.τ).loc Cert.AdamConv.main_arg4) = m ((c.tc : Thread Cert.AdamConv.nD Cert.AdamConv.τ).loc Cert.AdamConv.main_arg4))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
      ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3)
      ∧ r.2.mem ((c.tc : Thread Cert.AdamConvRefIdeal.nD Cert.AdamConvRefIdeal.τ).loc Cert.AdamConvRefIdeal.main_arg4) = m ((c.tc : Thread Cert.AdamConvRefIdeal.nD Cert.AdamConvRefIdeal.τ).loc Cert.AdamConvRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4))
      ∧ r.2.sem = fun _ => 0)

def quiescent_AdamFf2 [hAdamFf2 : Cert.AdamFf2.Facts] : Prop :=
  ∀ (m : (ℓ : Loc Cert.AdamFf2.nD Cert.AdamFf2.τ Cert.AdamFf2.sig) → Buf (Elt Bits) ℓ) (g : Dev Cert.AdamFf2.nD → PrngReg), Pre_AdamFf2 m →
    θ_run (Cert.AdamFf2.defs (F := Bits)) (onTc (τ := Cert.AdamFf2.τ) (Cert.AdamFf2.main (F := Bits))) ⟨m, fun _ => 0, g⟩ (fun r => (∀ c : Dev Cert.AdamFf2.nD,
      r.2.mem ((c.tc : Thread Cert.AdamFf2.nD Cert.AdamFf2.τ).loc Cert.AdamFf2.main_arg0) = m ((c.tc : Thread Cert.AdamFf2.nD Cert.AdamFf2.τ).loc Cert.AdamFf2.main_arg0)
      ∧ r.2.mem ((c.tc : Thread Cert.AdamFf2.nD Cert.AdamFf2.τ).loc Cert.AdamFf2.main_arg1) = m ((c.tc : Thread Cert.AdamFf2.nD Cert.AdamFf2.τ).loc Cert.AdamFf2.main_arg1)
      ∧ r.2.mem ((c.tc : Thread Cert.AdamFf2.nD Cert.AdamFf2.τ).loc Cert.AdamFf2.main_arg2) = m ((c.tc : Thread Cert.AdamFf2.nD Cert.AdamFf2.τ).loc Cert.AdamFf2.main_arg2)
      ∧ r.2.mem ((c.tc : Thread Cert.AdamFf2.nD Cert.AdamFf2.τ).loc Cert.AdamFf2.main_arg3) = m ((c.tc : Thread Cert.AdamFf2.nD Cert.AdamFf2.τ).loc Cert.AdamFf2.main_arg3)
      ∧ r.2.mem ((c.tc : Thread Cert.AdamFf2.nD Cert.AdamFf2.τ).loc Cert.AdamFf2.main_arg4) = m ((c.tc : Thread Cert.AdamFf2.nD Cert.AdamFf2.τ).loc Cert.AdamFf2.main_arg4)
      ∧ r.2.mem ((c.tc : Thread Cert.AdamFf2.nD Cert.AdamFf2.τ).loc Cert.AdamFf2.main_arg5) = m ((c.tc : Thread Cert.AdamFf2.nD Cert.AdamFf2.τ).loc Cert.AdamFf2.main_arg5)
      ∧ r.2.mem ((c.tc : Thread Cert.AdamFf2.nD Cert.AdamFf2.τ).loc Cert.AdamFf2.main_arg6) = m ((c.tc : Thread Cert.AdamFf2.nD Cert.AdamFf2.τ).loc Cert.AdamFf2.main_arg6))
      ∧ r.2.sem = fun _ => 0)

def quiescent_AdamFf2Ideal [hAdamFf2Ideal : Cert.AdamFf2Ideal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg), Pre_AdamFf2Ideal m →
    θ_run (Cert.AdamFf2Ideal.defs (F := Ideal)) (onTc (τ := Cert.AdamFf2Ideal.τ) (Cert.AdamFf2Ideal.main (F := Ideal))) ⟨m, fun _ => 0, g⟩ (fun r => (∀ c : Dev Cert.AdamFf2Ideal.nD,
      r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
      ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
      ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
      ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
      ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
      ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5)
      ∧ r.2.mem ((c.tc : Thread Cert.AdamFf2Ideal.nD Cert.AdamFf2Ideal.τ).loc Cert.AdamFf2Ideal.main_arg6) = m ((c.tc : Thread Cert.AdamFf2Ideal.nD Cert.AdamFf2Ideal.τ).loc Cert.AdamFf2Ideal.main_arg6))
      ∧ r.2.sem = fun _ => 0)

def quiescent_AdamFf2RefIdeal [hAdamFf2RefIdeal : Cert.AdamFf2RefIdeal.Facts] : Prop :=
  ∀ (m : (ℓ : Loc Cert.AdamFf2RefIdeal.nD Cert.AdamFf2RefIdeal.τ Cert.AdamFf2RefIdeal.sig) → Buf (Elt Ideal) ℓ) (g : Dev Cert.AdamFf2RefIdeal.nD → PrngReg), Pre_AdamFf2RefIdeal m →
    θ_run (Cert.AdamFf2RefIdeal.defs (F := Ideal)) (onTc (τ := Cert.AdamFf2RefIdeal.τ) (Cert.AdamFf2RefIdeal.main (F := Ideal))) ⟨m, fun _ => 0, g⟩ (fun r => (∀ c : Dev Cert.AdamFf2RefIdeal.nD,
      r.2.mem ((c.tc : Thread Cert.AdamFf2RefIdeal.nD Cert.AdamFf2RefIdeal.τ).loc Cert.AdamFf2RefIdeal.main_arg0) = m ((c.tc : Thread Cert.AdamFf2RefIdeal.nD Cert.AdamFf2RefIdeal.τ).loc Cert.AdamFf2RefIdeal.main_arg0)
      ∧ r.2.mem ((c.tc : Thread Cert.AdamFf2RefIdeal.nD Cert.AdamFf2RefIdeal.τ).loc Cert.AdamFf2RefIdeal.main_arg1) = m ((c.tc : Thread Cert.AdamFf2RefIdeal.nD Cert.AdamFf2RefIdeal.τ).loc Cert.AdamFf2RefIdeal.main_arg1)
      ∧ r.2.mem ((c.tc : Thread Cert.AdamFf2RefIdeal.nD Cert.AdamFf2RefIdeal.τ).loc Cert.AdamFf2RefIdeal.main_arg2) = m ((c.tc : Thread Cert.AdamFf2RefIdeal.nD Cert.AdamFf2RefIdeal.τ).loc Cert.AdamFf2RefIdeal.main_arg2)
      ∧ r.2.mem ((c.tc : Thread Cert.AdamFf2RefIdeal.nD Cert.AdamFf2RefIdeal.τ).loc Cert.AdamFf2RefIdeal.main_arg3) = m ((c.tc : Thread Cert.AdamFf2RefIdeal.nD Cert.AdamFf2RefIdeal.τ).loc Cert.AdamFf2RefIdeal.main_arg3)
      ∧ r.2.mem ((c.tc : Thread Cert.AdamFf2RefIdeal.nD Cert.AdamFf2RefIdeal.τ).loc Cert.AdamFf2RefIdeal.main_arg4) = m ((c.tc : Thread Cert.AdamFf2RefIdeal.nD Cert.AdamFf2RefIdeal.τ).loc Cert.AdamFf2RefIdeal.main_arg4)
      ∧ r.2.mem ((c.tc : Thread Cert.AdamFf2RefIdeal.nD Cert.AdamFf2RefIdeal.τ).loc Cert.AdamFf2RefIdeal.main_arg5) = m ((c.tc : Thread Cert.AdamFf2RefIdeal.nD Cert.AdamFf2RefIdeal.τ).loc Cert.AdamFf2RefIdeal.main_arg5)
      ∧ r.2.mem ((c.tc : Thread Cert.AdamFf2RefIdeal.nD Cert.AdamFf2RefIdeal.τ).loc Cert.AdamFf2RefIdeal.main_arg6) = m ((c.tc : Thread Cert.AdamFf2RefIdeal.nD Cert.AdamFf2RefIdeal.τ).loc Cert.AdamFf2RefIdeal.main_arg6))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v3) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v5) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_InProjDw_InProjDwIdeal : Prop :=
  True

def algebraic_InProjDwIdeal_InProjDwRefIdeal [hInProjDwIdeal : Cert.InProjDwIdeal.Facts] [hInProjDwRefIdeal : Cert.InProjDwRefIdeal.Facts] : Prop :=
  ∀ (m : (ℓ : Loc Cert.InProjDwIdeal.nD Cert.InProjDwIdeal.τ Cert.InProjDwIdeal.sig) → Buf (Elt Ideal) ℓ) (g : Dev Cert.InProjDwIdeal.nD → PrngReg)
    (m' : (ℓ : Loc Cert.InProjDwRefIdeal.nD Cert.InProjDwRefIdeal.τ Cert.InProjDwRefIdeal.sig) → Buf (Elt Ideal) ℓ) (g' : Dev Cert.InProjDwRefIdeal.nD → PrngReg), Pre_InProjDwIdeal m →
    (∀ c : Dev Cert.InProjDwIdeal.nD,
      m' ((c.tc : Thread Cert.InProjDwRefIdeal.nD Cert.InProjDwRefIdeal.τ).loc Cert.InProjDwRefIdeal.main_arg0) = m ((c.tc : Thread Cert.InProjDwIdeal.nD Cert.InProjDwIdeal.τ).loc Cert.InProjDwIdeal.main_arg0)
      ∧ m' ((c.tc : Thread Cert.InProjDwRefIdeal.nD Cert.InProjDwRefIdeal.τ).loc Cert.InProjDwRefIdeal.main_arg1) = m ((c.tc : Thread Cert.InProjDwIdeal.nD Cert.InProjDwIdeal.τ).loc Cert.InProjDwIdeal.main_arg1)) →
    ∃ (v0 : (c : Dev Cert.InProjDwIdeal.nD) → Buf (Elt Ideal) ((c.tc : Thread Cert.InProjDwIdeal.nD Cert.InProjDwIdeal.τ).loc Cert.InProjDwIdeal.main_v0)),
      θ_run (Cert.InProjDwIdeal.defs (F := Ideal)) (onTc (τ := Cert.InProjDwIdeal.τ) (Cert.InProjDwIdeal.main (F := Ideal))) ⟨m, fun _ => 0, g⟩ (fun r => ∀ c : Dev Cert.InProjDwIdeal.nD,
          r.2.mem ((c.tc : Thread Cert.InProjDwIdeal.nD Cert.InProjDwIdeal.τ).loc Cert.InProjDwIdeal.main_v0) = v0 c
          ∧ r.2.mem ((c.tc : Thread Cert.InProjDwIdeal.nD Cert.InProjDwIdeal.τ).loc Cert.InProjDwIdeal.main_arg0) = m ((c.tc : Thread Cert.InProjDwIdeal.nD Cert.InProjDwIdeal.τ).loc Cert.InProjDwIdeal.main_arg0)
          ∧ r.2.mem ((c.tc : Thread Cert.InProjDwIdeal.nD Cert.InProjDwIdeal.τ).loc Cert.InProjDwIdeal.main_arg1) = m ((c.tc : Thread Cert.InProjDwIdeal.nD Cert.InProjDwIdeal.τ).loc Cert.InProjDwIdeal.main_arg1))
      ∧ θ_run (Cert.InProjDwRefIdeal.defs (F := Ideal)) (onTc (τ := Cert.InProjDwRefIdeal.τ) (Cert.InProjDwRefIdeal.main (F := Ideal))) ⟨m', fun _ => 0, g'⟩ (fun r => ∀ c : Dev Cert.InProjDwRefIdeal.nD,
          r.2.mem ((c.tc : Thread Cert.InProjDwRefIdeal.nD Cert.InProjDwRefIdeal.τ).loc Cert.InProjDwRefIdeal.main_v8) = v0 c
          ∧ r.2.mem ((c.tc : Thread Cert.InProjDwRefIdeal.nD Cert.InProjDwRefIdeal.τ).loc Cert.InProjDwRefIdeal.main_arg0) = m' ((c.tc : Thread Cert.InProjDwRefIdeal.nD Cert.InProjDwRefIdeal.τ).loc Cert.InProjDwRefIdeal.main_arg0)
          ∧ r.2.mem ((c.tc : Thread Cert.InProjDwRefIdeal.nD Cert.InProjDwRefIdeal.τ).loc Cert.InProjDwRefIdeal.main_arg1) = m' ((c.tc : Thread Cert.InProjDwRefIdeal.nD Cert.InProjDwRefIdeal.τ).loc Cert.InProjDwRefIdeal.main_arg1))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0_0)) (v1 : (c : Dev Cert.Ff1Ideal.nD) → Buf (Elt Ideal) ((c.tc : Thread Cert.Ff1Ideal.nD Cert.Ff1Ideal.τ).loc Cert.Ff1Ideal.main_v0_1)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0_0) = v0 c
          ∧ r.2.mem ((c.tc : Thread Cert.Ff1Ideal.nD Cert.Ff1Ideal.τ).loc Cert.Ff1Ideal.main_v0_1) = v1 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v6) = v0 c
          ∧ r.2.mem ((c.tc : Thread Cert.Ff1RefIdeal.nD Cert.Ff1RefIdeal.τ).loc Cert.Ff1RefIdeal.main_v10) = v1 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff1Dx_Ff1DxIdeal : Prop :=
  True

def algebraic_Ff1DxIdeal_Ff1DxRefIdeal [hFf1DxIdeal : Cert.Ff1DxIdeal.Facts] [hFf1DxRefIdeal : Cert.Ff1DxRefIdeal.Facts] : Prop :=
  ∀ (m : (ℓ : Loc Cert.Ff1DxIdeal.nD Cert.Ff1DxIdeal.τ Cert.Ff1DxIdeal.sig) → Buf (Elt Ideal) ℓ) (g : Dev Cert.Ff1DxIdeal.nD → PrngReg)
    (m' : (ℓ : Loc Cert.Ff1DxRefIdeal.nD Cert.Ff1DxRefIdeal.τ Cert.Ff1DxRefIdeal.sig) → Buf (Elt Ideal) ℓ) (g' : Dev Cert.Ff1DxRefIdeal.nD → PrngReg), Pre_Ff1DxIdeal m →
    (∀ c : Dev Cert.Ff1DxIdeal.nD,
      m' ((c.tc : Thread Cert.Ff1DxRefIdeal.nD Cert.Ff1DxRefIdeal.τ).loc Cert.Ff1DxRefIdeal.main_arg0) = m ((c.tc : Thread Cert.Ff1DxIdeal.nD Cert.Ff1DxIdeal.τ).loc Cert.Ff1DxIdeal.main_arg0)
      ∧ m' ((c.tc : Thread Cert.Ff1DxRefIdeal.nD Cert.Ff1DxRefIdeal.τ).loc Cert.Ff1DxRefIdeal.main_arg1) = m ((c.tc : Thread Cert.Ff1DxIdeal.nD Cert.Ff1DxIdeal.τ).loc Cert.Ff1DxIdeal.main_arg1)) →
    ∃ (v0 : (c : Dev Cert.Ff1DxIdeal.nD) → Buf (Elt Ideal) ((c.tc : Thread Cert.Ff1DxIdeal.nD Cert.Ff1DxIdeal.τ).loc Cert.Ff1DxIdeal.main_v0)),
      θ_run (Cert.Ff1DxIdeal.defs (F := Ideal)) (onTc (τ := Cert.Ff1DxIdeal.τ) (Cert.Ff1DxIdeal.main (F := Ideal))) ⟨m, fun _ => 0, g⟩ (fun r => ∀ c : Dev Cert.Ff1DxIdeal.nD,
          r.2.mem ((c.tc : Thread Cert.Ff1DxIdeal.nD Cert.Ff1DxIdeal.τ).loc Cert.Ff1DxIdeal.main_v0) = v0 c
          ∧ r.2.mem ((c.tc : Thread Cert.Ff1DxIdeal.nD Cert.Ff1DxIdeal.τ).loc Cert.Ff1DxIdeal.main_arg0) = m ((c.tc : Thread Cert.Ff1DxIdeal.nD Cert.Ff1DxIdeal.τ).loc Cert.Ff1DxIdeal.main_arg0)
          ∧ r.2.mem ((c.tc : Thread Cert.Ff1DxIdeal.nD Cert.Ff1DxIdeal.τ).loc Cert.Ff1DxIdeal.main_arg1) = m ((c.tc : Thread Cert.Ff1DxIdeal.nD Cert.Ff1DxIdeal.τ).loc Cert.Ff1DxIdeal.main_arg1))
      ∧ θ_run (Cert.Ff1DxRefIdeal.defs (F := Ideal)) (onTc (τ := Cert.Ff1DxRefIdeal.τ) (Cert.Ff1DxRefIdeal.main (F := Ideal))) ⟨m', fun _ => 0, g'⟩ (fun r => ∀ c : Dev Cert.Ff1DxRefIdeal.nD,
          r.2.mem ((c.tc : Thread Cert.Ff1DxRefIdeal.nD Cert.Ff1DxRefIdeal.τ).loc Cert.Ff1DxRefIdeal.main_v8) = v0 c
          ∧ r.2.mem ((c.tc : Thread Cert.Ff1DxRefIdeal.nD Cert.Ff1DxRefIdeal.τ).loc Cert.Ff1DxRefIdeal.main_arg0) = m' ((c.tc : Thread Cert.Ff1DxRefIdeal.nD Cert.Ff1DxRefIdeal.τ).loc Cert.Ff1DxRefIdeal.main_arg0)
          ∧ r.2.mem ((c.tc : Thread Cert.Ff1DxRefIdeal.nD Cert.Ff1DxRefIdeal.τ).loc Cert.Ff1DxRefIdeal.main_arg1) = m' ((c.tc : Thread Cert.Ff1DxRefIdeal.nD Cert.Ff1DxRefIdeal.τ).loc Cert.Ff1DxRefIdeal.main_arg1))

def preserves_Ff1Dw_Ff1DwIdeal : Prop :=
  True

def algebraic_Ff1DwIdeal_Ff1DwRefIdeal [hFf1DwIdeal : Cert.Ff1DwIdeal.Facts] [hFf1DwRefIdeal : Cert.Ff1DwRefIdeal.Facts] : Prop :=
  ∀ (m : (ℓ : Loc Cert.Ff1DwIdeal.nD Cert.Ff1DwIdeal.τ Cert.Ff1DwIdeal.sig) → Buf (Elt Ideal) ℓ) (g : Dev Cert.Ff1DwIdeal.nD → PrngReg)
    (m' : (ℓ : Loc Cert.Ff1DwRefIdeal.nD Cert.Ff1DwRefIdeal.τ Cert.Ff1DwRefIdeal.sig) → Buf (Elt Ideal) ℓ) (g' : Dev Cert.Ff1DwRefIdeal.nD → PrngReg), Pre_Ff1DwIdeal m →
    (∀ c : Dev Cert.Ff1DwIdeal.nD,
      m' ((c.tc : Thread Cert.Ff1DwRefIdeal.nD Cert.Ff1DwRefIdeal.τ).loc Cert.Ff1DwRefIdeal.main_arg0) = m ((c.tc : Thread Cert.Ff1DwIdeal.nD Cert.Ff1DwIdeal.τ).loc Cert.Ff1DwIdeal.main_arg0)
      ∧ m' ((c.tc : Thread Cert.Ff1DwRefIdeal.nD Cert.Ff1DwRefIdeal.τ).loc Cert.Ff1DwRefIdeal.main_arg1) = m ((c.tc : Thread Cert.Ff1DwIdeal.nD Cert.Ff1DwIdeal.τ).loc Cert.Ff1DwIdeal.main_arg1)
      ∧ m' ((c.tc : Thread Cert.Ff1DwRefIdeal.nD Cert.Ff1DwRefIdeal.τ).loc Cert.Ff1DwRefIdeal.main_arg2) = m ((c.tc : Thread Cert.Ff1DwIdeal.nD Cert.Ff1DwIdeal.τ).loc Cert.Ff1DwIdeal.main_arg2)) →
    ∃ (v0 : (c : Dev Cert.Ff1DwIdeal.nD) → Buf (Elt Ideal) ((c.tc : Thread Cert.Ff1DwIdeal.nD Cert.Ff1DwIdeal.τ).loc Cert.Ff1DwIdeal.main_v0)),
      θ_run (Cert.Ff1DwIdeal.defs (F := Ideal)) (onTc (τ := Cert.Ff1DwIdeal.τ) (Cert.Ff1DwIdeal.main (F := Ideal))) ⟨m, fun _ => 0, g⟩ (fun r => ∀ c : Dev Cert.Ff1DwIdeal.nD,
          r.2.mem ((c.tc : Thread Cert.Ff1DwIdeal.nD Cert.Ff1DwIdeal.τ).loc Cert.Ff1DwIdeal.main_v0) = v0 c
          ∧ r.2.mem ((c.tc : Thread Cert.Ff1DwIdeal.nD Cert.Ff1DwIdeal.τ).loc Cert.Ff1DwIdeal.main_arg0) = m ((c.tc : Thread Cert.Ff1DwIdeal.nD Cert.Ff1DwIdeal.τ).loc Cert.Ff1DwIdeal.main_arg0)
          ∧ r.2.mem ((c.tc : Thread Cert.Ff1DwIdeal.nD Cert.Ff1DwIdeal.τ).loc Cert.Ff1DwIdeal.main_arg1) = m ((c.tc : Thread Cert.Ff1DwIdeal.nD Cert.Ff1DwIdeal.τ).loc Cert.Ff1DwIdeal.main_arg1)
          ∧ r.2.mem ((c.tc : Thread Cert.Ff1DwIdeal.nD Cert.Ff1DwIdeal.τ).loc Cert.Ff1DwIdeal.main_arg2) = m ((c.tc : Thread Cert.Ff1DwIdeal.nD Cert.Ff1DwIdeal.τ).loc Cert.Ff1DwIdeal.main_arg2))
      ∧ θ_run (Cert.Ff1DwRefIdeal.defs (F := Ideal)) (onTc (τ := Cert.Ff1DwRefIdeal.τ) (Cert.Ff1DwRefIdeal.main (F := Ideal))) ⟨m', fun _ => 0, g'⟩ (fun r => ∀ c : Dev Cert.Ff1DwRefIdeal.nD,
          r.2.mem ((c.tc : Thread Cert.Ff1DwRefIdeal.nD Cert.Ff1DwRefIdeal.τ).loc Cert.Ff1DwRefIdeal.main_v12) = v0 c
          ∧ r.2.mem ((c.tc : Thread Cert.Ff1DwRefIdeal.nD Cert.Ff1DwRefIdeal.τ).loc Cert.Ff1DwRefIdeal.main_arg0) = m' ((c.tc : Thread Cert.Ff1DwRefIdeal.nD Cert.Ff1DwRefIdeal.τ).loc Cert.Ff1DwRefIdeal.main_arg0)
          ∧ r.2.mem ((c.tc : Thread Cert.Ff1DwRefIdeal.nD Cert.Ff1DwRefIdeal.τ).loc Cert.Ff1DwRefIdeal.main_arg1) = m' ((c.tc : Thread Cert.Ff1DwRefIdeal.nD Cert.Ff1DwRefIdeal.τ).loc Cert.Ff1DwRefIdeal.main_arg1)
          ∧ r.2.mem ((c.tc : Thread Cert.Ff1DwRefIdeal.nD Cert.Ff1DwRefIdeal.τ).loc Cert.Ff1DwRefIdeal.main_arg2) = m' ((c.tc : Thread Cert.Ff1DwRefIdeal.nD Cert.Ff1DwRefIdeal.τ).loc Cert.Ff1DwRefIdeal.main_arg2))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v4) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_Ff2Dx_Ff2DxIdeal : Prop :=
  True

def algebraic_Ff2DxIdeal_Ff2DxRefIdeal [hFf2DxIdeal : Cert.Ff2DxIdeal.Facts] [hFf2DxRefIdeal : Cert.Ff2DxRefIdeal.Facts] : Prop :=
  ∀ (m : (ℓ : Loc Cert.Ff2DxIdeal.nD Cert.Ff2DxIdeal.τ Cert.Ff2DxIdeal.sig) → Buf (Elt Ideal) ℓ) (g : Dev Cert.Ff2DxIdeal.nD → PrngReg)
    (m' : (ℓ : Loc Cert.Ff2DxRefIdeal.nD Cert.Ff2DxRefIdeal.τ Cert.Ff2DxRefIdeal.sig) → Buf (Elt Ideal) ℓ) (g' : Dev Cert.Ff2DxRefIdeal.nD → PrngReg), Pre_Ff2DxIdeal m →
    (∀ c : Dev Cert.Ff2DxIdeal.nD,
      m' ((c.tc : Thread Cert.Ff2DxRefIdeal.nD Cert.Ff2DxRefIdeal.τ).loc Cert.Ff2DxRefIdeal.main_arg0) = m ((c.tc : Thread Cert.Ff2DxIdeal.nD Cert.Ff2DxIdeal.τ).loc Cert.Ff2DxIdeal.main_arg0)
      ∧ m' ((c.tc : Thread Cert.Ff2DxRefIdeal.nD Cert.Ff2DxRefIdeal.τ).loc Cert.Ff2DxRefIdeal.main_arg1) = m ((c.tc : Thread Cert.Ff2DxIdeal.nD Cert.Ff2DxIdeal.τ).loc Cert.Ff2DxIdeal.main_arg1)) →
    ∃ (v0 : (c : Dev Cert.Ff2DxIdeal.nD) → Buf (Elt Ideal) ((c.tc : Thread Cert.Ff2DxIdeal.nD Cert.Ff2DxIdeal.τ).loc Cert.Ff2DxIdeal.main_v0)),
      θ_run (Cert.Ff2DxIdeal.defs (F := Ideal)) (onTc (τ := Cert.Ff2DxIdeal.τ) (Cert.Ff2DxIdeal.main (F := Ideal))) ⟨m, fun _ => 0, g⟩ (fun r => ∀ c : Dev Cert.Ff2DxIdeal.nD,
          r.2.mem ((c.tc : Thread Cert.Ff2DxIdeal.nD Cert.Ff2DxIdeal.τ).loc Cert.Ff2DxIdeal.main_v0) = v0 c
          ∧ r.2.mem ((c.tc : Thread Cert.Ff2DxIdeal.nD Cert.Ff2DxIdeal.τ).loc Cert.Ff2DxIdeal.main_arg0) = m ((c.tc : Thread Cert.Ff2DxIdeal.nD Cert.Ff2DxIdeal.τ).loc Cert.Ff2DxIdeal.main_arg0)
          ∧ r.2.mem ((c.tc : Thread Cert.Ff2DxIdeal.nD Cert.Ff2DxIdeal.τ).loc Cert.Ff2DxIdeal.main_arg1) = m ((c.tc : Thread Cert.Ff2DxIdeal.nD Cert.Ff2DxIdeal.τ).loc Cert.Ff2DxIdeal.main_arg1))
      ∧ θ_run (Cert.Ff2DxRefIdeal.defs (F := Ideal)) (onTc (τ := Cert.Ff2DxRefIdeal.τ) (Cert.Ff2DxRefIdeal.main (F := Ideal))) ⟨m', fun _ => 0, g'⟩ (fun r => ∀ c : Dev Cert.Ff2DxRefIdeal.nD,
          r.2.mem ((c.tc : Thread Cert.Ff2DxRefIdeal.nD Cert.Ff2DxRefIdeal.τ).loc Cert.Ff2DxRefIdeal.main_v6) = v0 c
          ∧ r.2.mem ((c.tc : Thread Cert.Ff2DxRefIdeal.nD Cert.Ff2DxRefIdeal.τ).loc Cert.Ff2DxRefIdeal.main_arg0) = m' ((c.tc : Thread Cert.Ff2DxRefIdeal.nD Cert.Ff2DxRefIdeal.τ).loc Cert.Ff2DxRefIdeal.main_arg0)
          ∧ r.2.mem ((c.tc : Thread Cert.Ff2DxRefIdeal.nD Cert.Ff2DxRefIdeal.τ).loc Cert.Ff2DxRefIdeal.main_arg1) = m' ((c.tc : Thread Cert.Ff2DxRefIdeal.nD Cert.Ff2DxRefIdeal.τ).loc Cert.Ff2DxRefIdeal.main_arg1))

def preserves_Ff2Dw_Ff2DwIdeal : Prop :=
  True

def algebraic_Ff2DwIdeal_Ff2DwRefIdeal [hFf2DwIdeal : Cert.Ff2DwIdeal.Facts] [hFf2DwRefIdeal : Cert.Ff2DwRefIdeal.Facts] : Prop :=
  ∀ (m : (ℓ : Loc Cert.Ff2DwIdeal.nD Cert.Ff2DwIdeal.τ Cert.Ff2DwIdeal.sig) → Buf (Elt Ideal) ℓ) (g : Dev Cert.Ff2DwIdeal.nD → PrngReg)
    (m' : (ℓ : Loc Cert.Ff2DwRefIdeal.nD Cert.Ff2DwRefIdeal.τ Cert.Ff2DwRefIdeal.sig) → Buf (Elt Ideal) ℓ) (g' : Dev Cert.Ff2DwRefIdeal.nD → PrngReg), Pre_Ff2DwIdeal m →
    (∀ c : Dev Cert.Ff2DwIdeal.nD,
      m' ((c.tc : Thread Cert.Ff2DwRefIdeal.nD Cert.Ff2DwRefIdeal.τ).loc Cert.Ff2DwRefIdeal.main_arg0) = m ((c.tc : Thread Cert.Ff2DwIdeal.nD Cert.Ff2DwIdeal.τ).loc Cert.Ff2DwIdeal.main_arg0)
      ∧ m' ((c.tc : Thread Cert.Ff2DwRefIdeal.nD Cert.Ff2DwRefIdeal.τ).loc Cert.Ff2DwRefIdeal.main_arg1) = m ((c.tc : Thread Cert.Ff2DwIdeal.nD Cert.Ff2DwIdeal.τ).loc Cert.Ff2DwIdeal.main_arg1)
      ∧ m' ((c.tc : Thread Cert.Ff2DwRefIdeal.nD Cert.Ff2DwRefIdeal.τ).loc Cert.Ff2DwRefIdeal.main_arg2) = m ((c.tc : Thread Cert.Ff2DwIdeal.nD Cert.Ff2DwIdeal.τ).loc Cert.Ff2DwIdeal.main_arg2)) →
    ∃ (v0 : (c : Dev Cert.Ff2DwIdeal.nD) → Buf (Elt Ideal) ((c.tc : Thread Cert.Ff2DwIdeal.nD Cert.Ff2DwIdeal.τ).loc Cert.Ff2DwIdeal.main_v0)),
      θ_run (Cert.Ff2DwIdeal.defs (F := Ideal)) (onTc (τ := Cert.Ff2DwIdeal.τ) (Cert.Ff2DwIdeal.main (F := Ideal))) ⟨m, fun _ => 0, g⟩ (fun r => ∀ c : Dev Cert.Ff2DwIdeal.nD,
          r.2.mem ((c.tc : Thread Cert.Ff2DwIdeal.nD Cert.Ff2DwIdeal.τ).loc Cert.Ff2DwIdeal.main_v0) = v0 c
          ∧ r.2.mem ((c.tc : Thread Cert.Ff2DwIdeal.nD Cert.Ff2DwIdeal.τ).loc Cert.Ff2DwIdeal.main_arg0) = m ((c.tc : Thread Cert.Ff2DwIdeal.nD Cert.Ff2DwIdeal.τ).loc Cert.Ff2DwIdeal.main_arg0)
          ∧ r.2.mem ((c.tc : Thread Cert.Ff2DwIdeal.nD Cert.Ff2DwIdeal.τ).loc Cert.Ff2DwIdeal.main_arg1) = m ((c.tc : Thread Cert.Ff2DwIdeal.nD Cert.Ff2DwIdeal.τ).loc Cert.Ff2DwIdeal.main_arg1)
          ∧ r.2.mem ((c.tc : Thread Cert.Ff2DwIdeal.nD Cert.Ff2DwIdeal.τ).loc Cert.Ff2DwIdeal.main_arg2) = m ((c.tc : Thread Cert.Ff2DwIdeal.nD Cert.Ff2DwIdeal.τ).loc Cert.Ff2DwIdeal.main_arg2))
      ∧ θ_run (Cert.Ff2DwRefIdeal.defs (F := Ideal)) (onTc (τ := Cert.Ff2DwRefIdeal.τ) (Cert.Ff2DwRefIdeal.main (F := Ideal))) ⟨m', fun _ => 0, g'⟩ (fun r => ∀ c : Dev Cert.Ff2DwRefIdeal.nD,
          r.2.mem ((c.tc : Thread Cert.Ff2DwRefIdeal.nD Cert.Ff2DwRefIdeal.τ).loc Cert.Ff2DwRefIdeal.main_v11) = v0 c
          ∧ r.2.mem ((c.tc : Thread Cert.Ff2DwRefIdeal.nD Cert.Ff2DwRefIdeal.τ).loc Cert.Ff2DwRefIdeal.main_arg0) = m' ((c.tc : Thread Cert.Ff2DwRefIdeal.nD Cert.Ff2DwRefIdeal.τ).loc Cert.Ff2DwRefIdeal.main_arg0)
          ∧ r.2.mem ((c.tc : Thread Cert.Ff2DwRefIdeal.nD Cert.Ff2DwRefIdeal.τ).loc Cert.Ff2DwRefIdeal.main_arg1) = m' ((c.tc : Thread Cert.Ff2DwRefIdeal.nD Cert.Ff2DwRefIdeal.τ).loc Cert.Ff2DwRefIdeal.main_arg1)
          ∧ r.2.mem ((c.tc : Thread Cert.Ff2DwRefIdeal.nD Cert.Ff2DwRefIdeal.τ).loc Cert.Ff2DwRefIdeal.main_arg2) = m' ((c.tc : Thread Cert.Ff2DwRefIdeal.nD Cert.Ff2DwRefIdeal.τ).loc Cert.Ff2DwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v4) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v6) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v11) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)) →
    ∃ (v0 : (c : Dev Cert.AttnOutIdeal.nD) → Buf (Elt Ideal) ((c.tc : Thread Cert.AttnOutIdeal.nD Cert.AttnOutIdeal.τ).loc Cert.AttnOutIdeal.main_v0)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v0) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v6) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1))

def preserves_AttnOutDx_AttnOutDxIdeal : Prop :=
  True

def algebraic_AttnOutDxIdeal_AttnOutDxRefIdeal [hAttnOutDxIdeal : Cert.AttnOutDxIdeal.Facts] [hAttnOutDxRefIdeal : Cert.AttnOutDxRefIdeal.Facts] : Prop :=
  ∀ (m : (ℓ : Loc Cert.AttnOutDxIdeal.nD Cert.AttnOutDxIdeal.τ Cert.AttnOutDxIdeal.sig) → Buf (Elt Ideal) ℓ) (g : Dev Cert.AttnOutDxIdeal.nD → PrngReg)
    (m' : (ℓ : Loc Cert.AttnOutDxRefIdeal.nD Cert.AttnOutDxRefIdeal.τ Cert.AttnOutDxRefIdeal.sig) → Buf (Elt Ideal) ℓ) (g' : Dev Cert.AttnOutDxRefIdeal.nD → PrngReg), Pre_AttnOutDxIdeal m →
    (∀ c : Dev Cert.AttnOutDxIdeal.nD,
      m' ((c.tc : Thread Cert.AttnOutDxRefIdeal.nD Cert.AttnOutDxRefIdeal.τ).loc Cert.AttnOutDxRefIdeal.main_arg0) = m ((c.tc : Thread Cert.AttnOutDxIdeal.nD Cert.AttnOutDxIdeal.τ).loc Cert.AttnOutDxIdeal.main_arg0)
      ∧ m' ((c.tc : Thread Cert.AttnOutDxRefIdeal.nD Cert.AttnOutDxRefIdeal.τ).loc Cert.AttnOutDxRefIdeal.main_arg1) = m ((c.tc : Thread Cert.AttnOutDxIdeal.nD Cert.AttnOutDxIdeal.τ).loc Cert.AttnOutDxIdeal.main_arg1)) →
    ∃ (v0 : (c : Dev Cert.AttnOutDxIdeal.nD) → Buf (Elt Ideal) ((c.tc : Thread Cert.AttnOutDxIdeal.nD Cert.AttnOutDxIdeal.τ).loc Cert.AttnOutDxIdeal.main_v0)),
      θ_run (Cert.AttnOutDxIdeal.defs (F := Ideal)) (onTc (τ := Cert.AttnOutDxIdeal.τ) (Cert.AttnOutDxIdeal.main (F := Ideal))) ⟨m, fun _ => 0, g⟩ (fun r => ∀ c : Dev Cert.AttnOutDxIdeal.nD,
          r.2.mem ((c.tc : Thread Cert.AttnOutDxIdeal.nD Cert.AttnOutDxIdeal.τ).loc Cert.AttnOutDxIdeal.main_v0) = v0 c
          ∧ r.2.mem ((c.tc : Thread Cert.AttnOutDxIdeal.nD Cert.AttnOutDxIdeal.τ).loc Cert.AttnOutDxIdeal.main_arg0) = m ((c.tc : Thread Cert.AttnOutDxIdeal.nD Cert.AttnOutDxIdeal.τ).loc Cert.AttnOutDxIdeal.main_arg0)
          ∧ r.2.mem ((c.tc : Thread Cert.AttnOutDxIdeal.nD Cert.AttnOutDxIdeal.τ).loc Cert.AttnOutDxIdeal.main_arg1) = m ((c.tc : Thread Cert.AttnOutDxIdeal.nD Cert.AttnOutDxIdeal.τ).loc Cert.AttnOutDxIdeal.main_arg1))
      ∧ θ_run (Cert.AttnOutDxRefIdeal.defs (F := Ideal)) (onTc (τ := Cert.AttnOutDxRefIdeal.τ) (Cert.AttnOutDxRefIdeal.main (F := Ideal))) ⟨m', fun _ => 0, g'⟩ (fun r => ∀ c : Dev Cert.AttnOutDxRefIdeal.nD,
          r.2.mem ((c.tc : Thread Cert.AttnOutDxRefIdeal.nD Cert.AttnOutDxRefIdeal.τ).loc Cert.AttnOutDxRefIdeal.main_v8) = v0 c
          ∧ r.2.mem ((c.tc : Thread Cert.AttnOutDxRefIdeal.nD Cert.AttnOutDxRefIdeal.τ).loc Cert.AttnOutDxRefIdeal.main_arg0) = m' ((c.tc : Thread Cert.AttnOutDxRefIdeal.nD Cert.AttnOutDxRefIdeal.τ).loc Cert.AttnOutDxRefIdeal.main_arg0)
          ∧ r.2.mem ((c.tc : Thread Cert.AttnOutDxRefIdeal.nD Cert.AttnOutDxRefIdeal.τ).loc Cert.AttnOutDxRefIdeal.main_arg1) = m' ((c.tc : Thread Cert.AttnOutDxRefIdeal.nD Cert.AttnOutDxRefIdeal.τ).loc Cert.AttnOutDxRefIdeal.main_arg1))

def preserves_AttnOutDw_AttnOutDwIdeal : Prop :=
  True

def algebraic_AttnOutDwIdeal_AttnOutDwRefIdeal [hAttnOutDwIdeal : Cert.AttnOutDwIdeal.Facts] [hAttnOutDwRefIdeal : Cert.AttnOutDwRefIdeal.Facts] : Prop :=
  ∀ (m : (ℓ : Loc Cert.AttnOutDwIdeal.nD Cert.AttnOutDwIdeal.τ Cert.AttnOutDwIdeal.sig) → Buf (Elt Ideal) ℓ) (g : Dev Cert.AttnOutDwIdeal.nD → PrngReg)
    (m' : (ℓ : Loc Cert.AttnOutDwRefIdeal.nD Cert.AttnOutDwRefIdeal.τ Cert.AttnOutDwRefIdeal.sig) → Buf (Elt Ideal) ℓ) (g' : Dev Cert.AttnOutDwRefIdeal.nD → PrngReg), Pre_AttnOutDwIdeal m →
    (∀ c : Dev Cert.AttnOutDwIdeal.nD,
      m' ((c.tc : Thread Cert.AttnOutDwRefIdeal.nD Cert.AttnOutDwRefIdeal.τ).loc Cert.AttnOutDwRefIdeal.main_arg0) = m ((c.tc : Thread Cert.AttnOutDwIdeal.nD Cert.AttnOutDwIdeal.τ).loc Cert.AttnOutDwIdeal.main_arg0)
      ∧ m' ((c.tc : Thread Cert.AttnOutDwRefIdeal.nD Cert.AttnOutDwRefIdeal.τ).loc Cert.AttnOutDwRefIdeal.main_arg1) = m ((c.tc : Thread Cert.AttnOutDwIdeal.nD Cert.AttnOutDwIdeal.τ).loc Cert.AttnOutDwIdeal.main_arg1)
      ∧ m' ((c.tc : Thread Cert.AttnOutDwRefIdeal.nD Cert.AttnOutDwRefIdeal.τ).loc Cert.AttnOutDwRefIdeal.main_arg2) = m ((c.tc : Thread Cert.AttnOutDwIdeal.nD Cert.AttnOutDwIdeal.τ).loc Cert.AttnOutDwIdeal.main_arg2)) →
    ∃ (v0 : (c : Dev Cert.AttnOutDwIdeal.nD) → Buf (Elt Ideal) ((c.tc : Thread Cert.AttnOutDwIdeal.nD Cert.AttnOutDwIdeal.τ).loc Cert.AttnOutDwIdeal.main_v0)),
      θ_run (Cert.AttnOutDwIdeal.defs (F := Ideal)) (onTc (τ := Cert.AttnOutDwIdeal.τ) (Cert.AttnOutDwIdeal.main (F := Ideal))) ⟨m, fun _ => 0, g⟩ (fun r => ∀ c : Dev Cert.AttnOutDwIdeal.nD,
          r.2.mem ((c.tc : Thread Cert.AttnOutDwIdeal.nD Cert.AttnOutDwIdeal.τ).loc Cert.AttnOutDwIdeal.main_v0) = v0 c
          ∧ r.2.mem ((c.tc : Thread Cert.AttnOutDwIdeal.nD Cert.AttnOutDwIdeal.τ).loc Cert.AttnOutDwIdeal.main_arg0) = m ((c.tc : Thread Cert.AttnOutDwIdeal.nD Cert.AttnOutDwIdeal.τ).loc Cert.AttnOutDwIdeal.main_arg0)
          ∧ r.2.mem ((c.tc : Thread Cert.AttnOutDwIdeal.nD Cert.AttnOutDwIdeal.τ).loc Cert.AttnOutDwIdeal.main_arg1) = m ((c.tc : Thread Cert.AttnOutDwIdeal.nD Cert.AttnOutDwIdeal.τ).loc Cert.AttnOutDwIdeal.main_arg1)
          ∧ r.2.mem ((c.tc : Thread Cert.AttnOutDwIdeal.nD Cert.AttnOutDwIdeal.τ).loc Cert.AttnOutDwIdeal.main_arg2) = m ((c.tc : Thread Cert.AttnOutDwIdeal.nD Cert.AttnOutDwIdeal.τ).loc Cert.AttnOutDwIdeal.main_arg2))
      ∧ θ_run (Cert.AttnOutDwRefIdeal.defs (F := Ideal)) (onTc (τ := Cert.AttnOutDwRefIdeal.τ) (Cert.AttnOutDwRefIdeal.main (F := Ideal))) ⟨m', fun _ => 0, g'⟩ (fun r => ∀ c : Dev Cert.AttnOutDwRefIdeal.nD,
          r.2.mem ((c.tc : Thread Cert.AttnOutDwRefIdeal.nD Cert.AttnOutDwRefIdeal.τ).loc Cert.AttnOutDwRefIdeal.main_v12) = v0 c
          ∧ r.2.mem ((c.tc : Thread Cert.AttnOutDwRefIdeal.nD Cert.AttnOutDwRefIdeal.τ).loc Cert.AttnOutDwRefIdeal.main_arg0) = m' ((c.tc : Thread Cert.AttnOutDwRefIdeal.nD Cert.AttnOutDwRefIdeal.τ).loc Cert.AttnOutDwRefIdeal.main_arg0)
          ∧ r.2.mem ((c.tc : Thread Cert.AttnOutDwRefIdeal.nD Cert.AttnOutDwRefIdeal.τ).loc Cert.AttnOutDwRefIdeal.main_arg1) = m' ((c.tc : Thread Cert.AttnOutDwRefIdeal.nD Cert.AttnOutDwRefIdeal.τ).loc Cert.AttnOutDwRefIdeal.main_arg1)
          ∧ r.2.mem ((c.tc : Thread Cert.AttnOutDwRefIdeal.nD Cert.AttnOutDwRefIdeal.τ).loc Cert.AttnOutDwRefIdeal.main_arg2) = m' ((c.tc : Thread Cert.AttnOutDwRefIdeal.nD Cert.AttnOutDwRefIdeal.τ).loc Cert.AttnOutDwRefIdeal.main_arg2))

def preserves_AdamAda_AdamAdaIdeal : Prop :=
  IdealRules.named_const.Statement Cert.AdamAdaIdeal.κ "bias1" .f32 0x3FC48605#32 ((8388608 / 5463681 : ℝ) : EReal)
  ∧ IdealRules.named_const.Statement Cert.AdamAdaIdeal.κ "bias2" .f32 0x42C8E6D3#32 ((268435456 / 2672307 : ℝ) : EReal)

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)) (v3 : (c : Dev Cert.AdamAdaIdeal.nD) → Buf (Elt Ideal) ((c.tc : Thread Cert.AdamAdaIdeal.nD Cert.AdamAdaIdeal.τ).loc Cert.AdamAdaIdeal.main_v4_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_v4_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_v27) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamConv_AdamConvIdeal : Prop :=
  IdealRules.named_const.Statement Cert.AdamConvIdeal.κ "bias1" .f32 0x3FC48605#32 ((8388608 / 5463681 : ℝ) : EReal)
  ∧ IdealRules.named_const.Statement Cert.AdamConvIdeal.κ "bias2" .f32 0x42C8E6D3#32 ((268435456 / 2672307 : ℝ) : EReal)

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)
      ∧ m' ((c.tc : Thread Cert.AdamConvRefIdeal.nD Cert.AdamConvRefIdeal.τ).loc Cert.AdamConvRefIdeal.main_arg4) = m ((c.tc : Thread Cert.AdamConvIdeal.nD Cert.AdamConvIdeal.τ).loc Cert.AdamConvIdeal.main_arg4)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)) (v3 : (c : Dev Cert.AdamConvIdeal.nD) → Buf (Elt Ideal) ((c.tc : Thread Cert.AdamConvIdeal.nD Cert.AdamConvIdeal.τ).loc Cert.AdamConvIdeal.main_v4_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_v4_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3)
          ∧ r.2.mem ((c.tc : Thread Cert.AdamConvIdeal.nD Cert.AdamConvIdeal.τ).loc Cert.AdamConvIdeal.main_arg4) = m ((c.tc : Thread Cert.AdamConvIdeal.nD Cert.AdamConvIdeal.τ).loc Cert.AdamConvIdeal.main_arg4))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_v27) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3)
          ∧ r.2.mem ((c.tc : Thread Cert.AdamConvRefIdeal.nD Cert.AdamConvRefIdeal.τ).loc Cert.AdamConvRefIdeal.main_arg4) = m' ((c.tc : Thread Cert.AdamConvRefIdeal.nD Cert.AdamConvRefIdeal.τ).loc Cert.AdamConvRefIdeal.main_arg4))

def preserves_AdamSmall_AdamSmallIdeal : Prop :=
  IdealRules.named_const.Statement Cert.AdamSmallIdeal.κ "bias1" .f32 0x3FC48605#32 ((8388608 / 5463681 : ℝ) : EReal)
  ∧ IdealRules.named_const.Statement Cert.AdamSmallIdeal.κ "bias2" .f32 0x42C8E6D3#32 ((268435456 / 2672307 : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_arg1) = v0 c
          ∧ r.2.mem ((c.tc : Thread Cert.AdamSmallRefIdeal.nD Cert.AdamSmallRefIdeal.τ).loc Cert.AdamSmallRefIdeal.main_v23) = v1 c
          ∧ r.2.mem ((c.tc : Thread Cert.AdamSmallRefIdeal.nD Cert.AdamSmallRefIdeal.τ).loc Cert.AdamSmallRefIdeal.main_v4) = v2 c
          ∧ r.2.mem ((c.tc : Thread Cert.AdamSmallRefIdeal.nD Cert.AdamSmallRefIdeal.τ).loc Cert.AdamSmallRefIdeal.main_v10) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4))

def preserves_AdamFf2_AdamFf2Ideal : Prop :=
  IdealRules.named_const.Statement Cert.AdamFf2Ideal.κ "bias1" .f32 0x3FC48605#32 ((8388608 / 5463681 : ℝ) : EReal)
  ∧ IdealRules.named_const.Statement Cert.AdamFf2Ideal.κ "bias2" .f32 0x42C8E6D3#32 ((268435456 / 2672307 : ℝ) : EReal)

def algebraic_AdamFf2Ideal_AdamFf2RefIdeal [hAdamFf2Ideal : Cert.AdamFf2Ideal.Facts] [hAdamFf2RefIdeal : Cert.AdamFf2RefIdeal.Facts] : Prop :=
  ∀ (m : (ℓ : Loc Cert.AdamFf2Ideal.nD Cert.AdamFf2Ideal.τ Cert.AdamFf2Ideal.sig) → Buf (Elt Ideal) ℓ) (g : Dev Cert.AdamFf2Ideal.nD → PrngReg)
    (m' : (ℓ : Loc Cert.AdamFf2RefIdeal.nD Cert.AdamFf2RefIdeal.τ Cert.AdamFf2RefIdeal.sig) → Buf (Elt Ideal) ℓ) (g' : Dev Cert.AdamFf2RefIdeal.nD → PrngReg), Pre_AdamFf2Ideal m →
    (∀ c : Dev Cert.AdamFf2Ideal.nD,
      m' ((c.tc : Thread Cert.AdamFf2RefIdeal.nD Cert.AdamFf2RefIdeal.τ).loc Cert.AdamFf2RefIdeal.main_arg0) = m ((c.tc : Thread Cert.AdamFf2Ideal.nD Cert.AdamFf2Ideal.τ).loc Cert.AdamFf2Ideal.main_arg0)
      ∧ m' ((c.tc : Thread Cert.AdamFf2RefIdeal.nD Cert.AdamFf2RefIdeal.τ).loc Cert.AdamFf2RefIdeal.main_arg1) = m ((c.tc : Thread Cert.AdamFf2Ideal.nD Cert.AdamFf2Ideal.τ).loc Cert.AdamFf2Ideal.main_arg1)
      ∧ m' ((c.tc : Thread Cert.AdamFf2RefIdeal.nD Cert.AdamFf2RefIdeal.τ).loc Cert.AdamFf2RefIdeal.main_arg2) = m ((c.tc : Thread Cert.AdamFf2Ideal.nD Cert.AdamFf2Ideal.τ).loc Cert.AdamFf2Ideal.main_arg2)
      ∧ m' ((c.tc : Thread Cert.AdamFf2RefIdeal.nD Cert.AdamFf2RefIdeal.τ).loc Cert.AdamFf2RefIdeal.main_arg3) = m ((c.tc : Thread Cert.AdamFf2Ideal.nD Cert.AdamFf2Ideal.τ).loc Cert.AdamFf2Ideal.main_arg3)
      ∧ m' ((c.tc : Thread Cert.AdamFf2RefIdeal.nD Cert.AdamFf2RefIdeal.τ).loc Cert.AdamFf2RefIdeal.main_arg4) = m ((c.tc : Thread Cert.AdamFf2Ideal.nD Cert.AdamFf2Ideal.τ).loc Cert.AdamFf2Ideal.main_arg4)
      ∧ m' ((c.tc : Thread Cert.AdamFf2RefIdeal.nD Cert.AdamFf2RefIdeal.τ).loc Cert.AdamFf2RefIdeal.main_arg5) = m ((c.tc : Thread Cert.AdamFf2Ideal.nD Cert.AdamFf2Ideal.τ).loc Cert.AdamFf2Ideal.main_arg5)
      ∧ m' ((c.tc : Thread Cert.AdamFf2RefIdeal.nD Cert.AdamFf2RefIdeal.τ).loc Cert.AdamFf2RefIdeal.main_arg6) = m ((c.tc : Thread Cert.AdamFf2Ideal.nD Cert.AdamFf2Ideal.τ).loc Cert.AdamFf2Ideal.main_arg6)) →
    ∃ (v0 : (c : Dev Cert.AdamFf2Ideal.nD) → Buf (Elt Ideal) ((c.tc : Thread Cert.AdamFf2Ideal.nD Cert.AdamFf2Ideal.τ).loc Cert.AdamFf2Ideal.main_v9_0)) (v1 : (c : Dev Cert.AdamFf2Ideal.nD) → Buf (Elt Ideal) ((c.tc : Thread Cert.AdamFf2Ideal.nD Cert.AdamFf2Ideal.τ).loc Cert.AdamFf2Ideal.main_v9_1)) (v2 : (c : Dev Cert.AdamFf2Ideal.nD) → Buf (Elt Ideal) ((c.tc : Thread Cert.AdamFf2Ideal.nD Cert.AdamFf2Ideal.τ).loc Cert.AdamFf2Ideal.main_v9_2)) (v3 : (c : Dev Cert.AdamFf2Ideal.nD) → Buf (Elt Ideal) ((c.tc : Thread Cert.AdamFf2Ideal.nD Cert.AdamFf2Ideal.τ).loc Cert.AdamFf2Ideal.main_v9_3)),
      θ_run (Cert.AdamFf2Ideal.defs (F := Ideal)) (onTc (τ := Cert.AdamFf2Ideal.τ) (Cert.AdamFf2Ideal.main (F := Ideal))) ⟨m, fun _ => 0, g⟩ (fun r => ∀ c : Dev Cert.AdamFf2Ideal.nD,
          r.2.mem ((c.tc : Thread Cert.AdamFf2Ideal.nD Cert.AdamFf2Ideal.τ).loc Cert.AdamFf2Ideal.main_v9_0) = v0 c
          ∧ r.2.mem ((c.tc : Thread Cert.AdamFf2Ideal.nD Cert.AdamFf2Ideal.τ).loc Cert.AdamFf2Ideal.main_v9_1) = v1 c
          ∧ r.2.mem ((c.tc : Thread Cert.AdamFf2Ideal.nD Cert.AdamFf2Ideal.τ).loc Cert.AdamFf2Ideal.main_v9_2) = v2 c
          ∧ r.2.mem ((c.tc : Thread Cert.AdamFf2Ideal.nD Cert.AdamFf2Ideal.τ).loc Cert.AdamFf2Ideal.main_v9_3) = v3 c
          ∧ r.2.mem ((c.tc : Thread Cert.AdamFf2Ideal.nD Cert.AdamFf2Ideal.τ).loc Cert.AdamFf2Ideal.main_arg0) = m ((c.tc : Thread Cert.AdamFf2Ideal.nD Cert.AdamFf2Ideal.τ).loc Cert.AdamFf2Ideal.main_arg0)
          ∧ r.2.mem ((c.tc : Thread Cert.AdamFf2Ideal.nD Cert.AdamFf2Ideal.τ).loc Cert.AdamFf2Ideal.main_arg1) = m ((c.tc : Thread Cert.AdamFf2Ideal.nD Cert.AdamFf2Ideal.τ).loc Cert.AdamFf2Ideal.main_arg1)
          ∧ r.2.mem ((c.tc : Thread Cert.AdamFf2Ideal.nD Cert.AdamFf2Ideal.τ).loc Cert.AdamFf2Ideal.main_arg2) = m ((c.tc : Thread Cert.AdamFf2Ideal.nD Cert.AdamFf2Ideal.τ).loc Cert.AdamFf2Ideal.main_arg2)
          ∧ r.2.mem ((c.tc : Thread Cert.AdamFf2Ideal.nD Cert.AdamFf2Ideal.τ).loc Cert.AdamFf2Ideal.main_arg3) = m ((c.tc : Thread Cert.AdamFf2Ideal.nD Cert.AdamFf2Ideal.τ).loc Cert.AdamFf2Ideal.main_arg3)
          ∧ r.2.mem ((c.tc : Thread Cert.AdamFf2Ideal.nD Cert.AdamFf2Ideal.τ).loc Cert.AdamFf2Ideal.main_arg4) = m ((c.tc : Thread Cert.AdamFf2Ideal.nD Cert.AdamFf2Ideal.τ).loc Cert.AdamFf2Ideal.main_arg4)
          ∧ r.2.mem ((c.tc : Thread Cert.AdamFf2Ideal.nD Cert.AdamFf2Ideal.τ).loc Cert.AdamFf2Ideal.main_arg5) = m ((c.tc : Thread Cert.AdamFf2Ideal.nD Cert.AdamFf2Ideal.τ).loc Cert.AdamFf2Ideal.main_arg5)
          ∧ r.2.mem ((c.tc : Thread Cert.AdamFf2Ideal.nD Cert.AdamFf2Ideal.τ).loc Cert.AdamFf2Ideal.main_arg6) = m ((c.tc : Thread Cert.AdamFf2Ideal.nD Cert.AdamFf2Ideal.τ).loc Cert.AdamFf2Ideal.main_arg6))
      ∧ θ_run (Cert.AdamFf2RefIdeal.defs (F := Ideal)) (onTc (τ := Cert.AdamFf2RefIdeal.τ) (Cert.AdamFf2RefIdeal.main (F := Ideal))) ⟨m', fun _ => 0, g'⟩ (fun r => ∀ c : Dev Cert.AdamFf2RefIdeal.nD,
          r.2.mem ((c.tc : Thread Cert.AdamFf2RefIdeal.nD Cert.AdamFf2RefIdeal.τ).loc Cert.AdamFf2RefIdeal.main_v25) = v0 c
          ∧ r.2.mem ((c.tc : Thread Cert.AdamFf2RefIdeal.nD Cert.AdamFf2RefIdeal.τ).loc Cert.AdamFf2RefIdeal.main_v26) = v1 c
          ∧ r.2.mem ((c.tc : Thread Cert.AdamFf2RefIdeal.nD Cert.AdamFf2RefIdeal.τ).loc Cert.AdamFf2RefIdeal.main_v27) = v2 c
          ∧ r.2.mem ((c.tc : Thread Cert.AdamFf2RefIdeal.nD Cert.AdamFf2RefIdeal.τ).loc Cert.AdamFf2RefIdeal.main_v28) = v3 c
          ∧ r.2.mem ((c.tc : Thread Cert.AdamFf2RefIdeal.nD Cert.AdamFf2RefIdeal.τ).loc Cert.AdamFf2RefIdeal.main_arg0) = m' ((c.tc : Thread Cert.AdamFf2RefIdeal.nD Cert.AdamFf2RefIdeal.τ).loc Cert.AdamFf2RefIdeal.main_arg0)
          ∧ r.2.mem ((c.tc : Thread Cert.AdamFf2RefIdeal.nD Cert.AdamFf2RefIdeal.τ).loc Cert.AdamFf2RefIdeal.main_arg1) = m' ((c.tc : Thread Cert.AdamFf2RefIdeal.nD Cert.AdamFf2RefIdeal.τ).loc Cert.AdamFf2RefIdeal.main_arg1)
          ∧ r.2.mem ((c.tc : Thread Cert.AdamFf2RefIdeal.nD Cert.AdamFf2RefIdeal.τ).loc Cert.AdamFf2RefIdeal.main_arg2) = m' ((c.tc : Thread Cert.AdamFf2RefIdeal.nD Cert.AdamFf2RefIdeal.τ).loc Cert.AdamFf2RefIdeal.main_arg2)
          ∧ r.2.mem ((c.tc : Thread Cert.AdamFf2RefIdeal.nD Cert.AdamFf2RefIdeal.τ).loc Cert.AdamFf2RefIdeal.main_arg3) = m' ((c.tc : Thread Cert.AdamFf2RefIdeal.nD Cert.AdamFf2RefIdeal.τ).loc Cert.AdamFf2RefIdeal.main_arg3)
          ∧ r.2.mem ((c.tc : Thread Cert.AdamFf2RefIdeal.nD Cert.AdamFf2RefIdeal.τ).loc Cert.AdamFf2RefIdeal.main_arg4) = m' ((c.tc : Thread Cert.AdamFf2RefIdeal.nD Cert.AdamFf2RefIdeal.τ).loc Cert.AdamFf2RefIdeal.main_arg4)
          ∧ r.2.mem ((c.tc : Thread Cert.AdamFf2RefIdeal.nD Cert.AdamFf2RefIdeal.τ).loc Cert.AdamFf2RefIdeal.main_arg5) = m' ((c.tc : Thread Cert.AdamFf2RefIdeal.nD Cert.AdamFf2RefIdeal.τ).loc Cert.AdamFf2RefIdeal.main_arg5)
          ∧ r.2.mem ((c.tc : Thread Cert.AdamFf2RefIdeal.nD Cert.AdamFf2RefIdeal.τ).loc Cert.AdamFf2RefIdeal.main_arg6) = m' ((c.tc : Thread Cert.AdamFf2RefIdeal.nD Cert.AdamFf2RefIdeal.τ).loc Cert.AdamFf2RefIdeal.main_arg6))

def preserves_AdamIn_AdamInIdeal : Prop :=
  IdealRules.named_const.Statement Cert.AdamInIdeal.κ "bias1" .f32 0x3FC48605#32 ((8388608 / 5463681 : ℝ) : EReal)
  ∧ IdealRules.named_const.Statement Cert.AdamInIdeal.κ "bias2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v5)) (v1 : (c : Dev Cert.AdamInIdeal.nD) → Buf (Elt Ideal) ((c.tc : Thread Cert.AdamInIdeal.nD Cert.AdamInIdeal.τ).loc Cert.AdamInIdeal.main_v6)) (v2 : (c : Dev Cert.AdamInIdeal.nD) → Buf (Elt Ideal) ((c.tc : Thread Cert.AdamInIdeal.nD Cert.AdamInIdeal.τ).loc Cert.AdamInIdeal.main_v7)) (v3 : (c : Dev Cert.AdamInIdeal.nD) → Buf (Elt Ideal) ((c.tc : Thread Cert.AdamInIdeal.nD Cert.AdamInIdeal.τ).loc Cert.AdamInIdeal.main_v8)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v5) = v0 c
          ∧ r.2.mem ((c.tc : Thread Cert.AdamInIdeal.nD Cert.AdamInIdeal.τ).loc Cert.AdamInIdeal.main_v6) = v1 c
          ∧ r.2.mem ((c.tc : Thread Cert.AdamInIdeal.nD Cert.AdamInIdeal.τ).loc Cert.AdamInIdeal.main_v7) = v2 c
          ∧ r.2.mem ((c.tc : Thread Cert.AdamInIdeal.nD Cert.AdamInIdeal.τ).loc Cert.AdamInIdeal.main_v8) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hInProjDx : Cert.InProjDx.Facts) (hInProjDxIdeal : Cert.InProjDxIdeal.Facts) (hInProjDxRefIdeal : Cert.InProjDxRefIdeal.Facts) (hInProjDw : Cert.InProjDw.Facts) (hInProjDwIdeal : Cert.InProjDwIdeal.Facts) (hInProjDwRefIdeal : Cert.InProjDwRefIdeal.Facts) (hFf1 : Cert.Ff1.Facts) (hFf1Ideal : Cert.Ff1Ideal.Facts) (hFf1RefIdeal : Cert.Ff1RefIdeal.Facts) (hFf1Dx : Cert.Ff1Dx.Facts) (hFf1DxIdeal : Cert.Ff1DxIdeal.Facts) (hFf1DxRefIdeal : Cert.Ff1DxRefIdeal.Facts) (hFf1Dw : Cert.Ff1Dw.Facts) (hFf1DwIdeal : Cert.Ff1DwIdeal.Facts) (hFf1DwRefIdeal : Cert.Ff1DwRefIdeal.Facts) (hFf2 : Cert.Ff2.Facts) (hFf2Ideal : Cert.Ff2Ideal.Facts) (hFf2RefIdeal : Cert.Ff2RefIdeal.Facts) (hFf2Dx : Cert.Ff2Dx.Facts) (hFf2DxIdeal : Cert.Ff2DxIdeal.Facts) (hFf2DxRefIdeal : Cert.Ff2DxRefIdeal.Facts) (hFf2Dw : Cert.Ff2Dw.Facts) (hFf2DwIdeal : Cert.Ff2DwIdeal.Facts) (hFf2DwRefIdeal : Cert.Ff2DwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hAttnOut : Cert.AttnOut.Facts) (hAttnOutIdeal : Cert.AttnOutIdeal.Facts) (hAttnOutRefIdeal : Cert.AttnOutRefIdeal.Facts) (hAttnOutDx : Cert.AttnOutDx.Facts) (hAttnOutDxIdeal : Cert.AttnOutDxIdeal.Facts) (hAttnOutDxRefIdeal : Cert.AttnOutDxRefIdeal.Facts) (hAttnOutDw : Cert.AttnOutDw.Facts) (hAttnOutDwIdeal : Cert.AttnOutDwIdeal.Facts) (hAttnOutDwRefIdeal : Cert.AttnOutDwRefIdeal.Facts) (hAdamAda : Cert.AdamAda.Facts) (hAdamAdaIdeal : Cert.AdamAdaIdeal.Facts) (hAdamAdaRefIdeal : Cert.AdamAdaRefIdeal.Facts) (hAdamConv : Cert.AdamConv.Facts) (hAdamConvIdeal : Cert.AdamConvIdeal.Facts) (hAdamConvRefIdeal : Cert.AdamConvRefIdeal.Facts) (hAdamSmall : Cert.AdamSmall.Facts) (hAdamSmallIdeal : Cert.AdamSmallIdeal.Facts) (hAdamSmallRefIdeal : Cert.AdamSmallRefIdeal.Facts) (hAdamFf2 : Cert.AdamFf2.Facts) (hAdamFf2Ideal : Cert.AdamFf2Ideal.Facts) (hAdamFf2RefIdeal : Cert.AdamFf2RefIdeal.Facts) (hAdamIn : Cert.AdamIn.Facts) (hAdamInIdeal : Cert.AdamInIdeal.Facts) (hAdamInRefIdeal : Cert.AdamInRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_InProjDw (hInProjDw := hInProjDw)
    ∧ quiescent_InProjDwIdeal (hInProjDwIdeal := hInProjDwIdeal)
    ∧ quiescent_InProjDwRefIdeal (hInProjDwRefIdeal := hInProjDwRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff1Dx (hFf1Dx := hFf1Dx)
    ∧ quiescent_Ff1DxIdeal (hFf1DxIdeal := hFf1DxIdeal)
    ∧ quiescent_Ff1DxRefIdeal (hFf1DxRefIdeal := hFf1DxRefIdeal)
    ∧ quiescent_Ff1Dw (hFf1Dw := hFf1Dw)
    ∧ quiescent_Ff1DwIdeal (hFf1DwIdeal := hFf1DwIdeal)
    ∧ quiescent_Ff1DwRefIdeal (hFf1DwRefIdeal := hFf1DwRefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Ff2Dx (hFf2Dx := hFf2Dx)
    ∧ quiescent_Ff2DxIdeal (hFf2DxIdeal := hFf2DxIdeal)
    ∧ quiescent_Ff2DxRefIdeal (hFf2DxRefIdeal := hFf2DxRefIdeal)
    ∧ quiescent_Ff2Dw (hFf2Dw := hFf2Dw)
    ∧ quiescent_Ff2DwIdeal (hFf2DwIdeal := hFf2DwIdeal)
    ∧ quiescent_Ff2DwRefIdeal (hFf2DwRefIdeal := hFf2DwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_AttnOutDx (hAttnOutDx := hAttnOutDx)
    ∧ quiescent_AttnOutDxIdeal (hAttnOutDxIdeal := hAttnOutDxIdeal)
    ∧ quiescent_AttnOutDxRefIdeal (hAttnOutDxRefIdeal := hAttnOutDxRefIdeal)
    ∧ quiescent_AttnOutDw (hAttnOutDw := hAttnOutDw)
    ∧ quiescent_AttnOutDwIdeal (hAttnOutDwIdeal := hAttnOutDwIdeal)
    ∧ quiescent_AttnOutDwRefIdeal (hAttnOutDwRefIdeal := hAttnOutDwRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamFf2 (hAdamFf2 := hAdamFf2)
    ∧ quiescent_AdamFf2Ideal (hAdamFf2Ideal := hAdamFf2Ideal)
    ∧ quiescent_AdamFf2RefIdeal (hAdamFf2RefIdeal := hAdamFf2RefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_InProjDx_InProjDxIdeal
    ∧ algebraic_InProjDxIdeal_InProjDxRefIdeal (hInProjDxIdeal := hInProjDxIdeal) (hInProjDxRefIdeal := hInProjDxRefIdeal)
    ∧ preserves_InProjDw_InProjDwIdeal
    ∧ algebraic_InProjDwIdeal_InProjDwRefIdeal (hInProjDwIdeal := hInProjDwIdeal) (hInProjDwRefIdeal := hInProjDwRefIdeal)
    ∧ preserves_Ff1_Ff1Ideal
    ∧ algebraic_Ff1Ideal_Ff1RefIdeal (hFf1Ideal := hFf1Ideal) (hFf1RefIdeal := hFf1RefIdeal)
    ∧ preserves_Ff1Dx_Ff1DxIdeal
    ∧ algebraic_Ff1DxIdeal_Ff1DxRefIdeal (hFf1DxIdeal := hFf1DxIdeal) (hFf1DxRefIdeal := hFf1DxRefIdeal)
    ∧ preserves_Ff1Dw_Ff1DwIdeal
    ∧ algebraic_Ff1DwIdeal_Ff1DwRefIdeal (hFf1DwIdeal := hFf1DwIdeal) (hFf1DwRefIdeal := hFf1DwRefIdeal)
    ∧ preserves_Ff2_Ff2Ideal
    ∧ algebraic_Ff2Ideal_Ff2RefIdeal (hFf2Ideal := hFf2Ideal) (hFf2RefIdeal := hFf2RefIdeal)
    ∧ preserves_Ff2Dx_Ff2DxIdeal
    ∧ algebraic_Ff2DxIdeal_Ff2DxRefIdeal (hFf2DxIdeal := hFf2DxIdeal) (hFf2DxRefIdeal := hFf2DxRefIdeal)
    ∧ preserves_Ff2Dw_Ff2DwIdeal
    ∧ algebraic_Ff2DwIdeal_Ff2DwRefIdeal (hFf2DwIdeal := hFf2DwIdeal) (hFf2DwRefIdeal := hFf2DwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_AttnOut_AttnOutIdeal
    ∧ algebraic_AttnOutIdeal_AttnOutRefIdeal (hAttnOutIdeal := hAttnOutIdeal) (hAttnOutRefIdeal := hAttnOutRefIdeal)
    ∧ preserves_AttnOutDx_AttnOutDxIdeal
    ∧ algebraic_AttnOutDxIdeal_AttnOutDxRefIdeal (hAttnOutDxIdeal := hAttnOutDxIdeal) (hAttnOutDxRefIdeal := hAttnOutDxRefIdeal)
    ∧ preserves_AttnOutDw_AttnOutDwIdeal
    ∧ algebraic_AttnOutDwIdeal_AttnOutDwRefIdeal (hAttnOutDwIdeal := hAttnOutDwIdeal) (hAttnOutDwRefIdeal := hAttnOutDwRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamFf2_AdamFf2Ideal
    ∧ algebraic_AdamFf2Ideal_AdamFf2RefIdeal (hAdamFf2Ideal := hAdamFf2Ideal) (hAdamFf2RefIdeal := hAdamFf2RefIdeal)
    ∧ preserves_AdamIn_AdamInIdeal
    ∧ algebraic_AdamInIdeal_AdamInRefIdeal (hAdamInIdeal := hAdamInIdeal) (hAdamInRefIdeal := hAdamInRefIdeal)
-- ==== Pre_finite.lean ====
abbrev S4096x1536 : Shape := ⟨2, ![4096, 1536]⟩
abbrev S4096x12288 : Shape := ⟨2, ![4096, 12288]⟩
abbrev S4096x512 : Shape := ⟨2, ![4096, 512]⟩
abbrev S_ : Shape := ⟨0, ![]⟩

class Facts : Prop where
  slices_S4096x1536_S4096x512_0_0 : S4096x1536.Slices ![0, 0] S4096x512
  slices_S4096x12288_S4096x512_0_4608 : S4096x12288.Slices ![0, 4608] S4096x512
  bcast_S_S4096x512 : S_.BroadcastsInDim S4096x512 (![] : Fin 0 → Fin S4096x512.rank)

variable [Facts]

def fn_part1 {F : FTy → Type} [FloatOps F] (main_v17 : IVec S4096x512 1) (main_v18 : FVec F S4096x512 .f32) (main_cst_3 : FVec F S_ .f32) : IVec S4096x512 1 :=
  let main_v19 : FVec F S4096x512 .f32 := broadcastInDim S4096x512 ![] bcast_S_S4096x512 main_cst_3
  let main_v20 : IVec S4096x512 1 := cmpf .olt main_v18 main_v19
  let main_v21 : IVec S4096x512 1 := andi main_v17 main_v20
  main_v21

def fn {F : FTy → Type} [FloatOps F] (main_arg0 : FVec F S4096x1536 .f32) (main_arg1 : FVec F S4096x1536 .f32) (main_arg2 : FVec F S4096x12288 .f32) (main_arg3 : FVec F S4096x512 .f32) (main_arg4 : FVec F S4096x512 .f32) : IVec S4096x512 1 :=
  let main_v0 : FVec F S4096x512 .f32 := (extractStridedSlice S4096x512 ![0, 0] · slices_S4096x1536_S4096x512_0_0) main_arg0
  let main_v1 : FVec F S4096x512 .f32 := (extractStridedSlice S4096x512 ![0, 0] · slices_S4096x1536_S4096x512_0_0) main_arg1
  let main_v2 : FVec F S4096x512 .f32 := (extractStridedSlice S4096x512 ![0, 4608] · slices_S4096x12288_S4096x512_0_4608) main_arg2
  let main_v3 : FVec F S4096x512 .f32 := Host.absf main_v0
  let main_cst : FVec F S_ .f32 := constant S_ .f32 0x7F800000#32
  let main_v4 : FVec F S4096x512 .f32 := broadcastInDim S4096x512 ![] bcast_S_S4096x512 main_cst
  let main_v5 : IVec S4096x512 1 := cmpf .olt main_v3 main_v4
  let main_v6 : FVec F S4096x512 .f32 := Host.absf main_v1
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_v9 : IVec S4096x512 1 := andi main_v5 main_v8
  let main_v10 : FVec F S4096x512 .f32 := Host.absf main_v2
  let main_cst_1 : FVec F S_ .f32 := constant S_ .f32 0x7F800000#32
  let main_v11 : FVec F S4096x512 .f32 := broadcastInDim S4096x512 ![] bcast_S_S4096x512 main_cst_1
  let main_v12 : IVec S4096x512 1 := cmpf .olt main_v10 main_v11
  let main_v13 : IVec S4096x512 1 := andi main_v9 main_v12
  let main_v14 : FVec F S4096x512 .f32 := Host.absf main_arg3
  let main_cst_2 : FVec F S_ .f32 := constant S_ .f32 0x7F800000#32
  let main_v15 : FVec F S4096x512 .f32 := broadcastInDim S4096x512 ![] bcast_S_S4096x512 main_cst_2
  let main_v16 : IVec S4096x512 1 := cmpf .olt main_v14 main_v15
  let main_v17 : IVec S4096x512 1 := andi main_v13 main_v16
  let main_v18 : FVec F S4096x512 .f32 := Host.absf main_arg4
  let main_cst_3 : FVec F S_ .f32 := constant S_ .f32 0x7F800000#32
  fn_part1 (F := F) main_v17 main_v18 main_cst_3
-- ==== Kernel.lean ====
abbrev S4096x1536 : Shape := ⟨2, ![4096, 1536]⟩
abbrev S4096x12288 : Shape := ⟨2, ![4096, 12288]⟩
abbrev S4096x512 : Shape := ⟨2, ![4096, 512]⟩
abbrev S128x512 : Shape := ⟨2, ![128, 512]⟩
abbrev S4x128x128 : Shape := ⟨3, ![4, 128, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 8
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x12288, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x512, .f32⟩
  | .local _ .vmem, ⟨18, _⟩ => ⟨S128x512, .f32⟩
  | .local _ .vmem, ⟨19, _⟩ => ⟨S128x512, .f32⟩
  | .local _ .vmem, ⟨20, _⟩ => ⟨S4x128x128, .f32⟩
  | .local _ .vmem, ⟨21, _⟩ => ⟨S4x128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.subi c30_i32 arg1
  let c0_i32 : BitVec 32 := 0#32
  let v1 : BitVec 32 := Scalar.maxsi v0 c0_i32
  let c0_i32_0 : BitVec 32 := 0#32
  let v2 : BitVec 32 := Scalar.addi c0_i32_0 arg0
  let c0_i32_1 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c30_i32 : BitVec 32 := 30#32
  let v0 : BitVec 32 := Scalar.subi c30_i32 arg1
  let c0_i32 : BitVec 32 := 0#32
  let v1 : BitVec 32 := Scalar.maxsi v0 c0_i32
  let c9_i32 : BitVec 32 := 9#32
  let v2 : BitVec 32 := Scalar.addi c9_i32 arg0
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c9_i32 : BitVec 32 := 9#32
  let v1 : BitVec 32 := Scalar.addi c9_i32 arg0
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x12288 : Shape := ⟨2, ![4096, 12288]⟩
abbrev S4096x512 : Shape := ⟨2, ![4096, 512]⟩
abbrev S1x4096x4x128 : Shape := ⟨4, ![1, 4096, 4, 128]⟩
abbrev S_ : Shape := ⟨0, ![]⟩
abbrev S1 : Shape := ⟨1, ![1]⟩
abbrev S4 : Shape := ⟨1, ![4]⟩
abbrev S1x4096x1x4x128 : Shape := ⟨5, ![1, 4096, 1, 4, 128]⟩
abbrev S1x4x1x4096x128 : Shape := ⟨5, ![1, 4, 1, 4096, 128]⟩
abbrev S1x4x1x32x128x128 : Shape := ⟨6, ![1, 4, 1, 32, 128, 128]⟩
abbrev S1x4x1x128x128 : Shape := ⟨5, ![1, 4, 1, 128, 128]⟩
abbrev S1x4x1x4224x128 : Shape := ⟨5, ![1, 4, 1, 4224, 128]⟩
abbrev S1x4x1x32x256x128 : Shape := ⟨6, ![1, 4, 1, 32, 256, 128]⟩
abbrev S1x4x1x32x128x256 : Shape := ⟨6, ![1, 4, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S4x1x1 : Shape := ⟨3, ![4, 1, 1]⟩
abbrev S4x128x256 : Shape := ⟨3, ![4, 128, 256]⟩
abbrev S4x1x1x128x256 : Shape := ⟨5, ![4, 1, 1, 128, 256]⟩
abbrev S1x4x1x1x128x256 : Shape := ⟨6, ![1, 4, 1, 1, 128, 256]⟩
abbrev S1x4x1x32x128 : Shape := ⟨5, ![1, 4, 1, 32, 128]⟩
abbrev S1x4x1x32x128x1 : Shape := ⟨6, ![1, 4, 1, 32, 128, 1]⟩
abbrev S1x4x1x4096 : Shape := ⟨4, ![1, 4, 1, 4096]⟩
abbrev S1x4096x1x4 : Shape := ⟨4, ![1, 4096, 1, 4]⟩
abbrev S1x4096x4 : Shape := ⟨3, ![1, 4096, 4]⟩
abbrev S4096x4x1 : Shape := ⟨3, ![4096, 4, 1]⟩
abbrev S4096x4x128 : Shape := ⟨3, ![4096, 4, 128]⟩
abbrev S4096x4 : Shape := ⟨2, ![4096, 4]⟩
abbrev S4x32x128 : Shape := ⟨3, ![4, 32, 128]⟩

abbrev nBuf : Space → Nat
  | .hbm => 201
  | .vmem => 0
  | .smem => 0
  | _ => 0

abbrev hbmTy0_0 (i : Nat) : BufTy := match i % 128 with
  | 0 => ⟨S4096x1536, .f32⟩
  | 1 => ⟨S4096x1536, .f32⟩
  | 2 => ⟨S4096x12288, .f32⟩
  | 3 => ⟨S4096x512, .f32⟩
  | 4 => ⟨S4096x512, .f32⟩
  | 5 => ⟨S4096x512, .f32⟩
  | 6 => ⟨S4096x512, .f32⟩
  | 7 => ⟨S4096x512, .f32⟩
  | 8 => ⟨S1x4096x4x128, .f32⟩
  | 9 => ⟨S1x4096x4x128, .f32⟩
  | 10 => ⟨S1x4096x4x128, .f32⟩
  | 11 => ⟨S_, .f32⟩
  | 12 => ⟨S1, .f32⟩
  | 13 => ⟨S_, .f32⟩
  | 14 => ⟨S1, .f32⟩
  | 15 => ⟨S_, .f32⟩
  | 16 => ⟨S1, .f32⟩
  | 17 => ⟨S_, .f32⟩
  | 18 => ⟨S1, .f32⟩
  | 19 => ⟨S4, .f32⟩
  | 20 => ⟨S1x4096x1x4x128, .f32⟩
  | 21 => ⟨S1x4x1x4096x128, .f32⟩
  | 22 => ⟨S1x4096x1x4x128, .f32⟩
  | 23 => ⟨S1x4x1x4096x128, .f32⟩
  | 24 => ⟨S1x4096x1x4x128, .f32⟩
  | 25 => ⟨S1x4x1x4096x128, .f32⟩
  | 26 => ⟨S1x4x1x32x128x128, .f32⟩
  | 27 => ⟨S_, .f32⟩
  | 28 => ⟨S1x4x1x128x128, .f32⟩
  | 29 => ⟨S1x4x1x4224x128, .f32⟩
  | 30 => ⟨S_, .f32⟩
  | 31 => ⟨S1x4x1x128x128, .f32⟩
  | 32 => ⟨S1x4x1x4096x128, .f32⟩
  | 33 => ⟨S1x4x1x32x128x128, .f32⟩
  | 34 => ⟨S1x4x1x32x128x128, .f32⟩
  | 35 => ⟨S1x4x1x32x256x128, .f32⟩
  | 36 => ⟨S_, .f32⟩
  | 37 => ⟨S1x4x1x128x128, .f32⟩
  | 38 => ⟨S1x4x1x4224x128, .f32⟩
  | 39 => ⟨S_, .f32⟩
  | 40 => ⟨S1x4x1x128x128, .f32⟩
  | 41 => ⟨S1x4x1x4096x128, .f32⟩
  | 42 => ⟨S1x4x1x32x128x128, .f32⟩
  | 43 => ⟨S1x4x1x32x128x128, .f32⟩
  | 44 => ⟨S1x4x1x32x256x128, .f32⟩
  | 45 => ⟨S1x4x1x32x128x256, .f32⟩
  | 46 => ⟨S_, .f32⟩
  | 47 => ⟨S1x4x1x32x128x256, .f32⟩
  | 48 => ⟨S1x4x1x32x128x256, .f32⟩
  | 49 => ⟨S128, .i32⟩
  | 50 => ⟨S128x1, .i32⟩
  | 51 => ⟨S256, .i32⟩
  | 52 => ⟨S1x256, .i32⟩
  | 53 => ⟨S_, .i32⟩
  | 54 => ⟨S128x1, .i32⟩
  | 55 => ⟨S128x1, .i32⟩
  | 56 => ⟨S128x256, .i32⟩
  | 57 => ⟨S128x256, .i32⟩
  | 58 => ⟨S128x256, .i32⟩
  | 59 => ⟨S32, .i32⟩
  | 60 => ⟨S32x1x1, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i1⟩
  | 67 => ⟨S128x256, .i1⟩
  | 68 => ⟨S_, .i32⟩
  | 69 => ⟨S32x1x1, .i32⟩
  | 70 => ⟨S32x1x1, .i32⟩
  | 71 => ⟨S1x1x256, .i32⟩
  | 72 => ⟨S32x1x256, .i32⟩
  | 73 => ⟨S32x1x256, .i32⟩
  | 74 => ⟨S32x1x256, .i32⟩
  | 75 => ⟨S_, .i32⟩
  | 76 => ⟨S32x1x256, .i32⟩
  | 77 => ⟨S32x1x256, .i32⟩
  | 78 => ⟨S_, .i32⟩
  | 79 => ⟨S32x1x256, .i32⟩
  | 80 => ⟨S32x1x256, .i1⟩
  | 81 => ⟨S1x128x256, .i1⟩
  | 82 => ⟨S32x128x256, .i1⟩
  | 83 => ⟨S32x128x256, .i1⟩
  | 84 => ⟨S32x128x256, .i1⟩
  | 85 => ⟨S4x1x1, .f32⟩
  | 86 => ⟨S4x1x1, .f32⟩
  | 87 => ⟨S_, .i32⟩
  | 88 => ⟨S128x256, .i32⟩
  | 89 => ⟨S128x256, .i32⟩
  | 90 => ⟨S128x256, .f32⟩
  | 91 => ⟨S1x128x256, .f32⟩
  | 92 => ⟨S4x128x256, .f32⟩
  | 93 => ⟨S4x128x256, .f32⟩
  | 94 => ⟨S4x128x256, .f32⟩
  | 95 => ⟨S4x1x1x128x256, .f32⟩
  | 96 => ⟨S1x4x1x1x128x256, .f32⟩
  | 97 => ⟨S1x4x1x32x128x256, .f32⟩
  | 98 => ⟨S1x4x1x32x128x256, .f32⟩
  | 99 => ⟨S_, .f32⟩
  | 100 => ⟨S_, .f32⟩
  | 101 => ⟨S1x4x1x32x128x256, .i1⟩
  | 102 => ⟨S1x4x1x32x128x256, .f32⟩
  | 103 => ⟨S1x4x1x32x128x256, .f32⟩
  | 104 => ⟨S_, .f32⟩
  | 105 => ⟨S1x4x1x32x128x256, .f32⟩
  | 106 => ⟨S_, .f32⟩
  | 107 => ⟨S1x4x1x32x128, .f32⟩
  | 108 => ⟨S1x4x1x32x128x1, .f32⟩
  | 109 => ⟨S1x4x1x32x128x256, .f32⟩
  | 110 => ⟨S1x4x1x32x128x256, .i1⟩
  | 111 => ⟨S1x4x1x32x128x256, .f32⟩
  | 112 => ⟨S_, .f32⟩
  | 113 => ⟨S1x4x1x32x128, .f32⟩
  | 114 => ⟨S1x4x1x32x128x1, .f32⟩
  | 115 => ⟨S1x4x1x32x128x256, .f32⟩
  | 116 => ⟨S1x4x1x32x128x256, .f32⟩
  | 117 => ⟨S1x4x1x32x128x256, .f32⟩
  | 118 => ⟨S_, .f32⟩
  | 119 => ⟨S1x4x1x32x128, .f32⟩
  | 120 => ⟨S1x4x1x32x128, .f32⟩
  | 121 => ⟨S1x4x1x32x128, .f32⟩
  | 122 => ⟨S1x4x1x32x128x1, .f32⟩
  | 123 => ⟨S1x4x1x32x128x256, .f32⟩
  | 124 => ⟨S1x4x1x32x128x256, .f32⟩
  | 125 => ⟨S1x4x1x32x128x256, .f32⟩
  | 126 => ⟨S1x4x1x32x128x128, .f32⟩
  | 127 => ⟨S1x4x1x4096x128, .f32⟩
  | _ => ⟨S4096x1536, .f32⟩

abbrev hbmTy0_1 (i : Nat) : BufTy := match i % 128 with
  | 0 => ⟨S1x4096x1x4x128, .f32⟩
  | 1 => ⟨S1x4096x4x128, .f32⟩
  | 2 => ⟨S1x4x1x4096, .f32⟩
  | 3 => ⟨S1x4096x1x4, .f32⟩
  | 4 => ⟨S1x4096x4, .f32⟩
  | 5 => ⟨S4096x512, .f32⟩
  | 6 => ⟨S4096x4x1, .f32⟩
  | 7 => ⟨S4096x4x128, .f32⟩
  | 8 => ⟨S4096x512, .f32⟩
  | 9 => ⟨S4096x4x128, .f32⟩
  | 10 => ⟨S_, .f32⟩
  | 11 => ⟨S4096x4, .f32⟩
  | 12 => ⟨S4096x4x1, .f32⟩
  | 13 => ⟨S1x4096x4, .f32⟩
  | 14 => ⟨S1x4096x4x128, .f32⟩
  | 15 => ⟨S1x4096x1x4, .f32⟩
  | 16 => ⟨S1x4x1x4096, .f32⟩
  | 17 => ⟨S1x4x1x32x128, .f32⟩
  | 18 => ⟨S1x4096x1x4x128, .f32⟩
  | 19 => ⟨S1x4x1x4096x128, .f32⟩
  | 20 => ⟨S1x4x1x32x128x128, .f32⟩
  | 21 => ⟨S1x4x1x32x128x256, .f32⟩
  | 22 => ⟨S1x4x1x32x256x128, .f32⟩
  | 23 => ⟨S1x4x1x32x128x256, .f32⟩
  | 24 => ⟨S1x4x1x32x128x256, .f32⟩
  | 25 => ⟨S1x4x1x32x128x256, .f32⟩
  | 26 => ⟨S_, .f32⟩
  | 27 => ⟨S1x4x1x32x128, .f32⟩
  | 28 => ⟨S1x4x1x32x128x1, .f32⟩
  | 29 => ⟨S_, .f32⟩
  | 30 => ⟨S4x32x128, .f32⟩
  | 31 => ⟨S1x4x1x32x128, .f32⟩
  | 32 => ⟨S1x4x1x32x128, .f32⟩
  | 33 => ⟨S1x4x1x32x128, .f32⟩
  | 34 => ⟨S1x4x1x32x128x256, .f32⟩
  | 35 => ⟨S1x4x1x32x128x256, .f32⟩
  | 36 => ⟨S1x4x1x32x128x256, .f32⟩
  | 37 => ⟨S_, .f32⟩
  | 38 => ⟨S1x4x1x32x128x256, .f32⟩
  | 39 => ⟨S1x4x1x32x128x256, .f32⟩
  | 40 => ⟨S_, .f32⟩
  | 41 => ⟨S1x4x1x32x128x256, .f32⟩
  | 42 => ⟨S1x4x1x32x128x256, .f32⟩
  | 43 => ⟨S1x4x1x32x256x128, .f32⟩
  | 44 => ⟨S1x4x1x32x128x128, .f32⟩
  | 45 => ⟨S1x4x1x32x128x128, .f32⟩
  | 46 => ⟨S1x4x1x32x128x128, .f32⟩
  | 47 => ⟨S1x4x1x4096x128, .f32⟩
  | 48 => ⟨S1x4x1x4096x128, .f32⟩
  | 49 => ⟨S_, .f32⟩
  | 50 => ⟨S1x4x1x4224x128, .f32⟩
  | 51 => ⟨S1x4x1x128x128, .f32⟩
  | 52 => ⟨S1x4x1x4096x128, .f32⟩
  | 53 => ⟨S1x4x1x4096x128, .f32⟩
  | 54 => ⟨S1x4x1x32x128x128, .f32⟩
  | 55 => ⟨S1x4x1x32x128x128, .f32⟩
  | 56 => ⟨S1x4x1x4096x128, .f32⟩
  | 57 => ⟨S1x4x1x4096x128, .f32⟩
  | 58 => ⟨S_, .f32⟩
  | 59 => ⟨S1x4x1x4224x128, .f32⟩
  | 60 => ⟨S1x4x1x128x128, .f32⟩
  | 61 => ⟨S1x4x1x4096x128, .f32⟩
  | 62 => ⟨S1x4x1x4096x128, .f32⟩
  | 63 => ⟨S1x4x1x4096x128, .f32⟩
  | 64 => ⟨S1x4096x1x4x128, .f32⟩
  | 65 => ⟨S1x4096x4x128, .f32⟩
  | 66 => ⟨S1x4096x1x4x128, .f32⟩
  | 67 => ⟨S1x4096x4x128, .f32⟩
  | 68 => ⟨S1x4096x1x4x128, .f32⟩
  | 69 => ⟨S1x4096x4x128, .f32⟩
  | 70 => ⟨S4096x512, .f32⟩
  | 71 => ⟨S4096x512, .f32⟩
  | 72 => ⟨S4096x512, .f32⟩
  | _ => ⟨S4096x1536, .f32⟩

abbrev hbmTy (i : Nat) : BufTy := match i / 128 with
  | 0 => hbmTy0_0 i
  | 1 => hbmTy0_1 i
  | _ => ⟨S4096x1536, .f32⟩

abbrev bufTy : (tb : Table) → Fin (tcTables nBuf tb) → BufTy
  | .hbm, ⟨i, _⟩ => hbmTy i
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_c_9 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c_11 : Ref sig .tc := ⟨.hbm, 75, rfl⟩
abbrev main_v57 : Ref sig .tc := ⟨.hbm, 76, rfl⟩
abbrev main_v58 : Ref sig .tc := ⟨.hbm, 77, rfl⟩
abbrev main_c_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_13 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_14 : Ref sig .tc := ⟨.hbm, 99, rfl⟩
abbrev main_call0_v0 : Ref sig .tc := ⟨.hbm, 100, rfl⟩
abbrev main_v78_1 : Ref sig .tc := ⟨.hbm, 101, rfl⟩
abbrev main_call0_v2 : Ref sig .tc := ⟨.hbm, 102, rfl⟩
abbrev main_v78_0 : Ref sig .tc := ⟨.hbm, 103, rfl⟩
abbrev main_call0_cst : Ref sig .tc := ⟨.hbm, 104, rfl⟩
abbrev main_v78_2 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_cst_19 : Ref sig .tc := ⟨.hbm, 154, rfl⟩
abbrev main_v123 : Ref sig .tc := ⟨.hbm, 155, rfl⟩
abbrev main_v124 : Ref sig .tc := ⟨.hbm, 156, rfl⟩
abbrev main_cst_20 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_call1_cst : Ref sig .tc := ⟨.hbm, 165, rfl⟩
abbrev main_call1_v0 : Ref sig .tc := ⟨.hbm, 166, rfl⟩
abbrev main_v132 : Ref sig .tc := ⟨.hbm, 167, rfl⟩
abbrev main_cst_21 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_22 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_cst_23 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162 : Ref sig .tc := ⟨.hbm, 200, rfl⟩

abbrev nD : Nat := 1
abbrev τ : Topo := Topo.v7x

variable {F : FTy → Type} [FloatOps F]
-- ==== InProj.lean ====
abbrev S4096x1024 : Shape := ⟨2, ![4096, 1024]⟩
abbrev S12288x1024 : Shape := ⟨2, ![12288, 1024]⟩
abbrev S4096x12288 : Shape := ⟨2, ![4096, 12288]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S12288x1024, .bf16⟩
  | .hbm, ⟨2, _⟩ => ⟨S4096x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S12288x1024 : Shape := ⟨2, ![12288, 1024]⟩
abbrev S1024x12288 : Shape := ⟨2, ![1024, 12288]⟩
abbrev S4096x12288 : Shape := ⟨2, ![4096, 12288]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S12288x1024, .bf16⟩
  | .hbm, ⟨2, _⟩ => ⟨S4096x1024, .f32⟩
  | .hbm, ⟨3, _⟩ => ⟨S12288x1024, .f32⟩
  | .hbm, ⟨4, _⟩ => ⟨S1024x12288, .f32⟩
  | .hbm, ⟨5, _⟩ => ⟨S4096x12288, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProjDx.lean ====
abbrev S4096x12288 : Shape := ⟨2, ![4096, 12288]⟩
abbrev S12288x1024 : Shape := ⟨2, ![12288, 1024]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S12288x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 6], ![false, false, false]⟩

def k0_cond3 (i : grid0.Coords) : BitVec 1 :=
  let arg2 : BitVec 32 := BitVec.ofNat 32 (i 2).val
  let c5_i32_6 : BitVec 32 := 5#32
  let v11 : BitVec 1 := Scalar.cmpi .eq arg2 c5_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S4096x12288 : Shape := ⟨2, ![4096, 12288]⟩
abbrev S12288x1024 : Shape := ⟨2, ![12288, 1024]⟩
abbrev S_ : Shape := ⟨0, ![]⟩
abbrev S4096x1024 : Shape := ⟨2, ![4096, 1024]⟩
abbrev S1024x12288 : Shape := ⟨2, ![1024, 12288]⟩

abbrev nBuf : Space → Nat
  | .hbm => 9
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S12288x1024, .bf16⟩
  | .hbm, ⟨2, _⟩ => ⟨S_, .f32⟩
  | .hbm, ⟨3, _⟩ => ⟨S4096x1024, .f32⟩
  | .hbm, ⟨4, _⟩ => ⟨S12288x1024, .f32⟩
  | .hbm, ⟨5, _⟩ => ⟨S1024x12288, .f32⟩
  | .hbm, ⟨6, _⟩ => ⟨S4096x12288, .f32⟩
  | .hbm, ⟨7, _⟩ => ⟨S4096x12288, .f32⟩
  | .hbm, ⟨8, _⟩ => ⟨S4096x1024, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InProjDw.lean ====
abbrev S4096x12288 : Shape := ⟨2, ![4096, 12288]⟩
abbrev S4096x1024 : Shape := ⟨2, ![4096, 1024]⟩
abbrev S12288x1024 : Shape := ⟨2, ![12288, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S12288x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![12, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDwRefIdeal.lean ====
abbrev S4096x12288 : Shape := ⟨2, ![4096, 12288]⟩
abbrev S4096x1024 : Shape := ⟨2, ![4096, 1024]⟩
abbrev S_ : Shape := ⟨0, ![]⟩
abbrev S12288x1024 : Shape := ⟨2, ![12288, 1024]⟩
abbrev S1024x12288 : Shape := ⟨2, ![1024, 12288]⟩

abbrev nBuf : Space → Nat
  | .hbm => 12
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x1024, .bf16⟩
  | .hbm, ⟨2, _⟩ => ⟨S_, .f32⟩
  | .hbm, ⟨3, _⟩ => ⟨S12288x1024, .f32⟩
  | .hbm, ⟨4, _⟩ => ⟨S4096x1024, .f32⟩
  | .hbm, ⟨5, _⟩ => ⟨S1024x12288, .f32⟩
  | .hbm, ⟨6, _⟩ => ⟨S4096x12288, .f32⟩
  | .hbm, ⟨7, _⟩ => ⟨S4096x12288, .f32⟩
  | .hbm, ⟨8, _⟩ => ⟨S12288x1024, .f32⟩
  | .hbm, ⟨9, _⟩ => ⟨S1024x12288, .f32⟩
  | .hbm, ⟨10, _⟩ => ⟨S12288x1024, .f32⟩
  | .hbm, ⟨11, _⟩ => ⟨S12288x1024, .bf16⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ff1.lean ====
abbrev S4096x1024 : Shape := ⟨2, ![4096, 1024]⟩
abbrev S3x4x1024x1024 : Shape := ⟨4, ![3, 4, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S3x4x1024x1024, .bf16⟩
  | .hbm, ⟨2, _⟩ => ⟨S4096x4096, .f32⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![c1_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff1RefIdeal.lean ====
abbrev S4096x1024 : Shape := ⟨2, ![4096, 1024]⟩
abbrev S3x4x1024x1024 : Shape := ⟨4, ![3, 4, 1024, 1024]⟩
abbrev S1x4x1024x1024 : Shape := ⟨4, ![1, 4, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4x1024x1024, .bf16⟩
  | .hbm, ⟨2, _⟩ => ⟨S4096x1024, .f32⟩
  | .hbm, ⟨3, _⟩ => ⟨S1x4x1024x1024, .bf16⟩
  | .hbm, ⟨4, _⟩ => ⟨S4x1024x1024, .bf16⟩
  | .hbm, ⟨5, _⟩ => ⟨S1024x4x1024, .bf16⟩
  | .hbm, ⟨6, _⟩ => ⟨S1024x4096, .bf16⟩
  | .hbm, ⟨7, _⟩ => ⟨S1024x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Ff1Dx.lean ====
abbrev S4096x4096 : Shape := ⟨2, ![4096, 4096]⟩
abbrev S3x4x1024x1024 : Shape := ⟨4, ![3, 4, 1024, 1024]⟩
abbrev S4096x1024 : Shape := ⟨2, ![4096, 1024]⟩
abbrev S1024x1024 : Shape := ⟨2, ![1024, 1024]⟩
abbrev S1x1x1024x1024 : Shape := ⟨4, ![1, 1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S3x4x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![c1_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DxRefIdeal.lean ====
abbrev S4096x4096 : Shape := ⟨2, ![4096, 4096]⟩
abbrev S3x4x1024x1024 : Shape := ⟨4, ![3, 4, 1024, 1024]⟩
abbrev S_ : Shape := ⟨0, ![]⟩
abbrev S4096x1024 : Shape := ⟨2, ![4096, 1024]⟩
abbrev S1x4x1024x1024 : Shape := ⟨4, ![1, 4, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x4x1024x1024, .bf16⟩
  | .hbm, ⟨2, _⟩ => ⟨S_, .f32⟩
  | .hbm, ⟨3, _⟩ => ⟨S4096x1024, .f32⟩
  | .hbm, ⟨4, _⟩ => ⟨S1x4x1024x1024, .bf16⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S4096x4096, .f32⟩
  | .hbm, ⟨10, _⟩ => ⟨S4096x4096, .f32⟩
  | .hbm, ⟨11, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Ff1Dw.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .bf16⟩
  | .hbm, ⟨3, _⟩ => ⟨S4x3x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1DwRefIdeal.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4x1x1024x1024 : Shape := ⟨4, ![4, 1, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .bf16⟩
  | .hbm, ⟨3, _⟩ => ⟨S_, .f32⟩
  | .hbm, ⟨4, _⟩ => ⟨S1024x4096, .f32⟩
  | .hbm, ⟨5, _⟩ => ⟨S4096x1024, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1024, .f32⟩
  | .hbm, ⟨11, _⟩ => ⟨S4x1024x1024, .f32⟩
  | .hbm, ⟨12, _⟩ => ⟨S4x1x1024x1024, .bf16⟩
  | .hbm, ⟨13, _⟩ => ⟨S4x1024x1024, .bf16⟩
  | .hbm, ⟨14, _⟩ => ⟨S4x1x1024x1024, .bf16⟩
  | .hbm, ⟨15, _⟩ => ⟨S4x1x1024x1024, .bf16⟩
  | .hbm, ⟨16, _⟩ => ⟨S4x3x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Ff2.lean ====
abbrev S4096x4096 : Shape := ⟨2, ![4096, 4096]⟩
abbrev S3x4096x1024 : Shape := ⟨3, ![3, 4096, 1024]⟩
abbrev S4096x1024 : Shape := ⟨2, ![4096, 1024]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S3x4096x1024, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2RefIdeal.lean ====
abbrev S4096x4096 : Shape := ⟨2, ![4096, 4096]⟩
abbrev S3x4096x1024 : Shape := ⟨3, ![3, 4096, 1024]⟩
abbrev S1x4096x1024 : Shape := ⟨3, ![1, 4096, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S3x4096x1024, .bf16⟩
  | .hbm, ⟨2, _⟩ => ⟨S4096x4096, .f32⟩
  | .hbm, ⟨3, _⟩ => ⟨S1x4096x1024, .bf16⟩
  | .hbm, ⟨4, _⟩ => ⟨S4096x1024, .bf16⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Ff2Dx.lean ====
abbrev S4096x1024 : Shape := ⟨2, ![4096, 1024]⟩
abbrev S3x4096x1024 : Shape := ⟨3, ![3, 4096, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DxRefIdeal.lean ====
abbrev S4096x1024 : Shape := ⟨2, ![4096, 1024]⟩
abbrev S3x4096x1024 : Shape := ⟨3, ![3, 4096, 1024]⟩
abbrev S_ : Shape := ⟨0, ![]⟩
abbrev S4096x4096 : Shape := ⟨2, ![4096, 4096]⟩
abbrev S1x4096x1024 : Shape := ⟨3, ![1, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4096x1024, .bf16⟩
  | .hbm, ⟨2, _⟩ => ⟨S_, .f32⟩
  | .hbm, ⟨3, _⟩ => ⟨S4096x4096, .f32⟩
  | .hbm, ⟨4, _⟩ => ⟨S1x4096x1024, .bf16⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff2Dw.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S2048x1024 : Shape := ⟨2, ![2048, 1024]⟩
abbrev S1x1x1024x1024 : Shape := ⟨4, ![1, 1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .bf16⟩
  | .hbm, ⟨3, _⟩ => ⟨S4x3x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x1024x1024, .bf16⟩
  | .local _ .vmem, ⟨5, _⟩ => ⟨S1x1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2DwRefIdeal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S_ : Shape := ⟨0, ![]⟩
abbrev S1024x4096 : Shape := ⟨2, ![1024, 4096]⟩
abbrev S4x1024x1024 : Shape := ⟨3, ![4, 1024, 1024]⟩
abbrev S4x1x1024x1024 : Shape := ⟨4, ![4, 1, 1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .bf16⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | .hbm, ⟨11, _⟩ => ⟨S4x1x1024x1024, .bf16⟩
  | .hbm, ⟨12, _⟩ => ⟨S4x1024x1024, .bf16⟩
  | .hbm, ⟨13, _⟩ => ⟨S4x1x1024x1024, .bf16⟩
  | .hbm, ⟨14, _⟩ => ⟨S4x1x1024x1024, .bf16⟩
  | .hbm, ⟨15, _⟩ => ⟨S4x3x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Out.lean ====
abbrev S4096x1024 : Shape := ⟨2, ![4096, 1024]⟩
abbrev S3x1024x1024 : Shape := ⟨3, ![3, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x1024x1024, .bf16⟩
  | .hbm, ⟨2, _⟩ => ⟨S4096x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutDx.lean ====
abbrev S4096x1024 : Shape := ⟨2, ![4096, 1024]⟩
abbrev S3x1024x1024 : Shape := ⟨3, ![3, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S3x1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S3x1024x1024 : Shape := ⟨3, ![3, 1024, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x1024x1024, .bf16⟩
  | .hbm, ⟨2, _⟩ => ⟨S_, .f32⟩
  | .hbm, ⟨3, _⟩ => ⟨S4096x1024, .f32⟩
  | .hbm, ⟨4, _⟩ => ⟨S1x1024x1024, .bf16⟩
  | .hbm, ⟨5, _⟩ => ⟨S1024x1024, .bf16⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S4096x1024 : Shape := ⟨2, ![4096, 1024]⟩
abbrev S4x3x256x1024 : Shape := ⟨4, ![4, 3, 256, 1024]⟩
abbrev S2048x256 : Shape := ⟨2, ![2048, 256]⟩
abbrev S2048x1024 : Shape := ⟨2, ![2048, 1024]⟩
abbrev S1x1x256x1024 : Shape := ⟨4, ![1, 1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3x256x1024, .bf16⟩
  | .hbm, ⟨3, _⟩ => ⟨S4x3x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, v26.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S4x3x256x1024 : Shape := ⟨4, ![4, 3, 256, 1024]⟩
abbrev S_ : Shape := ⟨0, ![]⟩
abbrev S1024x1024 : Shape := ⟨2, ![1024, 1024]⟩
abbrev S4x256x1024 : Shape := ⟨3, ![4, 256, 1024]⟩
abbrev S4x1x256x1024 : Shape := ⟨4, ![4, 1, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x3x256x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S4x256x1024, .f32⟩
  | .hbm, ⟨11, _⟩ => ⟨S4x1x256x1024, .bf16⟩
  | .hbm, ⟨12, _⟩ => ⟨S4x256x1024, .bf16⟩
  | .hbm, ⟨13, _⟩ => ⟨S4x1x256x1024, .bf16⟩
  | .hbm, ⟨14, _⟩ => ⟨S4x1x256x1024, .bf16⟩
  | .hbm, ⟨15, _⟩ => ⟨S4x3x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== AttnOut.lean ====
abbrev S4096x512 : Shape := ⟨2, ![4096, 512]⟩
abbrev S3x4x512x256 : Shape := ⟨4, ![3, 4, 512, 256]⟩
abbrev S4096x1024 : Shape := ⟨2, ![4096, 1024]⟩
abbrev S1024x512 : Shape := ⟨2, ![1024, 512]⟩
abbrev S1x1x512x256 : Shape := ⟨4, ![1, 1, 512, 256]⟩
abbrev S1024x256 : Shape := ⟨2, ![1024, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S3x4x512x256, .bf16⟩
  | .hbm, ⟨2, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x256, .f32⟩
  | .local _ .vmem, ⟨5, _⟩ => ⟨S1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![c1_i32_11.toNat, v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutRefIdeal.lean ====
abbrev S4096x512 : Shape := ⟨2, ![4096, 512]⟩
abbrev S3x4x512x256 : Shape := ⟨4, ![3, 4, 512, 256]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S3x4x512x256, .bf16⟩
  | .hbm, ⟨2, _⟩ => ⟨S4096x512, .f32⟩
  | .hbm, ⟨3, _⟩ => ⟨S1x4x512x256, .bf16⟩
  | .hbm, ⟨4, _⟩ => ⟨S4x512x256, .bf16⟩
  | .hbm, ⟨5, _⟩ => ⟨S512x4x256, .bf16⟩
  | .hbm, ⟨6, _⟩ => ⟨S512x1024, .bf16⟩
  | .hbm, ⟨7, _⟩ => ⟨S512x1024, .f32⟩
  | .hbm, ⟨8, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== AttnOutDx.lean ====
abbrev S4096x1024 : Shape := ⟨2, ![4096, 1024]⟩
abbrev S3x4x512x256 : Shape := ⟨4, ![3, 4, 512, 256]⟩
abbrev S4096x512 : Shape := ⟨2, ![4096, 512]⟩
abbrev S1024x256 : Shape := ⟨2, ![1024, 256]⟩
abbrev S1x1x512x256 : Shape := ⟨4, ![1, 1, 512, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S3x4x512x256, .bf16⟩
  | .hbm, ⟨2, _⟩ => ⟨S4096x512, .f32⟩
  | .local _ .vmem, ⟨0, _⟩ => ⟨S1024x256, .bf16⟩
  | .local _ .vmem, ⟨1, _⟩ => ⟨S1024x256, .bf16⟩
  | .local _ .vmem, ⟨2, _⟩ => ⟨S1x1x512x256, .bf16⟩
  | .local _ .vmem, ⟨3, _⟩ => ⟨S1x1x512x256, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_8 : BitVec 32 := 3#32
  let v12 : BitVec 1 := Scalar.cmpi .eq arg2 c3_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![c1_i32_11.toNat, v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDxRefIdeal.lean ====
abbrev S4096x1024 : Shape := ⟨2, ![4096, 1024]⟩
abbrev S3x4x512x256 : Shape := ⟨4, ![3, 4, 512, 256]⟩
abbrev S_ : Shape := ⟨0, ![]⟩
abbrev S4096x512 : Shape := ⟨2, ![4096, 512]⟩
abbrev S1x4x512x256 : Shape := ⟨4, ![1, 4, 512, 256]⟩
abbrev S4x512x256 : Shape := ⟨3, ![4, 512, 256]⟩
abbrev S512x4x256 : Shape := ⟨3, ![512, 4, 256]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3x4x512x256, .bf16⟩
  | .hbm, ⟨2, _⟩ => ⟨S_, .f32⟩
  | .hbm, ⟨3, _⟩ => ⟨S4096x512, .f32⟩
  | .hbm, ⟨4, _⟩ => ⟨S1x4x512x256, .bf16⟩
  | .hbm, ⟨5, _⟩ => ⟨S4x512x256, .bf16⟩
  | .hbm, ⟨6, _⟩ => ⟨S512x4x256, .bf16⟩
  | .hbm, ⟨7, _⟩ => ⟨S512x1024, .bf16⟩
  | .hbm, ⟨8, _⟩ => ⟨S512x1024, .f32⟩
  | .hbm, ⟨9, _⟩ => ⟨S4096x1024, .f32⟩
  | .hbm, ⟨10, _⟩ => ⟨S4096x1024, .f32⟩
  | .hbm, ⟨11, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AttnOutDw.lean ====
abbrev S4096x512 : Shape := ⟨2, ![4096, 512]⟩
abbrev S4096x1024 : Shape := ⟨2, ![4096, 1024]⟩
abbrev S4x3x512x256 : Shape := ⟨4, ![4, 3, 512, 256]⟩
abbrev S2048x512 : Shape := ⟨2, ![2048, 512]⟩
abbrev S2048x256 : Shape := ⟨2, ![2048, 256]⟩
abbrev S1x1x512x256 : Shape := ⟨4, ![1, 1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x3x512x256, .bf16⟩
  | .hbm, ⟨3, _⟩ => ⟨S4x3x512x256, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x1x512x256, .bf16⟩
  | .local _ .vmem, ⟨5, _⟩ => ⟨S1x1x512x256, .bf16⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let c0_i32_12 : BitVec 32 := 0#32
  ![v16.toNat, c1_i32_11.toNat, arg0.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnOutDwRefIdeal.lean ====
abbrev S4096x512 : Shape := ⟨2, ![4096, 512]⟩
abbrev S4096x1024 : Shape := ⟨2, ![4096, 1024]⟩
abbrev S4x3x512x256 : Shape := ⟨4, ![4, 3, 512, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩
abbrev S4x1x512x256 : Shape := ⟨4, ![4, 1, 512, 256]⟩

abbrev nBuf : Space → Nat
  | .hbm => 17
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x3x512x256, .bf16⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S4x1x512x256, .bf16⟩
  | .hbm, ⟨13, _⟩ => ⟨S4x512x256, .bf16⟩
  | .hbm, ⟨14, _⟩ => ⟨S4x1x512x256, .bf16⟩
  | .hbm, ⟨15, _⟩ => ⟨S4x1x512x256, .bf16⟩
  | .hbm, ⟨16, _⟩ => ⟨S4x3x512x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AdamAda.lean ====
abbrev S4x1024x1536 : Shape := ⟨3, ![4, 1024, 1536]⟩
abbrev S4096x1024 : Shape := ⟨2, ![4096, 1024]⟩
abbrev S4096x1536 : Shape := ⟨2, ![4096, 1536]⟩
abbrev S128x1536 : Shape := ⟨2, ![128, 1536]⟩

abbrev nBuf : Space → Nat
  | .hbm => 13
  | .vmem => 16
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1024, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S4096x1536, .f32⟩
  | .hbm, ⟨12, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamAdaIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamAdaRefIdeal.lean ====
abbrev S4x1024x1536 : Shape := ⟨3, ![4, 1024, 1536]⟩
abbrev S4096x1024 : Shape := ⟨2, ![4096, 1024]⟩
abbrev S_ : Shape := ⟨0, ![]⟩
abbrev S4096x1536 : Shape := ⟨2, ![4096, 1536]⟩

abbrev nBuf : Space → Nat
  | .hbm => 42
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4096x1024, .f32⟩
  | .hbm, ⟨5, _⟩ => ⟨S_, .f32⟩
  | .hbm, ⟨6, _⟩ => ⟨S4x1024x1536, .f32⟩
  | .hbm, ⟨7, _⟩ => ⟨S4x1024x1536, .f32⟩
  | .hbm, ⟨8, _⟩ => ⟨S_, .f32⟩
  | .hbm, ⟨9, _⟩ => ⟨S4x1024x1536, .f32⟩
  | .hbm, ⟨10, _⟩ => ⟨S4x1024x1536, .f32⟩
  | .hbm, ⟨11, _⟩ => ⟨S4x1024x1536, .f32⟩
  | .hbm, ⟨12, _⟩ => ⟨S_, .f32⟩
  | .hbm, ⟨13, _⟩ => ⟨S4x1024x1536, .f32⟩
  | .hbm, ⟨14, _⟩ => ⟨S4x1024x1536, .f32⟩
  | .hbm, ⟨15, _⟩ => ⟨S4x1024x1536, .f32⟩
  | .hbm, ⟨16, _⟩ => ⟨S_, .f32⟩
  | .hbm, ⟨17, _⟩ => ⟨S4x1024x1536, .f32⟩
  | .hbm, ⟨18, _⟩ => ⟨S4x1024x1536, .f32⟩
  | .hbm, ⟨19, _⟩ => ⟨S4x1024x1536, .f32⟩
  | .hbm, ⟨20, _⟩ => ⟨S_, .f32⟩
  | .hbm, ⟨21, _⟩ => ⟨S4x1024x1536, .f32⟩
  | .hbm, ⟨22, _⟩ => ⟨S4x1024x1536, .f32⟩
  | .hbm, ⟨23, _⟩ => ⟨S_, .f32⟩
  | .hbm, ⟨24, _⟩ => ⟨S4x1024x1536, .f32⟩
  | .hbm, ⟨25, _⟩ => ⟨S4x1024x1536, .f32⟩
  | .hbm, ⟨26, _⟩ => ⟨S4x1024x1536, .f32⟩
  | .hbm, ⟨27, _⟩ => ⟨S_, .f32⟩
  | .hbm, ⟨28, _⟩ => ⟨S4x1024x1536, .f32⟩
  | .hbm, ⟨29, _⟩ => ⟨S4x1024x1536, .f32⟩
  | .hbm, ⟨30, _⟩ => ⟨S4x1024x1536, .f32⟩
  | .hbm, ⟨31, _⟩ => ⟨S_, .f32⟩
  | .hbm, ⟨32, _⟩ => ⟨S4x1024x1536, .f32⟩
  | .hbm, ⟨33, _⟩ => ⟨S4x1024x1536, .f32⟩
  | .hbm, ⟨34, _⟩ => ⟨S4x1024x1536, .f32⟩
  | .hbm, ⟨35, _⟩ => ⟨S_, .f32⟩
  | .hbm, ⟨36, _⟩ => ⟨S4x1024x1536, .f32⟩
  | .hbm, ⟨37, _⟩ => ⟨S4x1024x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamConv.lean ====
abbrev S4x4x384 : Shape := ⟨3, ![4, 4, 384]⟩
abbrev S4096x1536 : Shape := ⟨2, ![4096, 1536]⟩
abbrev S16x384 : Shape := ⟨2, ![16, 384]⟩

abbrev nBuf : Space → Nat
  | .hbm => 13
  | .vmem => 8
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S4096x1536, .f32⟩
  | .hbm, ⟨5, _⟩ => ⟨S16x384, .f32⟩
  | .hbm, ⟨6, _⟩ => ⟨S16x384, .f32⟩
  | .hbm, ⟨7, _⟩ => ⟨S16x384, .f32⟩
  | .hbm, ⟨8, _⟩ => ⟨S16x384, .f32⟩
  | .hbm, ⟨9, _⟩ => ⟨S16x384, .f32⟩
  | .hbm, ⟨10, _⟩ => ⟨S16x384, .f32⟩
  | .hbm, ⟨11, _⟩ => ⟨S16x384, .f32⟩
  | .hbm, ⟨12, _⟩ => ⟨S16x384, .f32⟩
  | .local _ .vmem, ⟨0, _⟩ => ⟨S16x384, .f32⟩
  | .local _ .vmem, ⟨1, _⟩ => ⟨S16x384, .f32⟩
  | .local _ .vmem, ⟨2, _⟩ => ⟨S16x384, .f32⟩
  | .local _ .vmem, ⟨3, _⟩ => ⟨S16x384, .f32⟩
  | .local _ .vmem, ⟨4, _⟩ => ⟨S16x384, .f32⟩
  | .local _ .vmem, ⟨5, _⟩ => ⟨S16x384, .f32⟩
  | .local _ .vmem, ⟨6, _⟩ => ⟨S16x384, .f32⟩
  | .local _ .vmem, ⟨7, _⟩ => ⟨S16x384, .f32⟩
  | _, _ => ⟨S4x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamConvIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamConvRefIdeal.lean ====
abbrev S4x4x384 : Shape := ⟨3, ![4, 4, 384]⟩
abbrev S4096x1536 : Shape := ⟨2, ![4096, 1536]⟩
abbrev S_ : Shape := ⟨0, ![]⟩
abbrev S16x384 : Shape := ⟨2, ![16, 384]⟩

abbrev nBuf : Space → Nat
  | .hbm => 42
  | .vmem => 0
  | .smem => 0
  | _ => 0

abbrev bufTy : (tb : Table) → Fin (tcTables nBuf tb) → BufTy
  | .hbm, ⟨0, _⟩ => ⟨S4x4x384, .f32⟩
  | .hbm, ⟨1, _⟩ => ⟨S4x4x384, .f32⟩
  | .hbm, ⟨2, _⟩ => ⟨S4x4x384, .f32⟩
  | .hbm, ⟨3, _⟩ => ⟨S4x4x384, .f32⟩
  | .hbm, ⟨4, _⟩ => ⟨S4096x1536, .f32⟩
  | .hbm, ⟨5, _⟩ => ⟨S_, .f32⟩
  | .hbm, ⟨6, _⟩ => ⟨S4x4x384, .f32⟩
  | .hbm, ⟨7, _⟩ => ⟨S4x4x384, .f32⟩
  | .hbm, ⟨8, _⟩ => ⟨S_, .f32⟩
  | .hbm, ⟨9, _⟩ => ⟨S4x4x384, .f32⟩
  | .hbm, ⟨10, _⟩ => ⟨S4x4x384, .f32⟩
  | .hbm, ⟨11, _⟩ => ⟨S4x4x384, .f32⟩
  | .hbm, ⟨12, _⟩ => ⟨S_, .f32⟩
  | .hbm, ⟨13, _⟩ => ⟨S4x4x384, .f32⟩
  | .hbm, ⟨14, _⟩ => ⟨S4x4x384, .f32⟩
  | .hbm, ⟨15, _⟩ => ⟨S4x4x384, .f32⟩
  | .hbm, ⟨16, _⟩ => ⟨S_, .f32⟩
  | .hbm, ⟨17, _⟩ => ⟨S4x4x384, .f32⟩
  | .hbm, ⟨18, _⟩ => ⟨S4x4x384, .f32⟩
  | .hbm, ⟨19, _⟩ => ⟨S4x4x384, .f32⟩
  | .hbm, ⟨20, _⟩ => ⟨S_, .f32⟩
  | .hbm, ⟨21, _⟩ => ⟨S4x4x384, .f32⟩
  | .hbm, ⟨22, _⟩ => ⟨S4x4x384, .f32⟩
  | .hbm, ⟨23, _⟩ => ⟨S_, .f32⟩
  | .hbm, ⟨24, _⟩ => ⟨S4x4x384, .f32⟩
  | .hbm, ⟨25, _⟩ => ⟨S4x4x384, .f32⟩
  | .hbm, ⟨26, _⟩ => ⟨S4x4x384, .f32⟩
  | .hbm, ⟨27, _⟩ => ⟨S_, .f32⟩
  | .hbm, ⟨28, _⟩ => ⟨S4x4x384, .f32⟩
  | .hbm, ⟨29, _⟩ => ⟨S4x4x384, .f32⟩
  | .hbm, ⟨30, _⟩ => ⟨S4x4x384, .f32⟩
  | .hbm, ⟨31, _⟩ => ⟨S_, .f32⟩
  | .hbm, ⟨32, _⟩ => ⟨S4x4x384, .f32⟩
  | .hbm, ⟨33, _⟩ => ⟨S4x4x384, .f32⟩
  | .hbm, ⟨34, _⟩ => ⟨S4x4x384, .f32⟩
  | .hbm, ⟨35, _⟩ => ⟨S_, .f32⟩
  | .hbm, ⟨36, _⟩ => ⟨S4x4x384, .f32⟩
  | .hbm, ⟨37, _⟩ => ⟨S4x4x384, .f32⟩
  | .hbm, ⟨38, _⟩ => ⟨S16x384, .f32⟩
  | .hbm, ⟨39, _⟩ => ⟨S16x384, .f32⟩
  | .hbm, ⟨40, _⟩ => ⟨S16x384, .f32⟩
  | .hbm, ⟨41, _⟩ => ⟨S16x384, .f32⟩
  | _, _ => ⟨S4x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== AdamSmall.lean ====
abbrev S48x1024 : Shape := ⟨2, ![48, 1024]⟩
abbrev S16x384 : Shape := ⟨2, ![16, 384]⟩

abbrev nBuf : Space → Nat
  | .hbm => 9
  | .vmem => 8
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S16x384, .f32⟩
  | .hbm, ⟨5, _⟩ => ⟨S48x1024, .f32⟩
  | .hbm, ⟨6, _⟩ => ⟨S48x1024, .f32⟩
  | .hbm, ⟨7, _⟩ => ⟨S48x1024, .f32⟩
  | .hbm, ⟨8, _⟩ => ⟨S48x1024, .f32⟩
  | .local _ .vmem, ⟨0, _⟩ => ⟨S48x1024, .f32⟩
  | .local _ .vmem, ⟨1, _⟩ => ⟨S48x1024, .f32⟩
  | .local _ .vmem, ⟨2, _⟩ => ⟨S48x1024, .f32⟩
  | .local _ .vmem, ⟨3, _⟩ => ⟨S48x1024, .f32⟩
  | .local _ .vmem, ⟨4, _⟩ => ⟨S48x1024, .f32⟩
  | .local _ .vmem, ⟨5, _⟩ => ⟨S48x1024, .f32⟩
  | .local _ .vmem, ⟨6, _⟩ => ⟨S48x1024, .f32⟩
  | .local _ .vmem, ⟨7, _⟩ => ⟨S48x1024, .f32⟩
  | _, _ => ⟨S48x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S48x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S48x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S48x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S48x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S48x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S48x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamSmallRefIdeal.lean ====
abbrev S48x1024 : Shape := ⟨2, ![48, 1024]⟩
abbrev S16x384 : Shape := ⟨2, ![16, 384]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S48x1024, .f32⟩
  | .hbm, ⟨1, _⟩ => ⟨S48x1024, .f32⟩
  | .hbm, ⟨2, _⟩ => ⟨S48x1024, .f32⟩
  | .hbm, ⟨3, _⟩ => ⟨S48x1024, .f32⟩
  | .hbm, ⟨4, _⟩ => ⟨S16x384, .f32⟩
  | .hbm, ⟨5, _⟩ => ⟨S_, .f32⟩
  | .hbm, ⟨6, _⟩ => ⟨S48x1024, .f32⟩
  | .hbm, ⟨7, _⟩ => ⟨S48x1024, .f32⟩
  | .hbm, ⟨8, _⟩ => ⟨S_, .f32⟩
  | .hbm, ⟨9, _⟩ => ⟨S48x1024, .f32⟩
  | .hbm, ⟨10, _⟩ => ⟨S48x1024, .f32⟩
  | .hbm, ⟨11, _⟩ => ⟨S48x1024, .f32⟩
  | .hbm, ⟨12, _⟩ => ⟨S_, .f32⟩
  | .hbm, ⟨13, _⟩ => ⟨S48x1024, .f32⟩
  | .hbm, ⟨14, _⟩ => ⟨S48x1024, .f32⟩
  | .hbm, ⟨15, _⟩ => ⟨S48x1024, .f32⟩
  | .hbm, ⟨16, _⟩ => ⟨S_, .f32⟩
  | .hbm, ⟨17, _⟩ => ⟨S48x1024, .f32⟩
  | .hbm, ⟨18, _⟩ => ⟨S48x1024, .f32⟩
  | .hbm, ⟨19, _⟩ => ⟨S48x1024, .f32⟩
  | .hbm, ⟨20, _⟩ => ⟨S_, .f32⟩
  | .hbm, ⟨21, _⟩ => ⟨S48x1024, .f32⟩
  | .hbm, ⟨22, _⟩ => ⟨S48x1024, .f32⟩
  | .hbm, ⟨23, _⟩ => ⟨S_, .f32⟩
  | .hbm, ⟨24, _⟩ => ⟨S48x1024, .f32⟩
  | .hbm, ⟨25, _⟩ => ⟨S48x1024, .f32⟩
  | .hbm, ⟨26, _⟩ => ⟨S48x1024, .f32⟩
  | .hbm, ⟨27, _⟩ => ⟨S_, .f32⟩
  | .hbm, ⟨28, _⟩ => ⟨S48x1024, .f32⟩
  | .hbm, ⟨29, _⟩ => ⟨S48x1024, .f32⟩
  | .hbm, ⟨30, _⟩ => ⟨S48x1024, .f32⟩
  | .hbm, ⟨31, _⟩ => ⟨S_, .f32⟩
  | .hbm, ⟨32, _⟩ => ⟨S48x1024, .f32⟩
  | .hbm, ⟨33, _⟩ => ⟨S48x1024, .f32⟩
  | .hbm, ⟨34, _⟩ => ⟨S48x1024, .f32⟩
  | .hbm, ⟨35, _⟩ => ⟨S_, .f32⟩
  | .hbm, ⟨36, _⟩ => ⟨S48x1024, .f32⟩
  | .hbm, ⟨37, _⟩ => ⟨S48x1024, .f32⟩
  | _, _ => ⟨S48x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamFf2.lean ====
abbrev S4x1024x1024 : Shape := ⟨3, ![4, 1024, 1024]⟩
abbrev S3x1024x1024 : Shape := ⟨3, ![3, 1024, 1024]⟩
abbrev S1x1024x1024 : Shape := ⟨3, ![1, 1024, 1024]⟩
abbrev S4096x1024 : Shape := ⟨2, ![4096, 1024]⟩
abbrev S3072x1024 : Shape := ⟨2, ![3072, 1024]⟩
abbrev S256x1024 : Shape := ⟨2, ![256, 1024]⟩
abbrev S1024x1024 : Shape := ⟨2, ![1024, 1024]⟩

abbrev nBuf : Space → Nat
  | .hbm => 23
  | .vmem => 32
  | .smem => 0
  | _ => 0

abbrev bufTy : (tb : Table) → Fin (tcTables nBuf tb) → BufTy
  | .hbm, ⟨0, _⟩ => ⟨S4x1024x1024, .f32⟩
  | .hbm, ⟨1, _⟩ => ⟨S3x1024x1024, .f32⟩
  | .hbm, ⟨2, _⟩ => ⟨S1x1024x1024, .f32⟩
  | .hbm, ⟨3, _⟩ => ⟨S4x1024x1024, .f32⟩
  | .hbm, ⟨4, _⟩ => ⟨S4x1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S3072x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1024x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_9 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_10 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_11 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc1_transform_12 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== AdamFf2Ideal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamFf2RefIdeal.lean ====
abbrev S4x1024x1024 : Shape := ⟨3, ![4, 1024, 1024]⟩
abbrev S3x1024x1024 : Shape := ⟨3, ![3, 1024, 1024]⟩
abbrev S1x1024x1024 : Shape := ⟨3, ![1, 1024, 1024]⟩
abbrev S4096x1024 : Shape := ⟨2, ![4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S3x1024x1024, .f32⟩
  | .hbm, ⟨2, _⟩ => ⟨S1x1024x1024, .f32⟩
  | .hbm, ⟨3, _⟩ => ⟨S4x1024x1024, .f32⟩
  | .hbm, ⟨4, _⟩ => ⟨S4x1024x1024, .f32⟩
  | .hbm, ⟨5, _⟩ => ⟨S4096x1024, .f32⟩
  | .hbm, ⟨6, _⟩ => ⟨S4096x1024, .f32⟩
  | .hbm, ⟨7, _⟩ => ⟨S4x1024x1024, .f32⟩
  | .hbm, ⟨8, _⟩ => ⟨S_, .f32⟩
  | .hbm, ⟨9, _⟩ => ⟨S4x1024x1024, .f32⟩
  | .hbm, ⟨10, _⟩ => ⟨S4x1024x1024, .f32⟩
  | .hbm, ⟨11, _⟩ => ⟨S_, .f32⟩
  | .hbm, ⟨12, _⟩ => ⟨S4x1024x1024, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S_, .f32⟩
  | .hbm, ⟨27, _⟩ => ⟨S4x1024x1024, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamIn.lean ====
abbrev S4x1024x2820 : Shape := ⟨3, ![4, 1024, 2820]⟩
abbrev S3x2820x1024 : Shape := ⟨3, ![3, 2820, 1024]⟩
abbrev S1x2820x1024 : Shape := ⟨3, ![1, 2820, 1024]⟩
abbrev S8x128 : Shape := ⟨2, ![8, 128]⟩
abbrev S4x2820x1024 : Shape := ⟨3, ![4, 2820, 1024]⟩
abbrev S1x2820x128 : Shape := ⟨3, ![1, 2820, 128]⟩
abbrev S2820x128 : Shape := ⟨2, ![2820, 128]⟩

abbrev nBuf : Space → Nat
  | .hbm => 21
  | .vmem => 32
  | .smem => 0
  | _ => 0

abbrev bufTy : (tb : Table) → Fin (tcTables nBuf tb) → BufTy
  | .hbm, ⟨0, _⟩ => ⟨S4x1024x2820, .f32⟩
  | .hbm, ⟨1, _⟩ => ⟨S3x2820x1024, .f32⟩
  | .hbm, ⟨2, _⟩ => ⟨S1x2820x1024, .f32⟩
  | .hbm, ⟨3, _⟩ => ⟨S4x1024x2820, .f32⟩
  | .hbm, ⟨4, _⟩ => ⟨S4x1024x2820, .f32⟩
  | .hbm, ⟨5, _⟩ => ⟨S8x128, .f32⟩
  | .hbm, ⟨6, _⟩ => ⟨S4x2820x1024, .f32⟩
  | .hbm, ⟨7, _⟩ => ⟨S4x2820x1024, .f32⟩
  | .hbm, ⟨8, _⟩ => ⟨S4x2820x1024, .f32⟩
  | .hbm, ⟨9, _⟩ => ⟨S4x2820x1024, .f32⟩
  | .hbm, ⟨10, _⟩ => ⟨S4x2820x1024, .f32⟩
  | .hbm, ⟨11, _⟩ => ⟨S4x2820x1024, .f32⟩
  | .hbm, ⟨12, _⟩ => ⟨S4x2820x1024, .f32⟩
  | .hbm, ⟨13, _⟩ => ⟨S4x2820x1024, .f32⟩
  | .hbm, ⟨14, _⟩ => ⟨S4x2820x1024, .f32⟩
  | .hbm, ⟨15, _⟩ => ⟨S4x2820x1024, .f32⟩
  | .hbm, ⟨16, _⟩ => ⟨S4x2820x1024, .f32⟩
  | .hbm, ⟨17, _⟩ => ⟨S4x1024x2820, .f32⟩
  | .hbm, ⟨18, _⟩ => ⟨S4x1024x2820, .f32⟩
  | .hbm, ⟨19, _⟩ => ⟨S4x1024x2820, .f32⟩
  | .hbm, ⟨20, _⟩ => ⟨S4x1024x2820, .f32⟩
  | .local _ .vmem, ⟨0, _⟩ => ⟨S1x2820x128, .f32⟩
  | .local _ .vmem, ⟨1, _⟩ => ⟨S1x2820x128, .f32⟩
  | .local _ .vmem, ⟨2, _⟩ => ⟨S1x2820x128, .f32⟩
  | .local _ .vmem, ⟨3, _⟩ => ⟨S1x2820x128, .f32⟩
  | .local _ .vmem, ⟨4, _⟩ => ⟨S1x2820x128, .f32⟩
  | .local _ .vmem, ⟨5, _⟩ => ⟨S1x2820x128, .f32⟩
  | .local _ .vmem, ⟨6, _⟩ => ⟨S1x2820x128, .f32⟩
  | .local _ .vmem, ⟨7, _⟩ => ⟨S1x2820x128, .f32⟩
  | .local _ .vmem, ⟨8, _⟩ => ⟨S1x2820x128, .f32⟩
  | .local _ .vmem, ⟨9, _⟩ => ⟨S1x2820x128, .f32⟩
  | .local _ .vmem, ⟨10, _⟩ => ⟨S1x2820x128, .f32⟩
  | .local _ .vmem, ⟨11, _⟩ => ⟨S1x2820x128, .f32⟩
  | .local _ .vmem, ⟨12, _⟩ => ⟨S1x2820x128, .f32⟩
  | .local _ .vmem, ⟨13, _⟩ => ⟨S1x2820x128, .f32⟩
  | .local _ .vmem, ⟨14, _⟩ => ⟨S1x2820x128, .f32⟩
  | .local _ .vmem, ⟨15, _⟩ => ⟨S1x2820x128, .f32⟩
  | .local _ .vmem, ⟨16, _⟩ => ⟨S1x2820x128, .f32⟩
  | .local _ .vmem, ⟨17, _⟩ => ⟨S1x2820x128, .f32⟩
  | .local _ .vmem, ⟨18, _⟩ => ⟨S1x2820x128, .f32⟩
  | .local _ .vmem, ⟨19, _⟩ => ⟨S1x2820x128, .f32⟩
  | .local _ .vmem, ⟨20, _⟩ => ⟨S1x2820x128, .f32⟩
  | .local _ .vmem, ⟨21, _⟩ => ⟨S1x2820x128, .f32⟩
  | .local _ .vmem, ⟨22, _⟩ => ⟨S1x2820x128, .f32⟩
  | .local _ .vmem, ⟨23, _⟩ => ⟨S1x2820x128, .f32⟩
  | .local _ .vmem, ⟨24, _⟩ => ⟨S1x2820x128, .f32⟩
  | .local _ .vmem, ⟨25, _⟩ => ⟨S1x2820x128, .f32⟩
  | .local _ .vmem, ⟨26, _⟩ => ⟨S1x2820x128, .f32⟩
  | .local _ .vmem, ⟨27, _⟩ => ⟨S1x2820x128, .f32⟩
  | .local _ .vmem, ⟨28, _⟩ => ⟨S1x2820x128, .f32⟩
  | .local _ .vmem, ⟨29, _⟩ => ⟨S1x2820x128, .f32⟩
  | .local _ .vmem, ⟨30, _⟩ => ⟨S1x2820x128, .f32⟩
  | .local _ .vmem, ⟨31, _⟩ => ⟨S1x2820x128, .f32⟩
  | _, _ => ⟨S4x1024x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31

abbrev nD : Nat := 1
abbrev τ : Topo := Topo.v7x

variable {F : FTy → Type} [FloatOps F]

abbrev grid0 : Pipeline.Grid := ⟨2, ![3, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat, arg1.toNat]

abbrev stage0_0 : Fin 2 → Memref sig .tc .vmem S1x2820x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2820x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2820x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2820x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2820x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2820x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2820x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2820x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat, arg1.toNat]

abbrev stage1_0 : Fin 2 → Memref sig .tc .vmem S1x2820x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2820x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2820x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2820x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2820x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2820x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x2820x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x2820x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== AdamInIdeal.lean ====
variable {F : FTy → Type} [FloatOps F] [Named F]
def κ : String → Option EReal := fun
  | "bias1" => some ((8388608 / 5463681 : ℝ) : EReal)
  | "bias2" => some ((268435456 / 2672307 : ℝ) : EReal)
  | _ => none
-- ==== AdamInRefIdeal.lean ====
abbrev S4x1024x2820 : Shape := ⟨3, ![4, 1024, 2820]⟩
abbrev S3x2820x1024 : Shape := ⟨3, ![3, 2820, 1024]⟩
abbrev S1x2820x1024 : Shape := ⟨3, ![1, 2820, 1024]⟩
abbrev S8x128 : Shape := ⟨2, ![8, 128]⟩
abbrev S4x2820x1024 : Shape := ⟨3, ![4, 2820, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4x1024x2820, .f32⟩
  | .hbm, ⟨1, _⟩ => ⟨S3x2820x1024, .f32⟩
  | .hbm, ⟨2, _⟩ => ⟨S1x2820x1024, .f32⟩
  | .hbm, ⟨3, _⟩ => ⟨S4x1024x2820, .f32⟩
  | .hbm, ⟨4, _⟩ => ⟨S4x1024x2820, .f32⟩
  | .hbm, ⟨5, _⟩ => ⟨S8x128, .f32⟩
  | .hbm, ⟨6, _⟩ => ⟨S4x2820x1024, .f32⟩
  | .hbm, ⟨7, _⟩ => ⟨S4x1024x2820, .f32⟩
  | .hbm, ⟨8, _⟩ => ⟨S_, .f32⟩
  | .hbm, ⟨9, _⟩ => ⟨S4x1024x2820, .f32⟩
  | .hbm, ⟨10, _⟩ => ⟨S4x1024x2820, .f32⟩
  | .hbm, ⟨11, _⟩ => ⟨S_, .f32⟩
  | .hbm, ⟨12, _⟩ => ⟨S4x1024x2820, .f32⟩
  | .hbm, ⟨13, _⟩ => ⟨S4x1024x2820, .f32⟩
  | .hbm, ⟨14, _⟩ => ⟨S4x1024x2820, .f32⟩
  | .hbm, ⟨15, _⟩ => ⟨S_, .f32⟩
  | .hbm, ⟨16, _⟩ => ⟨S4x1024x2820, .f32⟩
  | .hbm, ⟨17, _⟩ => ⟨S4x1024x2820, .f32⟩
  | .hbm, ⟨18, _⟩ => ⟨S4x1024x2820, .f32⟩
  | .hbm, ⟨19, _⟩ => ⟨S_, .f32⟩
  | .hbm, ⟨20, _⟩ => ⟨S4x1024x2820, .f32⟩
  | .hbm, ⟨21, _⟩ => ⟨S4x1024x2820, .f32⟩
  | .hbm, ⟨22, _⟩ => ⟨S4x1024x2820, .f32⟩
  | .hbm, ⟨23, _⟩ => ⟨S_, .f32⟩
  | .hbm, ⟨24, _⟩ => ⟨S4x1024x2820, .f32⟩
  | .hbm, ⟨25, _⟩ => ⟨S4x1024x2820, .f32⟩
  | .hbm, ⟨26, _⟩ => ⟨S_, .f32⟩
  | .hbm, ⟨27, _⟩ => ⟨S4x1024x2820, .f32⟩
  | .hbm, ⟨28, _⟩ => ⟨S4x1024x2820, .f32⟩
  | .hbm, ⟨29, _⟩ => ⟨S4x1024x2820, .f32⟩
  | .hbm, ⟨30, _⟩ => ⟨S_, .f32⟩
  | .hbm, ⟨31, _⟩ => ⟨S4x1024x2820, .f32⟩
  | .hbm, ⟨32, _⟩ => ⟨S4x1024x2820, .f32⟩
  | .hbm, ⟨33, _⟩ => ⟨S4x1024x2820, .f32⟩
  | .hbm, ⟨34, _⟩ => ⟨S_, .f32⟩
  | .hbm, ⟨35, _⟩ => ⟨S4x1024x2820, .f32⟩
  | .hbm, ⟨36, _⟩ => ⟨S4x1024x2820, .f32⟩
  | .hbm, ⟨37, _⟩ => ⟨S4x1024x2820, .f32⟩
  | .hbm, ⟨38, _⟩ => ⟨S_, .f32⟩
  | .hbm, ⟨39, _⟩ => ⟨S4x1024x2820, .f32⟩
  | .hbm, ⟨40, _⟩ => ⟨S4x1024x2820, .f32⟩
  | _, _ => ⟨S4x1024x2820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Proof.Blocked.lean ====
/- Sums in blocks: a product whose contracted axis is worked block by block, the blocks' shares added up in an
   accumulator, is the product over the whole axis.  Nothing but the commutative addition is used, so the fact holds over
   the extended reals, infinities included. -/
module

public import Idealize.ShloMosaic.Lib.Pointwise
public import Idealize.ShloMosaic.Lib.ValueIdx

@[expose] public section

noncomputable section

namespace Cert.Blocked

open Idealize.ShloMosaic
open scoped BigOperators

/-- Two indices with the same coordinates read the same entry. -/
theorem idx_congr {s : Shape} {α : Type} (f : s.Idx → α) (i j : s.Idx) (h : ∀ a, (i a).val = (j a).val) : f i = f j :=
  congrArg f (funext fun a => Fin.ext (h a))

/-- An index of a matrix is its row and its column. -/
theorem eta2 {n m : ℕ} (i : (⟨2, ![n, m]⟩ : Shape).Idx) : i = ix2 (i 0) (i 1) := by
  funext a
  match a with
  | ⟨0, _⟩ => rfl
  | ⟨1, _⟩ => rfl

/-- An index of an array of four axes is its four coordinates. -/
theorem eta4 {n m k l : ℕ} (i : (⟨4, ![n, m, k, l]⟩ : Shape).Idx) : i = ix4 (i 0) (i 1) (i 2) (i 3) := by
  funext a
  match a with
  | ⟨0, _⟩ => rfl
  | ⟨1, _⟩ => rfl
  | ⟨2, _⟩ => rfl
  | ⟨3, _⟩ => rfl

/-- The two leading axes of a block of one slice have one index each. -/
theorem unit_idx {n m : ℕ} (i : (⟨4, ![1, 1, n, m]⟩ : Shape).Idx) : i = ix4 0 0 (i 2) (i 3) := by
  funext a
  match a with
  | ⟨0, _⟩ => exact Fin.ext (Nat.lt_one_iff.1 (i 0).isLt)
  | ⟨1, _⟩ => exact Fin.ext (Nat.lt_one_iff.1 (i 1).isLt)
  | ⟨2, _⟩ => rfl
  | ⟨3, _⟩ => rfl

/-- Two axes, one by one. -/
theorem on2 {p : Fin 2 → Prop} (h0 : p 0) (h1 : p 1) : ∀ a, p a := Fin.forall_fin_two.2 ⟨h0, h1⟩

/-- Three axes, one by one. -/
theorem on3 {p : Fin 3 → Prop} (h0 : p 0) (h1 : p 1) (h2 : p 2) : ∀ a, p a := Fin.forall_fin_succ.2 ⟨h0, on2 h1 h2⟩

/-- Four axes, one by one. -/
theorem on4 {p : Fin 4 → Prop} (h0 : p 0) (h1 : p 1) (h2 : p 2) (h3 : p 3) : ∀ a, p a := Fin.forall_fin_succ.2 ⟨h0, on3 h1 h2 h3⟩

/-- The sum, over the blocks, of the sums within each block is the sum over all. -/
theorem sum_blocks {M : Type*} [AddCommMonoid M] (P B : ℕ) (f : ℕ → M) :
    ∑ l ∈ Finset.range P, ∑ k ∈ Finset.range B, f (l * B + k) = ∑ k ∈ Finset.range (P * B), f k := by
  induction P with
  | zero => simp
  | succ P ih => rw [Finset.sum_range_succ, ih, Nat.succ_mul, Finset.sum_range_add]

/-- The same, the sums over finite index sets. -/
theorem sum_blocks_fin {M : Type*} [AddCommMonoid M] (P B K : ℕ) (hK : P * B = K) (f : ℕ → M) :
    ∑ l ∈ Finset.range P, ∑ k : Fin B, f (l * B + k.val) = ∑ k : Fin K, f k.val := by
  subst hK
  rw [Fin.sum_univ_eq_sum_range (fun k => f k), ← sum_blocks]
  refine Finset.sum_congr rfl fun l _ => ?_
  exact Fin.sum_univ_eq_sum_range (fun k => f (l * B + k)) B

/-- An accumulator that every `P`-th point starts anew and the others add to holds, after `j` points of a pass, the sum
    of the pass's shares so far. -/
theorem acc_eq {M : Type*} [AddCommMonoid M] (P N : ℕ) (acc part : (n : ℕ) → n < N → M)
    (hA : ∀ n h, n % P = 0 → acc n h = part n h)
    (hB : ∀ n h, n % P ≠ 0 → n % P ≠ P - 1 → acc n h = acc (n - 1) (by omega) + part n h)
    (b j : ℕ) (hj : j + 1 < P) (h : P * b + j < N) :
    acc (P * b + j) h = ∑ l ∈ Finset.range (j + 1), if hl : P * b + l < N then part (P * b + l) hl else 0 := by
  induction j with
  | zero =>
    rw [hA _ _ (by simp), Finset.sum_range_one, dif_pos h]
  | succ j ih =>
    have e : (P * b + (j + 1)) % P = j + 1 := by rw [Nat.mul_add_mod, Nat.mod_eq_of_lt (by omega)]
    rw [hB _ _ (by omega) (by omega), Finset.sum_range_succ, dif_pos h, ← ih (by omega) (by omega)]
    rfl

/-- What the last point of a pass writes, its own share added to the accumulator, is the sum of all the pass's shares. -/
theorem out_eq {M : Type*} [AddCommMonoid M] (P N : ℕ) (hP : 2 ≤ P) (acc out part : (n : ℕ) → n < N → M)
    (hA : ∀ n h, n % P = 0 → acc n h = part n h)
    (hB : ∀ n h, n % P ≠ 0 → n % P ≠ P - 1 → acc n h = acc (n - 1) (by omega) + part n h)
    (hC : ∀ n h, n % P = P - 1 → out n h = acc (n - 1) (by omega) + part n h)
    (b : ℕ) (h : P * b + (P - 1) < N) :
    out (P * b + (P - 1)) h = ∑ l ∈ Finset.range P, if hl : P * b + l < N then part (P * b + l) hl else 0 := by
  obtain ⟨Q, rfl⟩ : ∃ Q, P = Q + 2 := ⟨P - 2, by omega⟩
  have e : ((Q + 2) * b + (Q + 1)) % (Q + 2) = Q + 1 := by rw [Nat.mul_add_mod, Nat.mod_eq_of_lt (by omega)]
  have h' : (Q + 2) * b + Q < N := by omega
  rw [Finset.sum_range_succ, ← acc_eq (Q + 2) N acc part hA hB b Q (by omega) h', dif_pos (show (Q + 2) * b + (Q + 1) < N from h)]
  exact hC _ h e

/-- The same, read at the point that ends a pass: where each point of the pass contributes the products of one block of
    the contracted axis, the point that ends it writes the sum of the products over the whole axis. -/
theorem pass_sum {M : Type*} [AddCommMonoid M] (P B K N : ℕ) (hP : 2 ≤ P) (hK : P * B = K) (acc out part : (n : ℕ) → n < N → M)
    (hA : ∀ n h, n % P = 0 → acc n h = part n h)
    (hB : ∀ n h, n % P ≠ 0 → n % P ≠ P - 1 → acc n h = acc (n - 1) (by omega) + part n h)
    (hC : ∀ n h, n % P = P - 1 → out n h = acc (n - 1) (by omega) + part n h)
    (t : ℕ) (ht : t < N) (hlast : t % P = P - 1) (f : Fin K → M)
    (hpart : ∀ n (hn : n < N) (l : ℕ), n % P = l → n / P = t / P → ∀ hl : ∀ k : Fin B, l * B + k.val < K,
      part n hn = ∑ k : Fin B, f ⟨l * B + k.val, hl k⟩) :
    out t ht = ∑ k : Fin K, f k := by
  have e : t = P * (t / P) + (P - 1) := by have := Nat.div_add_mod t P; omega
  have hin (l : ℕ) (hl : l < P) (k : Fin B) : l * B + k.val < K := by
    have h1 : (l + 1) * B ≤ P * B := Nat.mul_le_mul_right B hl
    have := k.isLt
    rw [Nat.succ_mul] at h1
    omega
  have h := out_eq P N hP acc out part hA hB hC (t / P) (by omega)
  have e' : out t ht = out (P * (t / P) + (P - 1)) (by omega) := by congr 1
  rw [e', h]
  refine Eq.trans ?_ ((sum_blocks_fin P B K hK fun k => if hk : k < K then f ⟨k, hk⟩ else 0).trans
    (Finset.sum_congr rfl fun k _ => dif_pos k.isLt))
  refine Finset.sum_congr rfl fun l hl => ?_
  have hl' : l < P := Finset.mem_range.mp hl
  have hn : P * (t / P) + l < N := by omega
  rw [dif_pos hn, hpart _ hn l (by rw [Nat.mul_add_mod, Nat.mod_eq_of_lt hl'])
    (by rw [Nat.mul_add_div (by omega), Nat.div_eq_of_lt hl', Nat.add_zero]) (hin l hl')]
  refine Finset.sum_congr rfl fun k _ => ?_
  rw [dif_pos (hin l hl' k)]

/-- A row times a column. -/
def dot {K : ℕ} (f g : Fin K → EReal) : EReal := ∑ k, f k * g k

/-- The factors of a block's product are entries of the two whole arrays. -/
theorem dot_congr {K : ℕ} {a b a' b' : Fin K → EReal} (h : ∀ k, a k = a' k ∧ b k = b' k) : dot a b = dot a' b' :=
  Finset.sum_congr rfl fun k _ => by rw [(h k).1, (h k).2]

/-- A pass over the contracted axis of a product: what its last point writes is the product of the whole row and the whole
    column, where each point takes its own block of the row and of the column. -/
theorem pass_dot (P B K N : ℕ) (hP : 2 ≤ P) (hK : P * B = K) (acc out : (n : ℕ) → n < N → EReal) (l r : Fin N → Fin B → EReal)
    (f g : Fin K → EReal) (t : Fin N) (ht : t.val % P = P - 1)
    (hA : ∀ n : Fin N, n.val % P = 0 → acc n.val n.isLt = dot (l n) (r n))
    (hB : ∀ n : Fin N, n.val % P ≠ 0 → n.val % P ≠ P - 1 →
      acc n.val n.isLt = acc (n.val - 1) (Nat.lt_of_le_of_lt (Nat.sub_le _ _) n.isLt) + dot (l n) (r n))
    (hC : ∀ n : Fin N, n.val % P = P - 1 →
      out n.val n.isLt = acc (n.val - 1) (Nat.lt_of_le_of_lt (Nat.sub_le _ _) n.isLt) + dot (l n) (r n))
    (h : ∀ n : Fin N, n.val / P = t.val / P → ∀ (k : Fin B) (hk : n.val % P * B + k.val < K), l n k = f ⟨_, hk⟩ ∧ r n k = g ⟨_, hk⟩) :
    out t.val t.isLt = dot f g := by
  refine pass_sum P B K N hP hK acc out (fun n hn => dot (l ⟨n, hn⟩) (r ⟨n, hn⟩)) (fun n hn => hA ⟨n, hn⟩)
    (fun n hn => hB ⟨n, hn⟩) (fun n hn => hC ⟨n, hn⟩) t.val t.isLt ht (fun k => f k * g k) ?_
  rintro n hn _ rfl e hl
  exact dot_congr fun k => h ⟨n, hn⟩ e k (hl k)

/-- Of three slots side by side the middle one is replaced: before it and after it the old entry is read. -/
theorem slot {α : Type} {n : ℕ} (hn : n < 3) (b s s' : α) (b' : ¬ n < 1 → ¬ n - 1 < 1 → α) (hs : s = s')
    (hb : ∀ h h', n = 2 → b' h h' = b) :
    (if h : n < 1 then b else if h' : n - 1 < 1 then s else b' h h') = if n = 1 then s' else b := by
  by_cases e : n < 1
  · rw [dif_pos e, if_neg (by omega)]
  · by_cases e' : n - 1 < 1
    · rw [dif_neg e, dif_pos e', if_pos (by omega), hs]
    · rw [dif_neg e, dif_neg e', if_neg (by omega), hb _ _ (by omega)]

/-- The third of three slots, counted from the end of the second. -/
theorem slot_last (n : Fin 3) (h : n.val = 2) : 2 + (n.val - 1 - 1) = n.val := by omega

/-- Place `p` of part `a`, where the parts follow one another. -/
def join (A B : ℕ) {N : ℕ} (a : Fin A) (p : Fin B) (h : A * B = N := by norm_num) : Fin N :=
  ⟨a.val * B + p.val, by
    have h1 : (a.val + 1) * B ≤ A * B := Nat.mul_le_mul_right B a.isLt
    have h2 := p.isLt
    rw [Nat.succ_mul] at h1
    omega⟩

/-- The part that place `n` is in, where the parts follow one another. -/
def part {N : ℕ} (A B : ℕ) (n : Fin N) (h : N = A * B := by norm_num) : Fin A :=
  ⟨n.val / B, Nat.div_lt_of_lt_mul (by rw [Nat.mul_comm, ← h]; exact n.isLt)⟩

/-- Where in its part place `n` is. -/
def within {N : ℕ} (B : ℕ) (n : Fin N) (h : 0 < B := by norm_num) : Fin B := ⟨n.val % B, Nat.mod_lt _ h⟩

/-- A product of extended reals in either order. -/
theorem sum_comm_mul {K : ℕ} (f g : Fin K → EReal) : ∑ k, f k * g k = ∑ k, g k * f k :=
  Finset.sum_congr rfl fun _ _ => mul_comm _ _

end Cert.Blocked

end
-- ==== Proof.InProj.lean ====
/- The input projection and its two backward products.

   The weights are not cut in parts.  A block of the inputs' gradient takes six points of the grid, one of the weights'
   gradient two. -/
module

public import proofs.«01_k».proof.Defs
public import proofs.«01_k».proof.Proof.Blocked
public import proofs.«01_k».proof.Proof.Gen.InProj
public import proofs.«01_k».proof.Proof.Gen.InProjIdeal.Value
public import proofs.«01_k».proof.Proof.Gen.InProjRefIdeal.Run
public import proofs.«01_k».proof.Proof.Gen.InProjDx
public import proofs.«01_k».proof.Proof.Gen.InProjDxIdeal.Value
public import proofs.«01_k».proof.Proof.Gen.InProjDxRefIdeal.Run
public import proofs.«01_k».proof.Proof.Gen.InProjDw
public import proofs.«01_k».proof.Proof.Gen.InProjDwIdeal.Value
public import proofs.«01_k».proof.Proof.Gen.InProjDwRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked

namespace Cert.Prf.InProj

open Cert.InProjIdeal Cert.InProjIdeal.Gen

/-- The kernel's frame, from the run of its ideal form. -/
theorem frame : Cert.quiescent_InProj (hInProj := Cert.InProj.Gen.facts) := fun m ρ _ => by
  unfold Cert.InProj.defs
  rw [show Cert.InProj.defs₀ (F := Bits) = Cert.InProjIdeal.defs₀ from
    congrArg Defs.onTc (funext fun l => funext fun a => match l, a with | 0, (t, s) => rfl)]
  exact Gen.frame (F := Bits) m ρ

/-- A point reads a block of rows of each operand and writes the block where they meet. -/
theorem index_eq : ∀ t : Fin cfg0.N, (win0_0.index t 0 = win0_2.index t 0 ∧ win0_0.index t 1 = 0)
    ∧ (win0_1.index t 0 = win0_2.index t 1 ∧ win0_1.index t 1 = 0) := by
  decide +kernel

variable (m : (ℓ : Loc nD τ sig) → Buf (Elt Ideal) ℓ) (c : Dev nD)

/-- The normalised activations. -/
def lhs : Vec Ideal S4096x1024 .bf16 := m ((c : Thread nD τ).loc main_arg0)

/-- The weights, one row for each column of the result. -/
def rhs : Vec Ideal S12288x1024 .bf16 := m ((c : Thread nD τ).loc main_arg1)

/-- The projection, entry by entry. -/
def prod (i : S4096x12288.Idx) : EReal :=
  dot (fun k : Fin 1024 => lhs m c (ix2 (i 0) k)) fun k => rhs m c (ix2 (i 1) k)

/-- What a point leaves in its block. -/
theorem block (t : Fin cfg0.N) (p q : Fin 1024) : (dats m 0 c).after 2 t (ix2 p q)
    = dot (K := 1024) (fun k => iblk m c 0 t (ix2 p k)) fun k => iblk m c 1 t (ix2 q k) := by
  rw [after0_2]
  unfold out0_2
  simp (disch := decide) only [View.canon_cons_unit_lit, View.ld_unit_lit]
  unfold k0_pay1 dot
  pointwise

/-- The blocks make up the projection. -/
theorem arr_eq : (dats m 0 c).arrAt 2 cfg0.N = prod m c := by
  refine (dats m 0 c).arrAt_eq_of_covers 2 _ (by decide +kernel) fun t hf y => ?_
  blk_simp
  rw [eta2 y]
  refine (block m c t _ _).trans (dot_congr fun k => ?_)
  have h := index_eq t
  refine ⟨idx_congr (lhs m c) _ _ (on2 ?_ ?_), idx_congr (rhs m c) _ _ (on2 ?_ ?_)⟩
  all_goals
    blk_simp
    omega

/-- The call and its reference leave the same result. -/
theorem algebraic : Cert.algebraic_InProjIdeal_InProjRefIdeal (hInProjIdeal := Cert.InProjIdeal.Gen.facts)
    (hInProjRefIdeal := Cert.InProjRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.InProjRefIdeal.Value.run m' g')⟩
  rw [(E c).1, (E c).2]
  funext i
  rw [eta2 i]
  unfold prod lhs rhs dot
  pointwise

end Cert.Prf.InProj

namespace Cert.Prf.InProjDx

open Cert.InProjDxIdeal Cert.InProjDxIdeal.Gen

/-- The kernel's frame, from the run of its ideal form. -/
theorem frame : Cert.quiescent_InProjDx (hInProjDx := Cert.InProjDx.Gen.facts) := fun m ρ _ => by
  unfold Cert.InProjDx.defs
  rw [show Cert.InProjDx.defs₀ (F := Bits) = Cert.InProjDxIdeal.defs₀ from
    congrArg Defs.onTc (funext fun l => funext fun a => match l, a with | 0, (t, s) => rfl)]
  exact Gen.frame (F := Bits) m ρ

/-- The sixth points of a pass read the sixths of the contracted axis one after another. -/
theorem index_eq : ∀ n t : Fin cfg0.N, n.val / 6 = t.val / 6 →
    (win0_0.index n 0 = win0_2.index t 0 ∧ win0_0.index n 1 = n.val % 6)
      ∧ (win0_1.index n 0 = n.val % 6 ∧ win0_1.index n 1 = win0_2.index t 1) := by
  decide +kernel

/-- The result is written at the last point of a pass. -/
theorem last_of_flush : ∀ t : Fin cfg0.N, (cfg0.win 2).flush t = true → t.val % 6 = 5 := by
  decide +kernel

variable (m : (ℓ : Loc nD τ sig) → Buf (Elt Ideal) ℓ) (c : Dev nD)

/-- The gradient of the projection. -/
def lhs : Vec Ideal S4096x12288 .bf16 := m ((c : Thread nD τ).loc main_arg0)

/-- The weights. -/
def rhs : Vec Ideal S12288x1024 .bf16 := m ((c : Thread nD τ).loc main_arg1)

/-- The product of the blocks that a point reads. -/
def share (t : Fin cfg0.N) (p q : Fin 1024) : EReal :=
  dot (K := 2048) (fun k => iblk m c 0 t (ix2 p k)) fun k => iblk m c 1 t (ix2 k q)

/-- The first point of a pass starts the accumulator. -/
theorem acc_first (t : Fin cfg0.N) (h : t.val % 6 = 0) (p q : Fin 1024) :
    (outsAt0 m c t.val t.isLt).2 (ix2 p q) = share m c t p q := by
  rw [outsAt0_A m c t h (by omega) (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The four points in the middle add to it. -/
theorem acc_next (t : Fin cfg0.N) (h : t.val % 6 ≠ 0) (h' : t.val % 6 ≠ 5) (p q : Fin 1024) :
    (outsAt0 m c t.val t.isLt).2 (ix2 p q)
      = ((outsAt0 m c (t.val - 1) (Nat.lt_of_le_of_lt (Nat.sub_le _ _) t.isLt)).2 (ix2 p q) : EReal) + share m c t p q := by
  rw [outsAt0_B m c t h (by omega) h']
  unfold sout0_B_0
  rw [View.read_writes_eq_canon _ _ _ (fun y => scover0_B_0 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay3 k0_pay1 share dot
  pointwise

/-- The last one adds its own and writes the block. -/
theorem out_last (t : Fin cfg0.N) (h : t.val % 6 = 5) (p q : Fin 1024) : (outsAt0 m c t.val t.isLt).1 (ix2 p q)
    = ((outsAt0 m c (t.val - 1) (Nat.lt_of_le_of_lt (Nat.sub_le _ _) t.isLt)).2 (ix2 p q) : EReal) + share m c t p q := by
  rw [outsAt0_C m c t (by omega) (by omega) h]
  unfold out0_C_2
  rw [View.read_writes_eq_canon _ _ _ (fun y => cover0_C_2 (y := y) ..)]
  unfold kernelRun0_C; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The gradient, entry by entry. -/
def prod (i : S4096x1024.Idx) : EReal :=
  dot (fun k : Fin 12288 => lhs m c (ix2 (i 0) k)) fun k => rhs m c (ix2 k (i 1))

/-- The blocks make up the gradient. -/
theorem arr_eq : (dats m 0 c).arrAt 2 cfg0.N = prod m c := by
  refine (dats m 0 c).arrAt_eq_of_covers 2 _ (by decide +kernel) fun t hf y => ?_
  blk_simp
  rw [after0_2, eta2 y]
  refine pass_dot 6 2048 12288 cfg0.N (by omega) (by norm_num) (fun n h => (outsAt0 m c n h).2 _)
    (fun n h => (outsAt0 m c n h).1 _) _ _ _ _ t (last_of_flush t hf) (fun n e => acc_first m c n e _ _)
    (fun n e e' => acc_next m c n e e' _ _) (fun n e => out_last m c n e _ _) fun n e k hk => ?_
  have h := index_eq n t e
  refine ⟨idx_congr (lhs m c) _ _ (on2 ?_ ?_), idx_congr (rhs m c) _ _ (on2 ?_ ?_)⟩
  all_goals
    blk_simp
    try dsimp only
    omega

/-- The call and its reference leave the same result. -/
theorem algebraic : Cert.algebraic_InProjDxIdeal_InProjDxRefIdeal (hInProjDxIdeal := Cert.InProjDxIdeal.Gen.facts)
    (hInProjDxRefIdeal := Cert.InProjDxRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.InProjDxRefIdeal.Value.run m' g')⟩
  rw [(E c).1, (E c).2]
  funext i
  rw [eta2 i]
  unfold prod lhs rhs dot
  pointwise

end Cert.Prf.InProjDx

namespace Cert.Prf.InProjDw

open Cert.InProjDwIdeal Cert.InProjDwIdeal.Gen

/-- The kernel's frame, from the run of its ideal form. -/
theorem frame : Cert.quiescent_InProjDw (hInProjDw := Cert.InProjDw.Gen.facts) := fun m ρ _ => by
  unfold Cert.InProjDw.defs
  rw [show Cert.InProjDw.defs₀ (F := Bits) = Cert.InProjDwIdeal.defs₀ from
    congrArg Defs.onTc (funext fun l => funext fun a => match l, a with | 0, (t, s) => rfl)]
  exact Gen.frame (F := Bits) m ρ

/-- The two points of a pass read the two halves of the rows. -/
theorem index_eq : ∀ n t : Fin cfg0.N, n.val / 2 = t.val / 2 →
    (win0_0.index n 0 = n.val % 2 ∧ win0_0.index n 1 = win0_2.index t 0)
      ∧ (win0_1.index n 0 = n.val % 2 ∧ win0_1.index n 1 = win0_2.index t 1) := by
  decide +kernel

/-- The result is written at the second of them. -/
theorem last_of_flush : ∀ t : Fin cfg0.N, (cfg0.win 2).flush t = true → t.val % 2 = 1 := by
  decide +kernel

variable (m : (ℓ : Loc nD τ sig) → Buf (Elt Ideal) ℓ) (c : Dev nD)

/-- The gradient of the projection. -/
def lhs : Vec Ideal S4096x12288 .bf16 := m ((c : Thread nD τ).loc main_arg0)

/-- The normalised activations. -/
def rhs : Vec Ideal S4096x1024 .bf16 := m ((c : Thread nD τ).loc main_arg1)

/-- The product of the blocks that a point reads. -/
def share (t : Fin cfg0.N) (p q : Fin 1024) : EReal :=
  dot (K := 2048) (fun k => iblk m c 0 t (ix2 k p)) fun k => iblk m c 1 t (ix2 k q)

/-- The first point of a pass starts the accumulator. -/
theorem acc_first (t : Fin cfg0.N) (h : t.val % 2 = 0) (p q : Fin 1024) :
    (outsAt0 m c t.val t.isLt).2 (ix2 p q) = share m c t p q := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The second adds its own and writes the block. -/
theorem out_last (t : Fin cfg0.N) (h : t.val % 2 = 1) (p q : Fin 1024) : (outsAt0 m c t.val t.isLt).1 (ix2 p q)
    = ((outsAt0 m c (t.val - 1) (Nat.lt_of_le_of_lt (Nat.sub_le _ _) t.isLt)).2 (ix2 p q) : EReal) + share m c t p q := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The gradient of the weights, entry by entry. -/
def prod (i : S12288x1024.Idx) : EReal :=
  dot (fun k : Fin 4096 => lhs m c (ix2 k (i 0))) fun k => rhs m c (ix2 k (i 1))

/-- The blocks make up the gradient. -/
theorem arr_eq : (dats m 0 c).arrAt 2 cfg0.N = prod m c := by
  refine (dats m 0 c).arrAt_eq_of_covers 2 _ (by decide +kernel) fun t hf y => ?_
  blk_simp
  rw [after0_2, eta2 y]
  refine pass_dot 2 2048 4096 cfg0.N (by omega) (by norm_num) (fun n h => (outsAt0 m c n h).2 (ix2 (y 0) (y 1)))
    (fun n h => (outsAt0 m c n h).1 _) _ _ _ _ t (last_of_flush t hf) (fun n e => acc_first m c n e _ _)
    (fun n e e' => by omega) (fun n e => out_last m c n e _ _) fun n e k hk => ?_
  have h := index_eq n t e
  refine ⟨idx_congr (lhs m c) _ _ (on2 ?_ ?_), idx_congr (rhs m c) _ _ (on2 ?_ ?_)⟩
  all_goals
    blk_simp
    try dsimp only
    omega

/-- The call and its reference leave the same result. -/
theorem algebraic : Cert.algebraic_InProjDwIdeal_InProjDwRefIdeal (hInProjDwIdeal := Cert.InProjDwIdeal.Gen.facts)
    (hInProjDwRefIdeal := Cert.InProjDwRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.InProjDwRefIdeal.Value.run m' g')⟩
  rw [(E c).1, (E c).2]
  funext i
  rw [eta2 i]
  unfold prod lhs rhs dot
  pointwise

end Cert.Prf.InProjDw

end
-- ==== Proof.Ff1.lean ====
/- The first feed-forward product, with the squared rectifier of it, and its two backward products.

   The weights are held in four parts, each a quarter of the columns: column `n` of the whole is column `n % 1024` of
   part `n / 1024`. -/
module

public import proofs.«01_k».proof.Defs
public import proofs.«01_k».proof.Proof.Blocked
public import proofs.«01_k».proof.Proof.Gen.Ff1
public import proofs.«01_k».proof.Proof.Gen.Ff1Ideal.Value
public import proofs.«01_k».proof.Proof.Gen.Ff1RefIdeal.Run
public import proofs.«01_k».proof.Proof.Gen.Ff1Dx
public import proofs.«01_k».proof.Proof.Gen.Ff1DxIdeal.Value
public import proofs.«01_k».proof.Proof.Gen.Ff1DxRefIdeal.Run
public import proofs.«01_k».proof.Proof.Gen.Ff1Dw
public import proofs.«01_k».proof.Proof.Gen.Ff1DwIdeal.Value
public import proofs.«01_k».proof.Proof.Gen.Ff1DwRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked

namespace Cert.Prf.Ff1

open Cert.Ff1Ideal Cert.Ff1Ideal.Gen

/-- The kernel's frame, from the run of its ideal form. -/
theorem frame : Cert.quiescent_Ff1 (hFf1 := Cert.Ff1.Gen.facts) := fun m ρ _ => by
  unfold Cert.Ff1.defs
  rw [show Cert.Ff1.defs₀ (F := Bits) = Cert.Ff1Ideal.defs₀ from
    congrArg Defs.onTc (funext fun l => funext fun a => match l, a with | 0, (t, s) => rfl)]
  exact Gen.frame (F := Bits) m ρ

/-- Which blocks a point reads, and which it writes. -/
theorem index_eq : ∀ t : Fin cfg0.N,
    (win0_0.index t 0 = win0_2.index t 0 ∧ win0_0.index t 1 = 0)
      ∧ (win0_1.index t 0 = 1 ∧ win0_1.index t 1 = win0_2.index t 1 ∧ win0_1.index t 2 = 0 ∧ win0_1.index t 3 = 0)
      ∧ (win0_3.index t 0 = win0_2.index t 0 ∧ win0_3.index t 1 = win0_2.index t 1) := by
  decide +kernel

variable (m : (ℓ : Loc nD τ sig) → Buf (Elt Ideal) ℓ) (c : Dev nD)

/-- The left operand. -/
def lhs : Vec Ideal S4096x1024 .bf16 := m ((c : Thread nD τ).loc main_arg0)

/-- The right operand, the stack of the layers' weights. -/
def rhs : Vec Ideal S3x4x1024x1024 .bf16 := m ((c : Thread nD τ).loc main_arg1)

/-- The product, entry by entry. -/
def prod (i : S4096x4096.Idx) : EReal :=
  dot (fun k : Fin 1024 => lhs m c (ix2 (i 0) k)) fun k => rhs m c (ix4 1 (part 4 1024 (i 1)) k (within 1024 (i 1)))

/-- The square of the positive part. -/
def relu2 (a : EReal) : EReal := max a 0 * max a 0

/-- The product of the blocks that a point reads is the product's block at the place that it writes. -/
theorem block_eq (t : Fin cfg0.N) (p q : Fin 1024) (i : S4096x4096.Idx) (h0 : (i 0).val = win0_2.index t 0 * 1024 + p.val)
    (h1 : (i 1).val = win0_2.index t 1 * 1024 + q.val) :
    dot (K := 1024) (fun k => iblk m c 0 t (ix2 p k)) (fun k => iblk m c 1 t (ix4 0 0 k q)) = prod m c i := by
  refine dot_congr fun k => ?_
  have h := index_eq t
  have hq := q.isLt
  refine ⟨idx_congr (lhs m c) _ _ (on2 ?_ ?_), idx_congr (rhs m c) _ _ (on4 ?_ ?_ ?_ ?_)⟩
  all_goals
    blk_simp [part, within]
    try dsimp only
    omega

/-- What a point leaves in its block of the first result. -/
theorem block (t : Fin cfg0.N) (p q : Fin 1024) : (dats m 0 c).after 2 t (ix2 p q)
    = dot (K := 1024) (fun k => iblk m c 0 t (ix2 p k)) fun k => iblk m c 1 t (ix4 0 0 k q) := by
  rw [after0_2]
  unfold out0_2
  simp (disch := decide) only [View.canon_cons_unit_lit, View.ld_unit_lit]
  unfold k0_pay1 dot
  pointwise

/-- What a point leaves in its block of the second result. -/
theorem block_square (t : Fin cfg0.N) (p q : Fin 1024) : (dats m 0 c).after 3 t (ix2 p q)
    = relu2 (dot (K := 1024) (fun k => iblk m c 0 t (ix2 p k)) fun k => iblk m c 1 t (ix4 0 0 k q)) := by
  rw [after0_3]
  unfold out0_3
  simp (disch := decide) only [View.canon_cons_unit_lit, View.ld_unit_lit]
  unfold k0_pay2 k0_pay1 relu2 dot
  pointwise

/-- What the whole first result holds. -/
theorem arr_eq : (dats m 0 c).arrAt 2 cfg0.N = prod m c := by
  refine (dats m 0 c).arrAt_eq_of_covers 2 _ (by decide +kernel) fun t hf y => ?_
  blk_simp
  rw [eta2 y]
  exact (block m c t _ _).trans (block_eq m c t _ _ _ (by blk_simp) (by blk_simp))

/-- What the whole second result holds. -/
theorem arr_square : (dats m 0 c).arrAt 3 cfg0.N = fun i : S4096x4096.Idx => relu2 (prod m c i) := by
  refine (dats m 0 c).arrAt_eq_of_covers 3 _ (by decide +kernel) fun t hf y => ?_
  blk_simp
  have h := index_eq t
  rw [eta2 y]
  exact (block_square m c t _ _).trans (congrArg relu2 (block_eq m c t _ _ _ (by blk_simp; omega) (by blk_simp; omega)))

/-- The call and its reference leave the same results. -/
theorem algebraic : Cert.algebraic_Ff1Ideal_Ff1RefIdeal (hFf1Ideal := Cert.Ff1Ideal.Gen.facts)
    (hFf1RefIdeal := Cert.Ff1RefIdeal.Gen.facts) := by
  intro m g m' g' _ E
  refine ⟨fun c => prod m c, _, (θ_run _ _ _).mono (fun r h c =>
      ⟨(h c).1.trans (arr_eq m c), (h c).2.1.trans (arr_square m c), (h c).2.2⟩) (Value.run_blocks m g),
    (θ_run _ _ _).mono (fun r h c => ⟨(h c).1.trans ?_, (h c).2.1.trans ?_, (h c).2.2⟩) (Cert.Ff1RefIdeal.Value.run m' g')⟩
  all_goals
    rw [(E c).1, (E c).2]
    funext i
    rw [eta2 i]
    unfold prod lhs rhs dot part within
    try unfold relu2
    pointwise

end Cert.Prf.Ff1

namespace Cert.Prf.Ff1Dx

open Cert.Ff1DxIdeal Cert.Ff1DxIdeal.Gen

/-- The kernel's frame, from the run of its ideal form. -/
theorem frame : Cert.quiescent_Ff1Dx (hFf1Dx := Cert.Ff1Dx.Gen.facts) := fun m ρ _ => by
  unfold Cert.Ff1Dx.defs
  rw [show Cert.Ff1Dx.defs₀ (F := Bits) = Cert.Ff1DxIdeal.defs₀ from
    congrArg Defs.onTc (funext fun l => funext fun a => match l, a with | 0, (t, s) => rfl)]
  exact Gen.frame (F := Bits) m ρ

/-- Which blocks the points of a pass read, and which block the pass writes. -/
theorem index_eq : ∀ n t : Fin cfg0.N, n.val / 4 = t.val / 4 →
    (win0_0.index n 0 = win0_2.index t 0 ∧ win0_0.index n 1 = n.val % 4)
      ∧ (win0_1.index n 0 = 1 ∧ win0_1.index n 1 = n.val % 4 ∧ win0_1.index n 2 = win0_2.index t 1 ∧ win0_1.index n 3 = 0) := by
  decide +kernel

/-- The result is written at the last point of a pass. -/
theorem last_of_flush : ∀ t : Fin cfg0.N, (cfg0.win 2).flush t = true → t.val % 4 = 3 := by
  decide +kernel

variable (m : (ℓ : Loc nD τ sig) → Buf (Elt Ideal) ℓ) (c : Dev nD)

/-- The left operand. -/
def lhs : Vec Ideal S4096x4096 .bf16 := m ((c : Thread nD τ).loc main_arg0)

/-- The right operand, the stack of the layers' weights. -/
def rhs : Vec Ideal S3x4x1024x1024 .bf16 := m ((c : Thread nD τ).loc main_arg1)

/-- The product of the blocks that a point reads. -/
def share (t : Fin cfg0.N) (p q : Fin 1024) : EReal :=
  dot (K := 1024) (fun k => iblk m c 0 t (ix2 p k)) fun k => iblk m c 1 t (ix4 0 0 q k)

/-- The first point of a pass leaves its product in the accumulator. -/
theorem acc_first (t : Fin cfg0.N) (h : t.val % 4 = 0) (p q : Fin 1024) :
    (outsAt0 m c t.val t.isLt).2 (ix2 p q) = share m c t p q := by
  rw [outsAt0_A m c t h (by omega) (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- A point in the middle of a pass adds its product to what the point before it left. -/
theorem acc_next (t : Fin cfg0.N) (h : t.val % 4 ≠ 0) (h' : t.val % 4 ≠ 3) (p q : Fin 1024) :
    (outsAt0 m c t.val t.isLt).2 (ix2 p q)
      = ((outsAt0 m c (t.val - 1) (Nat.lt_of_le_of_lt (Nat.sub_le _ _) t.isLt)).2 (ix2 p q) : EReal) + share m c t p q := by
  rw [outsAt0_B m c t h (by omega) h']
  unfold sout0_B_0
  rw [View.read_writes_eq_canon _ _ _ (fun y => scover0_B_0 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay3 k0_pay1 share dot
  pointwise

/-- The last point of a pass does the same, and writes the block. -/
theorem out_last (t : Fin cfg0.N) (h : t.val % 4 = 3) (p q : Fin 1024) : (outsAt0 m c t.val t.isLt).1 (ix2 p q)
    = ((outsAt0 m c (t.val - 1) (Nat.lt_of_le_of_lt (Nat.sub_le _ _) t.isLt)).2 (ix2 p q) : EReal) + share m c t p q := by
  rw [outsAt0_C m c t (by omega) (by omega) h]
  unfold out0_C_2
  rw [View.read_writes_eq_canon _ _ _ (fun y => cover0_C_2 (y := y) ..)]
  unfold kernelRun0_C; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The product, entry by entry. -/
def prod (i : S4096x1024.Idx) : EReal :=
  dot (fun k : Fin 4096 => lhs m c (ix2 (i 0) k)) fun k => rhs m c (ix4 1 (part 4 1024 k) (i 1) (within 1024 k))

/-- What the whole result holds. -/
theorem arr_eq : (dats m 0 c).arrAt 2 cfg0.N = prod m c := by
  refine (dats m 0 c).arrAt_eq_of_covers 2 _ (by decide +kernel) fun t hf y => ?_
  blk_simp
  rw [after0_2, eta2 y]
  refine pass_dot 4 1024 4096 cfg0.N (by omega) (by norm_num) (fun n h => (outsAt0 m c n h).2 _)
    (fun n h => (outsAt0 m c n h).1 _) _ _ _ _ t (last_of_flush t hf) (fun n e => acc_first m c n e _ _)
    (fun n e e' => acc_next m c n e e' _ _) (fun n e => out_last m c n e _ _) fun n e k hk => ?_
  have h := index_eq n t e
  refine ⟨idx_congr (lhs m c) _ _ (on2 ?_ ?_), idx_congr (rhs m c) _ _ (on4 ?_ ?_ ?_ ?_)⟩
  all_goals
    blk_simp [part, within]
    try dsimp only
    omega

/-- The call and its reference leave the same result. -/
theorem algebraic : Cert.algebraic_Ff1DxIdeal_Ff1DxRefIdeal (hFf1DxIdeal := Cert.Ff1DxIdeal.Gen.facts)
    (hFf1DxRefIdeal := Cert.Ff1DxRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.Ff1DxRefIdeal.Value.run m' g')⟩
  rw [(E c).1, (E c).2]
  funext i
  rw [eta2 i]
  unfold prod lhs rhs dot part within
  pointwise

end Cert.Prf.Ff1Dx

namespace Cert.Prf.Ff1Dw

open Cert.Ff1DwIdeal Cert.Ff1DwIdeal.Gen

/-- The kernel's frame, from the run of its ideal form. -/
theorem frame : Cert.quiescent_Ff1Dw (hFf1Dw := Cert.Ff1Dw.Gen.facts) := fun m ρ _ => by
  unfold Cert.Ff1Dw.defs
  rw [show Cert.Ff1Dw.defs₀ (F := Bits) = Cert.Ff1DwIdeal.defs₀ from
    congrArg Defs.onTc (funext fun l => funext fun a => match l, a with | 0, (t, s) => rfl)]
  exact Gen.frame (F := Bits) m ρ

/-- Which blocks the points of a pass read, and which block the pass writes. -/
theorem index_eq : ∀ n t : Fin cfg0.N, n.val / 2 = t.val / 2 →
    (win0_0.index n 0 = n.val % 2 ∧ win0_0.index n 1 = win0_2.index t 2)
      ∧ (win0_1.index n 0 = n.val % 2 ∧ win0_1.index n 1 = win0_2.index t 0)
      ∧ (win0_2.index t 1 = 1 ∧ win0_2.index t 3 = 0) := by
  decide +kernel

/-- The result is written at the last point of a pass. -/
theorem last_of_flush : ∀ t : Fin cfg0.N, (cfg0.win 2).flush t = true → t.val % 2 = 1 := by
  decide +kernel

variable (m : (ℓ : Loc nD τ sig) → Buf (Elt Ideal) ℓ) (c : Dev nD)

/-- The left operand. -/
def lhs : Vec Ideal S4096x1024 .bf16 := m ((c : Thread nD τ).loc main_arg0)

/-- The right operand. -/
def rhs : Vec Ideal S4096x4096 .bf16 := m ((c : Thread nD τ).loc main_arg1)

/-- The product of the blocks that a point reads. -/
def share (t : Fin cfg0.N) (p q : Fin 1024) : EReal :=
  dot (K := 2048) (fun k => iblk m c 0 t (ix2 k p)) fun k => iblk m c 1 t (ix2 k q)

/-- The first point of a pass leaves its product in the accumulator. -/
theorem acc_first (t : Fin cfg0.N) (h : t.val % 2 = 0) (p q : Fin 1024) :
    (outsAt0 m c t.val t.isLt).2 (ix2 p q) = share m c t p q := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The last point of a pass adds its product to what the point before it left, and writes the block. -/
theorem out_last (t : Fin cfg0.N) (h : t.val % 2 = 1) (p q : Fin 1024) : (outsAt0 m c t.val t.isLt).1 (ix4 0 0 p q)
    = ((outsAt0 m c (t.val - 1) (Nat.lt_of_le_of_lt (Nat.sub_le _ _) t.isLt)).2 (ix2 p q) : EReal) + share m c t p q := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The product, entry by entry: the columns of its four parts follow one another. -/
def prod (i : S4x3x1024x1024.Idx) : EReal :=
  dot (fun k : Fin 4096 => lhs m c (ix2 k (i 2))) fun k => rhs m c (ix2 k (join 4 1024 (i 0) (i 3)))

/-- What the whole result holds: the product in the layer's slot, the buffer's own entries in the other slots. -/
theorem arr_eq : (dats m 0 c).arrAt 2 cfg0.N
    = fun i : S4x3x1024x1024.Idx => (if (i 1).val = 1 then prod m c i else m ((c : Thread nD τ).loc main_arg2) i : EReal) := by
  refine ((dats m 0 c).arrAt_eq_of_coversWhere 2 (prod m c) (P := fun i : S4x3x1024x1024.Idx => (i 1).val = 1)
    (fun β => β (1 : Fin 4) = 1) (by decide +kernel) (fun t hf y => ?_) (fun j => ?_)).trans (by rw [A_eq]; rfl)
  · blk_simp
    rw [after0_2, unit_idx y]
    refine pass_dot 2 2048 4096 cfg0.N (by omega) (by norm_num) (fun n h => (outsAt0 m c n h).2 (ix2 (y 2) (y 3)))
      (fun n h => (outsAt0 m c n h).1 _) _ _ _ _ t (last_of_flush t hf) (fun n e => acc_first m c n e _ _)
      (fun n e e' => by omega) (fun n e => out_last m c n e _ _) fun n e k hk => ?_
    have h := index_eq n t e
    refine ⟨idx_congr (lhs m c) _ _ (on2 ?_ ?_), idx_congr (rhs m c) _ _ (on2 ?_ ?_)⟩
    all_goals
      blk_simp [join]
      try dsimp only
      omega
  · blk_simp [Pipeline.Window.cell_apply]
    show (j 1).val = 1 ↔ (j 1).val / 1 = 1
    rw [Nat.div_one]

/-- The call and its reference leave the same result. -/
theorem algebraic : Cert.algebraic_Ff1DwIdeal_Ff1DwRefIdeal (hFf1DwIdeal := Cert.Ff1DwIdeal.Gen.facts)
    (hFf1DwRefIdeal := Cert.Ff1DwRefIdeal.Gen.facts) := by
  intro m g m' g' _ E
  refine ⟨_, (θ_run _ _ _).mono (fun r h c => ⟨(h c).1.trans (arr_eq m c), (h c).2⟩) (Value.run_blocks m g),
    (θ_run _ _ _).mono (fun r h c => ⟨(h c).1.trans ?_, (h c).2⟩) (Cert.Ff1DwRefIdeal.Value.run m' g')⟩
  obtain ⟨e0, e1, e2⟩ := E c
  rw [e0, e1, e2]
  funext i
  rw [eta4 i]
  unfold prod lhs rhs dot
  pointwise
  exact slot (i 1).isLt _ _ _ _ (sum_comm_mul _ _) fun _ _ e => idx_congr _ _ _ (on4 rfl (slot_last (i 1) e) rfl rfl)

end Cert.Prf.Ff1Dw

end
-- ==== Proof.Ff2.lean ====
/- The second feed-forward product and its two backward products.

   In each the blocks cover the result.  Where a block needs several points of the grid, the first leaves its product in
   the scratch accumulator and the last adds its own and writes the block; `Blocked.pass_dot` makes one sum of it. -/
module

public import proofs.«01_k».proof.Defs
public import proofs.«01_k».proof.Proof.Blocked
public import proofs.«01_k».proof.Proof.Gen.Ff2
public import proofs.«01_k».proof.Proof.Gen.Ff2Ideal.Value
public import proofs.«01_k».proof.Proof.Gen.Ff2RefIdeal.Run
public import proofs.«01_k».proof.Proof.Gen.Ff2Dx
public import proofs.«01_k».proof.Proof.Gen.Ff2DxIdeal.Value
public import proofs.«01_k».proof.Proof.Gen.Ff2DxRefIdeal.Run
public import proofs.«01_k».proof.Proof.Gen.Ff2Dw
public import proofs.«01_k».proof.Proof.Gen.Ff2DwIdeal.Value
public import proofs.«01_k».proof.Proof.Gen.Ff2DwRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked

namespace Cert.Prf.Ff2

open Cert.Ff2Ideal Cert.Ff2Ideal.Gen

/-- The kernel's frame, from the run of its ideal form. -/
theorem frame : Cert.quiescent_Ff2 (hFf2 := Cert.Ff2.Gen.facts) := fun m ρ _ => by
  unfold Cert.Ff2.defs
  rw [show Cert.Ff2.defs₀ (F := Bits) = Cert.Ff2Ideal.defs₀ from
    congrArg Defs.onTc (funext fun l => funext fun a => match l, a with | 0, (t, s) => rfl)]
  exact Gen.frame (F := Bits) m ρ

/-- Which blocks the points of a pass read, and which block the pass writes. -/
theorem index_eq : ∀ n t : Fin cfg0.N, n.val / 2 = t.val / 2 →
    (win0_0.index n 0 = win0_2.index t 0 ∧ win0_0.index n 1 = n.val % 2)
      ∧ (win0_1.index n 0 = 1 ∧ win0_1.index n 1 = n.val % 2 ∧ win0_1.index n 2 = win0_2.index t 1) := by
  decide +kernel

/-- The result is written at the last point of a pass. -/
theorem last_of_flush : ∀ t : Fin cfg0.N, (cfg0.win 2).flush t = true → t.val % 2 = 1 := by
  decide +kernel

variable (m : (ℓ : Loc nD τ sig) → Buf (Elt Ideal) ℓ) (c : Dev nD)

/-- The left operand. -/
def lhs : Vec Ideal S4096x4096 .bf16 := m ((c : Thread nD τ).loc main_arg0)

/-- The right operand, the stack of the layers' weights. -/
def rhs : Vec Ideal S3x4096x1024 .bf16 := m ((c : Thread nD τ).loc main_arg1)

/-- The first point of a pass leaves its product in the accumulator. -/
theorem acc_first (t : Fin cfg0.N) (h : t.val % 2 = 0) (p q : Fin 1024) : (outsAt0 m c t.val t.isLt).2 (ix2 p q)
    = dot (K := 2048) (fun k => iblk m c 0 t (ix2 p k)) fun k => iblk m c 1 t (ix3 0 k q) := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 dot
  pointwise

/-- The last point of a pass adds its product to what the point before it left, and writes the block. -/
theorem out_last (t : Fin cfg0.N) (h : t.val % 2 = 1) (p q : Fin 1024) : (outsAt0 m c t.val t.isLt).1 (ix2 p q)
    = ((outsAt0 m c (t.val - 1) (Nat.lt_of_le_of_lt (Nat.sub_le _ _) t.isLt)).2 (ix2 p q) : EReal)
      + dot (K := 2048) (fun k => iblk m c 0 t (ix2 p k)) fun k => iblk m c 1 t (ix3 0 k q) := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 dot
  pointwise

/-- The product, entry by entry. -/
def prod (i : S4096x1024.Idx) : EReal :=
  dot (fun k : Fin 4096 => lhs m c (ix2 (i 0) k)) fun k => rhs m c (ix3 1 k (i 1))

/-- What the whole result holds. -/
theorem arr_eq : (dats m 0 c).arrAt 2 cfg0.N = prod m c := by
  refine (dats m 0 c).arrAt_eq_of_covers 2 _ (by decide +kernel) fun t hf y => ?_
  blk_simp
  rw [after0_2, eta2 y]
  refine pass_dot 2 2048 4096 cfg0.N (by omega) (by norm_num) (fun n h => (outsAt0 m c n h).2 _)
    (fun n h => (outsAt0 m c n h).1 _) _ _ _ _ t (last_of_flush t hf) (fun n e => acc_first m c n e _ _)
    (fun n e e' => by omega) (fun n e => out_last m c n e _ _) fun n e k hk => ?_
  have h := index_eq n t e
  refine ⟨idx_congr (lhs m c) _ _ (on2 ?_ ?_), idx_congr (rhs m c) _ _ (on3 ?_ ?_ ?_)⟩
  all_goals
    blk_simp
    try dsimp only
    omega

/-- The call and its reference leave the same result. -/
theorem algebraic : Cert.algebraic_Ff2Ideal_Ff2RefIdeal (hFf2Ideal := Cert.Ff2Ideal.Gen.facts)
    (hFf2RefIdeal := Cert.Ff2RefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.Ff2RefIdeal.Value.run m' g')⟩
  rw [(E c).1, (E c).2]
  funext i
  rw [eta2 i]
  unfold prod lhs rhs dot
  pointwise

end Cert.Prf.Ff2

namespace Cert.Prf.Ff2Dx

open Cert.Ff2DxIdeal Cert.Ff2DxIdeal.Gen

/-- The kernel's frame, from the run of its ideal form. -/
theorem frame : Cert.quiescent_Ff2Dx (hFf2Dx := Cert.Ff2Dx.Gen.facts) := fun m ρ _ => by
  unfold Cert.Ff2Dx.defs
  rw [show Cert.Ff2Dx.defs₀ (F := Bits) = Cert.Ff2DxIdeal.defs₀ from
    congrArg Defs.onTc (funext fun l => funext fun a => match l, a with | 0, (t, s) => rfl)]
  exact Gen.frame (F := Bits) m ρ

/-- Which blocks a point reads, and which it writes. -/
theorem index_eq : ∀ t : Fin cfg0.N,
    (win0_0.index t 0 = win0_2.index t 0 ∧ win0_0.index t 1 = 0)
      ∧ (win0_1.index t 0 = 1 ∧ win0_1.index t 1 = win0_2.index t 1 ∧ win0_1.index t 2 = 0) := by
  decide +kernel

variable (m : (ℓ : Loc nD τ sig) → Buf (Elt Ideal) ℓ) (c : Dev nD)

/-- The left operand. -/
def lhs : Vec Ideal S4096x1024 .bf16 := m ((c : Thread nD τ).loc main_arg0)

/-- The right operand, the stack of the layers' weights. -/
def rhs : Vec Ideal S3x4096x1024 .bf16 := m ((c : Thread nD τ).loc main_arg1)

/-- The product, entry by entry. -/
def prod (i : S4096x4096.Idx) : EReal :=
  dot (fun k : Fin 1024 => lhs m c (ix2 (i 0) k)) fun k => rhs m c (ix3 1 (i 1) k)

/-- What a point leaves in its block. -/
theorem block (t : Fin cfg0.N) (p q : Fin 1024) : (dats m 0 c).after 2 t (ix2 p q)
    = dot (K := 1024) (fun k => iblk m c 0 t (ix2 p k)) fun k => iblk m c 1 t (ix3 0 q k) := by
  rw [after0_2]
  unfold out0_2
  simp (disch := decide) only [View.canon_cons_unit_lit, View.ld_unit_lit]
  unfold k0_pay1 dot
  pointwise

/-- What the whole result holds. -/
theorem arr_eq : (dats m 0 c).arrAt 2 cfg0.N = prod m c := by
  refine (dats m 0 c).arrAt_eq_of_covers 2 _ (by decide +kernel) fun t hf y => ?_
  blk_simp
  rw [eta2 y]
  refine (block m c t _ _).trans (dot_congr fun k => ?_)
  have h := index_eq t
  refine ⟨idx_congr (lhs m c) _ _ (on2 ?_ ?_), idx_congr (rhs m c) _ _ (on3 ?_ ?_ ?_)⟩
  all_goals
    blk_simp
    omega

/-- The call and its reference leave the same result. -/
theorem algebraic : Cert.algebraic_Ff2DxIdeal_Ff2DxRefIdeal (hFf2DxIdeal := Cert.Ff2DxIdeal.Gen.facts)
    (hFf2DxRefIdeal := Cert.Ff2DxRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.Ff2DxRefIdeal.Value.run m' g')⟩
  rw [(E c).1, (E c).2]
  funext i
  rw [eta2 i]
  unfold prod lhs rhs dot
  pointwise

end Cert.Prf.Ff2Dx

namespace Cert.Prf.Ff2Dw

open Cert.Ff2DwIdeal Cert.Ff2DwIdeal.Gen

/-- The kernel's frame, from the run of its ideal form. -/
theorem frame : Cert.quiescent_Ff2Dw (hFf2Dw := Cert.Ff2Dw.Gen.facts) := fun m ρ _ => by
  unfold Cert.Ff2Dw.defs
  rw [show Cert.Ff2Dw.defs₀ (F := Bits) = Cert.Ff2DwIdeal.defs₀ from
    congrArg Defs.onTc (funext fun l => funext fun a => match l, a with | 0, (t, s) => rfl)]
  exact Gen.frame (F := Bits) m ρ

/-- Which blocks the points of a pass read, and which block the pass writes. -/
theorem index_eq : ∀ n t : Fin cfg0.N, n.val / 2 = t.val / 2 →
    (win0_0.index n 0 = n.val % 2 ∧ win0_0.index n 1 = win0_2.index t 0)
      ∧ (win0_1.index n 0 = n.val % 2 ∧ win0_1.index n 1 = 0)
      ∧ (win0_2.index t 1 = 1 ∧ win0_2.index t 2 = 0 ∧ win0_2.index t 3 = 0) := by
  decide +kernel

/-- The result is written at the last point of a pass. -/
theorem last_of_flush : ∀ t : Fin cfg0.N, (cfg0.win 2).flush t = true → t.val % 2 = 1 := by
  decide +kernel

variable (m : (ℓ : Loc nD τ sig) → Buf (Elt Ideal) ℓ) (c : Dev nD)

/-- The left operand. -/
def lhs : Vec Ideal S4096x4096 .bf16 := m ((c : Thread nD τ).loc main_arg0)

/-- The right operand. -/
def rhs : Vec Ideal S4096x1024 .bf16 := m ((c : Thread nD τ).loc main_arg1)

/-- The first point of a pass leaves its product in the accumulator. -/
theorem acc_first (t : Fin cfg0.N) (h : t.val % 2 = 0) (p q : Fin 1024) : (outsAt0 m c t.val t.isLt).2 (ix2 p q)
    = dot (K := 2048) (fun k => iblk m c 0 t (ix2 k p)) fun k => iblk m c 1 t (ix2 k q) := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 dot
  pointwise

/-- The last point of a pass adds its product to what the point before it left, and writes the block. -/
theorem out_last (t : Fin cfg0.N) (h : t.val % 2 = 1) (p q : Fin 1024) : (outsAt0 m c t.val t.isLt).1 (ix4 0 0 p q)
    = ((outsAt0 m c (t.val - 1) (Nat.lt_of_le_of_lt (Nat.sub_le _ _) t.isLt)).2 (ix2 p q) : EReal)
      + dot (K := 2048) (fun k => iblk m c 0 t (ix2 k p)) fun k => iblk m c 1 t (ix2 k q) := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 dot
  pointwise

/-- The product, entry by entry: the rows of its four parts follow one another. -/
def prod (i : S4x3x1024x1024.Idx) : EReal :=
  dot (fun k : Fin 4096 => lhs m c (ix2 k (join 4 1024 (i 0) (i 2)))) fun k => rhs m c (ix2 k (i 3))

/-- What the whole result holds: the product in the layer's slot, the buffer's own entries in the other slots. -/
theorem arr_eq : (dats m 0 c).arrAt 2 cfg0.N
    = fun i : S4x3x1024x1024.Idx => (if (i 1).val = 1 then prod m c i else m ((c : Thread nD τ).loc main_arg2) i : EReal) := by
  refine ((dats m 0 c).arrAt_eq_of_coversWhere 2 (prod m c) (P := fun i : S4x3x1024x1024.Idx => (i 1).val = 1)
    (fun β => β (1 : Fin 4) = 1) (by decide +kernel) (fun t hf y => ?_) (fun j => ?_)).trans (by rw [A_eq]; rfl)
  · blk_simp
    rw [after0_2, unit_idx y]
    refine pass_dot 2 2048 4096 cfg0.N (by omega) (by norm_num) (fun n h => (outsAt0 m c n h).2 (ix2 (y 2) (y 3)))
      (fun n h => (outsAt0 m c n h).1 _) _ _ _ _ t (last_of_flush t hf) (fun n e => acc_first m c n e _ _)
      (fun n e e' => by omega) (fun n e => out_last m c n e _ _) fun n e k hk => ?_
    have h := index_eq n t e
    refine ⟨idx_congr (lhs m c) _ _ (on2 ?_ ?_), idx_congr (rhs m c) _ _ (on2 ?_ ?_)⟩
    all_goals
      blk_simp [join]
      try dsimp only
      omega
  · blk_simp [Pipeline.Window.cell_apply]
    show (j 1).val = 1 ↔ (j 1).val / 1 = 1
    rw [Nat.div_one]

/-- The call and its reference leave the same result. -/
theorem algebraic : Cert.algebraic_Ff2DwIdeal_Ff2DwRefIdeal (hFf2DwIdeal := Cert.Ff2DwIdeal.Gen.facts)
    (hFf2DwRefIdeal := Cert.Ff2DwRefIdeal.Gen.facts) := by
  intro m g m' g' _ E
  refine ⟨_, (θ_run _ _ _).mono (fun r h c => ⟨(h c).1.trans (arr_eq m c), (h c).2⟩) (Value.run_blocks m g),
    (θ_run _ _ _).mono (fun r h c => ⟨(h c).1.trans ?_, (h c).2⟩) (Cert.Ff2DwRefIdeal.Value.run m' g')⟩
  obtain ⟨e0, e1, e2⟩ := E c
  rw [e0, e1, e2]
  funext i
  rw [eta4 i]
  unfold prod lhs rhs dot
  pointwise
  exact slot (i 1).isLt _ _ _ _ (sum_comm_mul _ _) fun _ _ e => idx_congr _ _ _ (on4 rfl (slot_last (i 1) e) rfl rfl)

end Cert.Prf.Ff2Dw

end
-- ==== Proof.Out.lean ====
/- The product that mixes the three branches, and its two backward products.

   The forward product and the gradient of its input take one point of the grid for each block.  The gradient of the
   weights goes into its layer's slot of a buffer, in four parts of 256 rows, each of them two points' work. -/
module

public import proofs.«01_k».proof.Defs
public import proofs.«01_k».proof.Proof.Blocked
public import proofs.«01_k».proof.Proof.Gen.Out
public import proofs.«01_k».proof.Proof.Gen.OutIdeal.Value
public import proofs.«01_k».proof.Proof.Gen.OutRefIdeal.Run
public import proofs.«01_k».proof.Proof.Gen.OutDx
public import proofs.«01_k».proof.Proof.Gen.OutDxIdeal.Value
public import proofs.«01_k».proof.Proof.Gen.OutDxRefIdeal.Run
public import proofs.«01_k».proof.Proof.Gen.OutDw
public import proofs.«01_k».proof.Proof.Gen.OutDwIdeal.Value
public import proofs.«01_k».proof.Proof.Gen.OutDwRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked

namespace Cert.Prf.Out

open Cert.OutIdeal Cert.OutIdeal.Gen

/-- The kernel's frame, from the run of its ideal form. -/
theorem frame : Cert.quiescent_Out (hOut := Cert.Out.Gen.facts) := fun m ρ _ => by
  unfold Cert.Out.defs
  rw [show Cert.Out.defs₀ (F := Bits) = Cert.OutIdeal.defs₀ from
    congrArg Defs.onTc (funext fun l => funext fun a => match l, a with | 0, (t, s) => rfl)]
  exact Gen.frame (F := Bits) m ρ

/-- A point reads rows of the left operand and columns of the layer's weights. -/
theorem index_eq : ∀ t : Fin cfg0.N, (win0_0.index t 0 = win0_2.index t 0 ∧ win0_0.index t 1 = 0)
    ∧ (win0_1.index t 0 = 1 ∧ win0_1.index t 1 = 0 ∧ win0_1.index t 2 = win0_2.index t 1) := by
  decide +kernel

variable (m : (ℓ : Loc nD τ sig) → Buf (Elt Ideal) ℓ) (c : Dev nD)

/-- The merged branches. -/
def lhs : Vec Ideal S4096x1024 .bf16 := m ((c : Thread nD τ).loc main_arg0)

/-- The stack of the layers' weights. -/
def rhs : Vec Ideal S3x1024x1024 .bf16 := m ((c : Thread nD τ).loc main_arg1)

/-- The product, entry by entry. -/
def prod (i : S4096x1024.Idx) : EReal :=
  dot (fun k : Fin 1024 => lhs m c (ix2 (i 0) k)) fun k => rhs m c (ix3 1 k (i 1))

/-- What a point leaves in its block. -/
theorem block (t : Fin cfg0.N) (p q : Fin 1024) : (dats m 0 c).after 2 t (ix2 p q)
    = dot (K := 1024) (fun k => iblk m c 0 t (ix2 p k)) fun k => iblk m c 1 t (ix3 0 k q) := by
  rw [after0_2]
  unfold out0_2
  simp (disch := decide) only [View.canon_cons_unit_lit, View.ld_unit_lit]
  unfold k0_pay1 dot
  pointwise

/-- The blocks make up the product. -/
theorem arr_eq : (dats m 0 c).arrAt 2 cfg0.N = prod m c := by
  refine (dats m 0 c).arrAt_eq_of_covers 2 _ (by decide +kernel) fun t hf y => ?_
  blk_simp
  rw [eta2 y]
  refine (block m c t _ _).trans (dot_congr fun k => ?_)
  have h := index_eq t
  refine ⟨idx_congr (lhs m c) _ _ (on2 ?_ ?_), idx_congr (rhs m c) _ _ (on3 ?_ ?_ ?_)⟩
  all_goals
    blk_simp
    omega

/-- The call and its reference leave the same result. -/
theorem algebraic : Cert.algebraic_OutIdeal_OutRefIdeal (hOutIdeal := Cert.OutIdeal.Gen.facts)
    (hOutRefIdeal := Cert.OutRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.OutRefIdeal.Value.run m' g')⟩
  rw [(E c).1, (E c).2]
  funext i
  rw [eta2 i]
  unfold prod lhs rhs dot
  pointwise

end Cert.Prf.Out

namespace Cert.Prf.OutDx

open Cert.OutDxIdeal Cert.OutDxIdeal.Gen

/-- The kernel's frame, from the run of its ideal form. -/
theorem frame : Cert.quiescent_OutDx (hOutDx := Cert.OutDx.Gen.facts) := fun m ρ _ => by
  unfold Cert.OutDx.defs
  rw [show Cert.OutDx.defs₀ (F := Bits) = Cert.OutDxIdeal.defs₀ from
    congrArg Defs.onTc (funext fun l => funext fun a => match l, a with | 0, (t, s) => rfl)]
  exact Gen.frame (F := Bits) m ρ

/-- A point reads rows of the gradient and rows of the layer's weights. -/
theorem index_eq : ∀ t : Fin cfg0.N, (win0_0.index t 0 = win0_2.index t 0 ∧ win0_0.index t 1 = 0)
    ∧ (win0_1.index t 0 = 1 ∧ win0_1.index t 1 = win0_2.index t 1 ∧ win0_1.index t 2 = 0) := by
  decide +kernel

variable (m : (ℓ : Loc nD τ sig) → Buf (Elt Ideal) ℓ) (c : Dev nD)

/-- The gradient of the product. -/
def lhs : Vec Ideal S4096x1024 .bf16 := m ((c : Thread nD τ).loc main_arg0)

/-- The stack of the layers' weights. -/
def rhs : Vec Ideal S3x1024x1024 .bf16 := m ((c : Thread nD τ).loc main_arg1)

/-- The gradient of the input, entry by entry. -/
def prod (i : S4096x1024.Idx) : EReal :=
  dot (fun k : Fin 1024 => lhs m c (ix2 (i 0) k)) fun k => rhs m c (ix3 1 (i 1) k)

/-- What a point leaves in its block. -/
theorem block (t : Fin cfg0.N) (p q : Fin 1024) : (dats m 0 c).after 2 t (ix2 p q)
    = dot (K := 1024) (fun k => iblk m c 0 t (ix2 p k)) fun k => iblk m c 1 t (ix3 0 q k) := by
  rw [after0_2]
  unfold out0_2
  simp (disch := decide) only [View.canon_cons_unit_lit, View.ld_unit_lit]
  unfold k0_pay1 dot
  pointwise

/-- The blocks make up the gradient. -/
theorem arr_eq : (dats m 0 c).arrAt 2 cfg0.N = prod m c := by
  refine (dats m 0 c).arrAt_eq_of_covers 2 _ (by decide +kernel) fun t hf y => ?_
  blk_simp
  rw [eta2 y]
  refine (block m c t _ _).trans (dot_congr fun k => ?_)
  have h := index_eq t
  refine ⟨idx_congr (lhs m c) _ _ (on2 ?_ ?_), idx_congr (rhs m c) _ _ (on3 ?_ ?_ ?_)⟩
  all_goals
    blk_simp
    omega

/-- The call and its reference leave the same result. -/
theorem algebraic : Cert.algebraic_OutDxIdeal_OutDxRefIdeal (hOutDxIdeal := Cert.OutDxIdeal.Gen.facts)
    (hOutDxRefIdeal := Cert.OutDxRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.OutDxRefIdeal.Value.run m' g')⟩
  rw [(E c).1, (E c).2]
  funext i
  rw [eta2 i]
  unfold prod lhs rhs dot
  pointwise

end Cert.Prf.OutDx

namespace Cert.Prf.OutDw

open Cert.OutDwIdeal Cert.OutDwIdeal.Gen

/-- The kernel's frame, from the run of its ideal form. -/
theorem frame : Cert.quiescent_OutDw (hOutDw := Cert.OutDw.Gen.facts) := fun m ρ _ => by
  unfold Cert.OutDw.defs
  rw [show Cert.OutDw.defs₀ (F := Bits) = Cert.OutDwIdeal.defs₀ from
    congrArg Defs.onTc (funext fun l => funext fun a => match l, a with | 0, (t, s) => rfl)]
  exact Gen.frame (F := Bits) m ρ

/-- The two points of a pass read the two halves of the rows, and the pass writes one part of the layer's slot. -/
theorem index_eq : ∀ n t : Fin cfg0.N, n.val / 2 = t.val / 2 →
    (win0_0.index n 0 = n.val % 2 ∧ win0_0.index n 1 = win0_2.index t 0)
      ∧ (win0_1.index n 0 = n.val % 2 ∧ win0_1.index n 1 = 0)
      ∧ (win0_2.index t 1 = 1 ∧ win0_2.index t 2 = 0 ∧ win0_2.index t 3 = 0) := by
  decide +kernel

/-- The result is written at the second of them. -/
theorem last_of_flush : ∀ t : Fin cfg0.N, (cfg0.win 2).flush t = true → t.val % 2 = 1 := by
  decide +kernel

variable (m : (ℓ : Loc nD τ sig) → Buf (Elt Ideal) ℓ) (c : Dev nD)

/-- The merged branches. -/
def lhs : Vec Ideal S4096x1024 .bf16 := m ((c : Thread nD τ).loc main_arg0)

/-- The gradient of the product. -/
def rhs : Vec Ideal S4096x1024 .bf16 := m ((c : Thread nD τ).loc main_arg1)

/-- The product of the blocks that a point reads. -/
def share (t : Fin cfg0.N) (p : Fin 256) (q : Fin 1024) : EReal :=
  dot (K := 2048) (fun k => iblk m c 0 t (ix2 k p)) fun k => iblk m c 1 t (ix2 k q)

/-- The first point of a pass starts the accumulator. -/
theorem acc_first (t : Fin cfg0.N) (h : t.val % 2 = 0) (p : Fin 256) (q : Fin 1024) :
    (outsAt0 m c t.val t.isLt).2 (ix2 p q) = share m c t p q := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The second adds its own and writes the block. -/
theorem out_last (t : Fin cfg0.N) (h : t.val % 2 = 1) (p : Fin 256) (q : Fin 1024) :
    (outsAt0 m c t.val t.isLt).1 (ix4 0 0 p q)
      = ((outsAt0 m c (t.val - 1) (Nat.lt_of_le_of_lt (Nat.sub_le _ _) t.isLt)).2 (ix2 p q) : EReal) + share m c t p q := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The gradient of the weights, entry by entry: the rows of its four parts follow one another. -/
def prod (i : S4x3x256x1024.Idx) : EReal :=
  dot (fun k : Fin 4096 => lhs m c (ix2 k (join 4 256 (i 0) (i 2)))) fun k => rhs m c (ix2 k (i 3))

/-- What the whole buffer holds: the gradient in the layer's slot, its own entries in the other slots. -/
theorem arr_eq : (dats m 0 c).arrAt 2 cfg0.N
    = fun i : S4x3x256x1024.Idx => (if (i 1).val = 1 then prod m c i else m ((c : Thread nD τ).loc main_arg2) i : EReal) := by
  refine ((dats m 0 c).arrAt_eq_of_coversWhere 2 (prod m c) (P := fun i : S4x3x256x1024.Idx => (i 1).val = 1)
    (fun β => β (1 : Fin 4) = 1) (by decide +kernel) (fun t hf y => ?_) (fun j => ?_)).trans (by rw [A_eq]; rfl)
  · blk_simp
    rw [after0_2, unit_idx y]
    refine pass_dot 2 2048 4096 cfg0.N (by omega) (by norm_num) (fun n h => (outsAt0 m c n h).2 (ix2 (y 2) (y 3)))
      (fun n h => (outsAt0 m c n h).1 _) _ _ _ _ t (last_of_flush t hf) (fun n e => acc_first m c n e _ _)
      (fun n e e' => by omega) (fun n e => out_last m c n e _ _) fun n e k hk => ?_
    have h := index_eq n t e
    refine ⟨idx_congr (lhs m c) _ _ (on2 ?_ ?_), idx_congr (rhs m c) _ _ (on2 ?_ ?_)⟩
    all_goals
      blk_simp [join]
      try dsimp only
      omega
  · blk_simp [Pipeline.Window.cell_apply]
    show (j 1).val = 1 ↔ (j 1).val / 1 = 1
    rw [Nat.div_one]

/-- The call and its reference leave the same result. -/
theorem algebraic : Cert.algebraic_OutDwIdeal_OutDwRefIdeal (hOutDwIdeal := Cert.OutDwIdeal.Gen.facts)
    (hOutDwRefIdeal := Cert.OutDwRefIdeal.Gen.facts) := by
  intro m g m' g' _ E
  refine ⟨_, (θ_run _ _ _).mono (fun r h c => ⟨(h c).1.trans (arr_eq m c), (h c).2⟩) (Value.run_blocks m g),
    (θ_run _ _ _).mono (fun r h c => ⟨(h c).1.trans ?_, (h c).2⟩) (Cert.OutDwRefIdeal.Value.run m' g')⟩
  obtain ⟨e0, e1, e2⟩ := E c
  rw [e0, e1, e2]
  funext i
  rw [eta4 i]
  unfold prod lhs rhs dot
  pointwise
  exact slot (i 1).isLt _ _ _ _ (sum_comm_mul _ _) fun _ _ e => idx_congr _ _ _ (on4 rfl (slot_last (i 1) e) rfl rfl)

end Cert.Prf.OutDw

end
-- ==== Proof.AttnOut.lean ====
/- The attention's output product and its two backward products.

   The weights are held in four parts, each 256 of the 1024 columns. -/
module

public import proofs.«01_k».proof.Defs
public import proofs.«01_k».proof.Proof.Blocked
public import proofs.«01_k».proof.Proof.Gen.AttnOut
public import proofs.«01_k».proof.Proof.Gen.AttnOutIdeal.Value
public import proofs.«01_k».proof.Proof.Gen.AttnOutRefIdeal.Run
public import proofs.«01_k».proof.Proof.Gen.AttnOutDx
public import proofs.«01_k».proof.Proof.Gen.AttnOutDxIdeal.Value
public import proofs.«01_k».proof.Proof.Gen.AttnOutDxRefIdeal.Run
public import proofs.«01_k».proof.Proof.Gen.AttnOutDw
public import proofs.«01_k».proof.Proof.Gen.AttnOutDwIdeal.Value
public import proofs.«01_k».proof.Proof.Gen.AttnOutDwRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked

namespace Cert.Prf.AttnOut

open Cert.AttnOutIdeal Cert.AttnOutIdeal.Gen

/-- The kernel's frame, from the run of its ideal form. -/
theorem frame : Cert.quiescent_AttnOut (hAttnOut := Cert.AttnOut.Gen.facts) := fun m ρ _ => by
  unfold Cert.AttnOut.defs
  rw [show Cert.AttnOut.defs₀ (F := Bits) = Cert.AttnOutIdeal.defs₀ from
    congrArg Defs.onTc (funext fun l => funext fun a => match l, a with | 0, (t, s) => rfl)]
  exact Gen.frame (F := Bits) m ρ

/-- A point reads rows of the left operand and one part of the layer's weights. -/
theorem index_eq : ∀ t : Fin cfg0.N, (win0_0.index t 0 = win0_2.index t 0 ∧ win0_0.index t 1 = 0)
    ∧ (win0_1.index t 0 = 1 ∧ win0_1.index t 1 = win0_2.index t 1 ∧ win0_1.index t 2 = 0 ∧ win0_1.index t 3 = 0) := by
  decide +kernel

variable (m : (ℓ : Loc nD τ sig) → Buf (Elt Ideal) ℓ) (c : Dev nD)

/-- The attention's output. -/
def lhs : Vec Ideal S4096x512 .bf16 := m ((c : Thread nD τ).loc main_arg0)

/-- The stack of the layers' weights. -/
def rhs : Vec Ideal S3x4x512x256 .bf16 := m ((c : Thread nD τ).loc main_arg1)

/-- The product, entry by entry. -/
def prod (i : S4096x1024.Idx) : EReal :=
  dot (fun k : Fin 512 => lhs m c (ix2 (i 0) k)) fun k => rhs m c (ix4 1 (part 4 256 (i 1)) k (within 256 (i 1)))

/-- What a point leaves in its block. -/
theorem block (t : Fin cfg0.N) (p : Fin 1024) (q : Fin 256) : (dats m 0 c).after 2 t (ix2 p q)
    = dot (K := 512) (fun k => iblk m c 0 t (ix2 p k)) fun k => iblk m c 1 t (ix4 0 0 k q) := by
  rw [after0_2]
  unfold out0_2
  simp (disch := decide) only [View.canon_cons_unit_lit, View.ld_unit_lit]
  unfold k0_pay1 dot
  pointwise

/-- The blocks make up the product. -/
theorem arr_eq : (dats m 0 c).arrAt 2 cfg0.N = prod m c := by
  refine (dats m 0 c).arrAt_eq_of_covers 2 _ (by decide +kernel) fun t hf y => ?_
  blk_simp
  rw [eta2 y]
  refine (block m c t _ _).trans (dot_congr fun k => ?_)
  have h := index_eq t
  have hq : (y 1).val < 256 := (y 1).isLt
  refine ⟨idx_congr (lhs m c) _ _ (on2 ?_ ?_), idx_congr (rhs m c) _ _ (on4 ?_ ?_ ?_ ?_)⟩
  all_goals
    blk_simp [part, within]
    try dsimp only
    omega

/-- The call and its reference leave the same result. -/
theorem algebraic : Cert.algebraic_AttnOutIdeal_AttnOutRefIdeal (hAttnOutIdeal := Cert.AttnOutIdeal.Gen.facts)
    (hAttnOutRefIdeal := Cert.AttnOutRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.AttnOutRefIdeal.Value.run m' g')⟩
  rw [(E c).1, (E c).2]
  funext i
  rw [eta2 i]
  unfold prod lhs rhs dot part within
  pointwise

end Cert.Prf.AttnOut

namespace Cert.Prf.AttnOutDx

open Cert.AttnOutDxIdeal Cert.AttnOutDxIdeal.Gen

/-- The kernel's frame, from the run of its ideal form. -/
theorem frame : Cert.quiescent_AttnOutDx (hAttnOutDx := Cert.AttnOutDx.Gen.facts) := fun m ρ _ => by
  unfold Cert.AttnOutDx.defs
  rw [show Cert.AttnOutDx.defs₀ (F := Bits) = Cert.AttnOutDxIdeal.defs₀ from
    congrArg Defs.onTc (funext fun l => funext fun a => match l, a with | 0, (t, s) => rfl)]
  exact Gen.frame (F := Bits) m ρ

/-- The four points of a pass read the four parts one after another. -/
theorem index_eq : ∀ n t : Fin cfg0.N, n.val / 4 = t.val / 4 →
    (win0_0.index n 0 = win0_2.index t 0 ∧ win0_0.index n 1 = n.val % 4)
      ∧ (win0_1.index n 0 = 1 ∧ win0_1.index n 1 = n.val % 4 ∧ win0_1.index n 2 = win0_2.index t 1 ∧ win0_1.index n 3 = 0) := by
  decide +kernel

/-- The result is written at the last point of a pass. -/
theorem last_of_flush : ∀ t : Fin cfg0.N, (cfg0.win 2).flush t = true → t.val % 4 = 3 := by
  decide +kernel

variable (m : (ℓ : Loc nD τ sig) → Buf (Elt Ideal) ℓ) (c : Dev nD)

/-- The gradient of the product. -/
def lhs : Vec Ideal S4096x1024 .bf16 := m ((c : Thread nD τ).loc main_arg0)

/-- The stack of the layers' weights. -/
def rhs : Vec Ideal S3x4x512x256 .bf16 := m ((c : Thread nD τ).loc main_arg1)

/-- The product of the blocks that a point reads. -/
def share (t : Fin cfg0.N) (p : Fin 1024) (q : Fin 512) : EReal :=
  dot (K := 256) (fun k => iblk m c 0 t (ix2 p k)) fun k => iblk m c 1 t (ix4 0 0 q k)

/-- The first point of a pass starts the accumulator. -/
theorem acc_first (t : Fin cfg0.N) (h : t.val % 4 = 0) (p : Fin 1024) (q : Fin 512) :
    (outsAt0 m c t.val t.isLt).2 (ix2 p q) = share m c t p q := by
  rw [outsAt0_A m c t h (by omega) (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The two points in the middle add to it. -/
theorem acc_next (t : Fin cfg0.N) (h : t.val % 4 ≠ 0) (h' : t.val % 4 ≠ 3) (p : Fin 1024) (q : Fin 512) :
    (outsAt0 m c t.val t.isLt).2 (ix2 p q)
      = ((outsAt0 m c (t.val - 1) (Nat.lt_of_le_of_lt (Nat.sub_le _ _) t.isLt)).2 (ix2 p q) : EReal) + share m c t p q := by
  rw [outsAt0_B m c t h (by omega) h']
  unfold sout0_B_0
  rw [View.read_writes_eq_canon _ _ _ (fun y => scover0_B_0 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay3 k0_pay1 share dot
  pointwise

/-- The last one adds its own and writes the block. -/
theorem out_last (t : Fin cfg0.N) (h : t.val % 4 = 3) (p : Fin 1024) (q : Fin 512) :
    (outsAt0 m c t.val t.isLt).1 (ix2 p q)
      = ((outsAt0 m c (t.val - 1) (Nat.lt_of_le_of_lt (Nat.sub_le _ _) t.isLt)).2 (ix2 p q) : EReal) + share m c t p q := by
  rw [outsAt0_C m c t (by omega) (by omega) h]
  unfold out0_C_2
  rw [View.read_writes_eq_canon _ _ _ (fun y => cover0_C_2 (y := y) ..)]
  unfold kernelRun0_C; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The gradient of the attention's output, entry by entry. -/
def prod (i : S4096x512.Idx) : EReal :=
  dot (fun k : Fin 1024 => lhs m c (ix2 (i 0) k)) fun k => rhs m c (ix4 1 (part 4 256 k) (i 1) (within 256 k))

/-- The blocks make up the gradient. -/
theorem arr_eq : (dats m 0 c).arrAt 2 cfg0.N = prod m c := by
  refine (dats m 0 c).arrAt_eq_of_covers 2 _ (by decide +kernel) fun t hf y => ?_
  blk_simp
  rw [after0_2, eta2 y]
  refine pass_dot 4 256 1024 cfg0.N (by omega) (by norm_num) (fun n h => (outsAt0 m c n h).2 _)
    (fun n h => (outsAt0 m c n h).1 _) _ _ _ _ t (last_of_flush t hf) (fun n e => acc_first m c n e _ _)
    (fun n e e' => acc_next m c n e e' _ _) (fun n e => out_last m c n e _ _) fun n e k hk => ?_
  have h := index_eq n t e
  refine ⟨idx_congr (lhs m c) _ _ (on2 ?_ ?_), idx_congr (rhs m c) _ _ (on4 ?_ ?_ ?_ ?_)⟩
  all_goals
    blk_simp [part, within]
    try dsimp only
    omega

/-- The call and its reference leave the same result. -/
theorem algebraic : Cert.algebraic_AttnOutDxIdeal_AttnOutDxRefIdeal (hAttnOutDxIdeal := Cert.AttnOutDxIdeal.Gen.facts)
    (hAttnOutDxRefIdeal := Cert.AttnOutDxRefIdeal.Gen.facts) := by
  intro m g m' g' _ E
  refine ⟨fun c => prod m c, (θ_run _ _ _).mono (fun r h c => ⟨(h c).1.trans (arr_eq m c), (h c).2⟩) (Value.run_blocks m g),
    (θ_run _ _ _).mono (fun r h c => ⟨(h c).1.trans ?_, (h c).2⟩) (Cert.AttnOutDxRefIdeal.Value.run m' g')⟩
  rw [(E c).1, (E c).2]
  funext i
  rw [eta2 i]
  unfold prod lhs rhs dot part within
  pointwise

end Cert.Prf.AttnOutDx

namespace Cert.Prf.AttnOutDw

open Cert.AttnOutDwIdeal Cert.AttnOutDwIdeal.Gen

/-- The kernel's frame, from the run of its ideal form. -/
theorem frame : Cert.quiescent_AttnOutDw (hAttnOutDw := Cert.AttnOutDw.Gen.facts) := fun m ρ _ => by
  unfold Cert.AttnOutDw.defs
  rw [show Cert.AttnOutDw.defs₀ (F := Bits) = Cert.AttnOutDwIdeal.defs₀ from
    congrArg Defs.onTc (funext fun l => funext fun a => match l, a with | 0, (t, s) => rfl)]
  exact Gen.frame (F := Bits) m ρ

/-- The two points of a pass read the two halves of the rows, and the pass writes one part of the layer's slot. -/
theorem index_eq : ∀ n t : Fin cfg0.N, n.val / 2 = t.val / 2 →
    (win0_0.index n 0 = n.val % 2 ∧ win0_0.index n 1 = win0_2.index t 2)
      ∧ (win0_1.index n 0 = n.val % 2 ∧ win0_1.index n 1 = win0_2.index t 0)
      ∧ (win0_2.index t 1 = 1 ∧ win0_2.index t 3 = 0) := by
  decide +kernel

/-- The result is written at the second of them. -/
theorem last_of_flush : ∀ t : Fin cfg0.N, (cfg0.win 2).flush t = true → t.val % 2 = 1 := by
  decide +kernel

variable (m : (ℓ : Loc nD τ sig) → Buf (Elt Ideal) ℓ) (c : Dev nD)

/-- The attention's output. -/
def lhs : Vec Ideal S4096x512 .bf16 := m ((c : Thread nD τ).loc main_arg0)

/-- The gradient of the product. -/
def rhs : Vec Ideal S4096x1024 .bf16 := m ((c : Thread nD τ).loc main_arg1)

/-- The product of the blocks that a point reads. -/
def share (t : Fin cfg0.N) (p : Fin 512) (q : Fin 256) : EReal :=
  dot (K := 2048) (fun k => iblk m c 0 t (ix2 k p)) fun k => iblk m c 1 t (ix2 k q)

/-- The first point of a pass starts the accumulator. -/
theorem acc_first (t : Fin cfg0.N) (h : t.val % 2 = 0) (p : Fin 512) (q : Fin 256) :
    (outsAt0 m c t.val t.isLt).2 (ix2 p q) = share m c t p q := by
  rw [outsAt0_A m c t h (by omega)]
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread]
  simp (disch := decide) only [View.canon_cons_unit_lit, View.ld_unit_lit]
  unfold k0_pay2 k0_pay1 share dot
  pointwise

/-- The second adds its own and writes the block. -/
theorem out_last (t : Fin cfg0.N) (h : t.val % 2 = 1) (p : Fin 512) (q : Fin 256) :
    (outsAt0 m c t.val t.isLt).1 (ix4 0 0 p q)
      = ((outsAt0 m c (t.val - 1) (Nat.lt_of_le_of_lt (Nat.sub_le _ _) t.isLt)).2 (ix2 p q) : EReal) + share m c t p q := by
  rw [outsAt0_B m c t (by omega) h]
  unfold out0_B_2
  rw [View.read_writes_eq_canon _ _ _ (fun y => cover0_B_2 (y := y) ..)]
  unfold kernelRun0_B; dsimp only; sl_unfold_words
  simp (disch := decide) only [View.readAt_eq_ld, (hs0_0 t).read_unread, (hs0_1 t).read_unread, (Memref.isWhole_whole _).read_unread]
  simp (disch := decide) only [View.canon_cons_unit_lit, View.ld_unit_lit]
  unfold k0_pay4 k0_pay1 share dot
  pointwise

/-- The gradient of the weights, entry by entry: the columns of its four parts follow one another. -/
def prod (i : S4x3x512x256.Idx) : EReal :=
  dot (fun k : Fin 4096 => lhs m c (ix2 k (i 2))) fun k => rhs m c (ix2 k (join 4 256 (i 0) (i 3)))

/-- What the whole buffer holds: the gradient in the layer's slot, its own entries in the other slots. -/
theorem arr_eq : (dats m 0 c).arrAt 2 cfg0.N
    = fun i : S4x3x512x256.Idx => (if (i 1).val = 1 then prod m c i else m ((c : Thread nD τ).loc main_arg2) i : EReal) := by
  refine ((dats m 0 c).arrAt_eq_of_coversWhere 2 (prod m c) (P := fun i : S4x3x512x256.Idx => (i 1).val = 1)
    (fun β => β (1 : Fin 4) = 1) (by decide +kernel) (fun t hf y => ?_) (fun j => ?_)).trans (by rw [A_eq]; rfl)
  · blk_simp
    rw [after0_2, unit_idx y]
    refine pass_dot 2 2048 4096 cfg0.N (by omega) (by norm_num) (fun n h => (outsAt0 m c n h).2 (ix2 (y 2) (y 3)))
      (fun n h => (outsAt0 m c n h).1 _) _ _ _ _ t (last_of_flush t hf) (fun n e => acc_first m c n e _ _)
      (fun n e e' => by omega) (fun n e => out_last m c n e _ _) fun n e k hk => ?_
    have h := index_eq n t e
    refine ⟨idx_congr (lhs m c) _ _ (on2 ?_ ?_), idx_congr (rhs m c) _ _ (on2 ?_ ?_)⟩
    all_goals
      blk_simp [join]
      try dsimp only
      omega
  · blk_simp [Pipeline.Window.cell_apply]
    show (j 1).val = 1 ↔ (j 1).val / 1 = 1
    rw [Nat.div_one]

/-- The call and its reference leave the same result. -/
theorem algebraic : Cert.algebraic_AttnOutDwIdeal_AttnOutDwRefIdeal (hAttnOutDwIdeal := Cert.AttnOutDwIdeal.Gen.facts)
    (hAttnOutDwRefIdeal := Cert.AttnOutDwRefIdeal.Gen.facts) := by
  intro m g m' g' _ E
  refine ⟨_, (θ_run _ _ _).mono (fun r h c => ⟨(h c).1.trans (arr_eq m c), (h c).2⟩) (Value.run_blocks m g),
    (θ_run _ _ _).mono (fun r h c => ⟨(h c).1.trans ?_, (h c).2⟩) (Cert.AttnOutDwRefIdeal.Value.run m' g')⟩
  obtain ⟨e0, e1, e2⟩ := E c
  rw [e0, e1, e2]
  funext i
  rw [eta4 i]
  unfold prod lhs rhs dot
  pointwise
  exact slot (i 1).isLt _ _ _ _ (sum_comm_mul _ _) fun _ _ e => idx_congr _ _ _ (on4 rfl (slot_last (i 1) e) rfl rfl)

end Cert.Prf.AttnOutDw

end
-- ==== Proof.Adam.lean ====
/- One step of the optimiser at one entry, over the extended reals, and why the kernel's two named constants make its
   products the reference's quotients. -/
module

public import Idealize.ShloMosaic.PureOps.Ideal
public import Idealize.ShloMosaic.Lib.Pipeline.ValueKit

@[expose] public section

noncomputable section

open Idealize.ShloMosaic

namespace Cert.Adam

/-- What is left of the first moment's bias after ten steps, as the reference writes it. -/
theorem left1 : Ideal.ofBits .f32 0x3F26BD02#32 = ((5463681 / 8388608 : ℝ) : EReal) := by
  simp [Ideal.ofBits, Ideal.ieee, -EReal.coe_mul]; norm_num

/-- What is left of the second moment's bias. -/
theorem left2 : Ideal.ofBits .f32 0x3C231ACC#32 = ((2672307 / 268435456 : ℝ) : EReal) := by
  simp [Ideal.ofBits, Ideal.ieee, -EReal.coe_mul]; norm_num

/-- The new first moment. -/
def moment (g m : EReal) : EReal := Ideal.ofBits .f32 0x3F666666#32 * m + Ideal.ofBits .f32 0x3DCCCCCD#32 * g

/-- The new second moment. -/
def square (g v : EReal) : EReal := Ideal.ofBits .f32 0x3F7FBE77#32 * v + Ideal.ofBits .f32 0x3A83126F#32 * (g * g)

/-- The change of the weight, from the moments corrected for their bias. -/
def delta (w g m v : EReal) : EReal := Ideal.ofBits .f32 0xBA83126F#32
  * (Ideal.div (Ideal.div (moment g m) (Ideal.ofBits .f32 0x3F26BD02#32))
      (Ideal.sqrt (Ideal.div (square g v) (Ideal.ofBits .f32 0x3C231ACC#32)) + Ideal.ofBits .f32 0x322BCC77#32)
    + Ideal.ofBits .f32 0x3C23D70A#32 * w)

/-- The kernel multiplies the first moment by the inverse of what the reference divides it by. -/
theorem mul_bias1 (x : EReal) : x * ((8388608 / 5463681 : ℝ) : EReal) = Ideal.div x (Ideal.ofBits .f32 0x3F26BD02#32) := by
  rw [left1, Ideal.div_coe (by norm_num)]
  norm_num

/-- So it does the second moment. -/
theorem mul_bias2 (x : EReal) : x * ((268435456 / 2672307 : ℝ) : EReal) = Ideal.div x (Ideal.ofBits .f32 0x3C231ACC#32) := by
  rw [left2, Ideal.div_coe (by norm_num)]
  norm_num

/-- The change of the weight as the kernel computes it. -/
theorem delta_eq (w g m v : EReal) : delta w g m v = Ideal.ofBits .f32 0xBA83126F#32
    * (Ideal.div (moment g m * ((8388608 / 5463681 : ℝ) : EReal))
        (Ideal.sqrt (square g v * ((268435456 / 2672307 : ℝ) : EReal)) + Ideal.ofBits .f32 0x322BCC77#32)
      + Ideal.ofBits .f32 0x3C23D70A#32 * w) := by
  rw [mul_bias1, mul_bias2]
  rfl

/-- The step over whole arrays. -/
def deltas {s : Shape} (w g m v : FVec Ideal s .f32) : FVec Ideal s .f32 := fun i => delta (w i) (g i) (m i) (v i)

/-- The new first moments. -/
def moments {s : Shape} (g m : FVec Ideal s .f32) : FVec Ideal s .f32 := fun i => moment (g i) (m i)

/-- The new second moments. -/
def squares {s : Shape} (g v : FVec Ideal s .f32) : FVec Ideal s .f32 := fun i => square (g i) (v i)

/-- The kernel's changes, its two named constants read at their values. -/
theorem deltas_kernel {s : Shape} (b1 b2 : Ideal .f32) (h1 : b1 = ((8388608 / 5463681 : ℝ) : EReal))
    (h2 : b2 = ((268435456 / 2672307 : ℝ) : EReal)) (w g m v : FVec Ideal s .f32) :
    mulf (broadcast s (FloatOps.ofBits .f32 0xBA83126F#32)) (addf (divf (mulf (moments g m) (broadcast s b1))
      (addf (sqrt (mulf (squares g v) (broadcast s b2))) (broadcast s (FloatOps.ofBits .f32 0x322BCC77#32))))
      (mulf (broadcast s (FloatOps.ofBits .f32 0x3C23D70A#32)) w)) = deltas w g m v := by
  subst h1 h2
  funext i
  unfold deltas
  rw [delta_eq]
  rfl

/-- A step over a block is the step over the array, where the operands are its block. -/
theorem deltas_congr {s r : Shape} {w g m v : FVec Ideal s .f32} {w' g' m' v' : FVec Ideal r .f32} {i : s.Idx} {j : r.Idx}
    (hw : w i = w' j) (hg : g i = g' j) (hm : m i = m' j) (hv : v i = v' j) : deltas w g m v i = deltas w' g' m' v' j := by
  unfold deltas
  rw [hw, hg, hm, hv]

@[inherit_doc deltas_congr]
theorem moments_congr {s r : Shape} {g m : FVec Ideal s .f32} {g' m' : FVec Ideal r .f32} {i : s.Idx} {j : r.Idx}
    (hg : g i = g' j) (hm : m i = m' j) : moments g m i = moments g' m' j := by
  unfold moments
  rw [hg, hm]

@[inherit_doc deltas_congr]
theorem squares_congr {s r : Shape} {g v : FVec Ideal s .f32} {g' v' : FVec Ideal r .f32} {i : s.Idx} {j : r.Idx}
    (hg : g i = g' j) (hv : v i = v' j) : squares g v i = squares g' v' j := by
  unfold squares
  rw [hg, hv]

variable {s : Shape} (h : (⟨0, ![]⟩ : Shape).BroadcastsInDim s (![] : Fin 0 → Fin s.rank))

/-- A number of the reference, in every entry. -/
def every (b : BitVec 32) : FVec Ideal s .f32 := broadcastInDim s ![] h (constant ⟨0, ![]⟩ .f32 b)

/-- The reference's new first moments. -/
theorem moments_eq (g m : FVec Ideal s .f32) : addf (mulf (every h 0x3F666666#32) m) (mulf (every h 0x3DCCCCCD#32) g) = moments g m := rfl

/-- The reference's new second moments. -/
theorem squares_eq (g v : FVec Ideal s .f32) :
    addf (mulf (every h 0x3F7FBE77#32) v) (mulf (every h 0x3A83126F#32) (mulf g g)) = squares g v := rfl

/-- The reference's changes. -/
theorem deltas_eq (w g m v : FVec Ideal s .f32) : mulf (every h 0xBA83126F#32)
    (addf (Host.divf (Host.divf (moments g m) (every h 0x3F26BD02#32))
      (addf (Host.sqrt (Host.divf (squares g v) (every h 0x3C231ACC#32))) (every h 0x322BCC77#32))) (mulf (every h 0x3C23D70A#32) w))
    = deltas w g m v := rfl

end Cert.Adam

end
-- ==== Proof.Optim.lean ====
/- The optimiser's calls for the weights that are not shared out among the devices' layers, one weight or one packed
   array of weights each.

   A point of a call reads the same block of the weights, the gradients and the two moments, and writes it in the four
   results; what a step is at one entry is said once, for arrays of any shape. -/
module

public import proofs.«01_k».proof.Defs
public import proofs.«01_k».proof.Proof.Adam
public import proofs.«01_k».proof.Proof.Blocked
public import proofs.«01_k».proof.Proof.Gen.AdamConvIdeal.Value
public import proofs.«01_k».proof.Proof.Gen.AdamConvRefIdeal.Run
public import proofs.«01_k».proof.Proof.Gen.AdamAdaIdeal.Value
public import proofs.«01_k».proof.Proof.Gen.AdamAdaRefIdeal.Run
public import proofs.«01_k».proof.Proof.Gen.AdamSmallIdeal.Value
public import proofs.«01_k».proof.Proof.Gen.AdamSmallRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked Cert.Adam

namespace Cert.Prf.AdamAda

open Cert.AdamAdaIdeal Cert.AdamAdaIdeal.Gen

/-- The two constants that the kernel names. -/
theorem preserves : Cert.preserves_AdamAda_AdamAdaIdeal :=
  ⟨IdealRules.named_const.statement Cert.AdamAdaIdeal.κ "bias1" .f32 0x3FC48605#32 _ rfl,
    IdealRules.named_const.statement Cert.AdamAdaIdeal.κ "bias2" .f32 0x42C8E6D3#32 _ rfl⟩

/-- A point reads and writes the same block of each array. -/
theorem index_eq : ∀ t : Fin cfg0.N, ∀ a, win0_0.index t a = win0_1.index t a ∧ win0_2.index t a = win0_1.index t a
    ∧ win0_3.index t a = win0_1.index t a ∧ win0_4.index t a = win0_1.index t a ∧ win0_5.index t a = win0_1.index t a
    ∧ win0_6.index t a = win0_1.index t a ∧ win0_7.index t a = win0_1.index t a := by
  decide +kernel

variable (m : (ℓ : Loc nD τ sig) → Buf (Elt Ideal) ℓ) (c : Dev nD)

/-- The weights, gradients and moments, as rows. -/
def w : FVec Ideal S4096x1536 .f32 := shapeCast S4096x1536 (m ((c : Thread nD τ).loc main_arg0)) shapeCasts_S4x1024x1536_S4096x1536
@[inherit_doc w] def g : FVec Ideal S4096x1536 .f32 := shapeCast S4096x1536 (m ((c : Thread nD τ).loc main_arg1)) shapeCasts_S4x1024x1536_S4096x1536
@[inherit_doc w] def mo : FVec Ideal S4096x1536 .f32 := shapeCast S4096x1536 (m ((c : Thread nD τ).loc main_arg2)) shapeCasts_S4x1024x1536_S4096x1536
@[inherit_doc w] def vo : FVec Ideal S4096x1536 .f32 := shapeCast S4096x1536 (m ((c : Thread nD τ).loc main_arg3)) shapeCasts_S4x1024x1536_S4096x1536

/-- The call reads them so. -/
theorem entry : V m c main_v0 = w m c ∧ V m c main_v1 = g m c ∧ V m c main_v2 = mo m c ∧ V m c main_v3 = vo m c := by
  unfold V w g mo vo
  refine ⟨?_, ?_, ?_, ?_⟩ <;> after_results_simp <;> rfl

/-- What a point leaves in the four blocks. -/
theorem block (t : Fin cfg0.N) : outsAt0 m c t = (iblk m c 1 t, deltas (iblk m c 0 t) (iblk m c 1 t) (iblk m c 2 t) (iblk m c 3 t),
    moments (iblk m c 1 t) (iblk m c 2 t), squares (iblk m c 1 t) (iblk m c 3 t)) := by
  unfold outsAt0 out0_A_4 out0_A_5 out0_A_6 out0_A_7
  rw [View.read_writes_eq_canon _ _ _ (fun y => cover0_A_4 (y := y) ..), View.read_writes_eq_canon _ _ _ (fun y => cover0_A_5 (y := y) ..),
    View.read_writes_eq_canon _ _ _ (fun y => cover0_A_6 (y := y) ..), View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread]
  simp (disch := decide) only [View.canon_cons_unit_lit, View.ld_unit_lit]
  unfold k0_pay4 k0_pay3 k0_pay2 k0_pay1
  simp only [shapeCast_self]
  exact Prod.ext rfl (Prod.ext (deltas_kernel _ _ rfl rfl _ _ _ _) (Prod.ext rfl rfl))

/-- The four arrays that the call leaves. -/
theorem arr_eq : (dats m 0 c).arrAt 4 cfg0.N = g m c
    ∧ (dats m 0 c).arrAt 5 cfg0.N = deltas (w m c) (g m c) (mo m c) (vo m c)
    ∧ (dats m 0 c).arrAt 6 cfg0.N = moments (g m c) (mo m c)
    ∧ (dats m 0 c).arrAt 7 cfg0.N = squares (g m c) (vo m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    rw [eta2 y]
    have h := index_eq t 0
    have h' := index_eq t 1
  · rw [after0_4, block]
    refine idx_congr (g m c) _ _ (on2 ?_ ?_) <;> blk_simp <;> omega
  · rw [after0_5, block]
    refine deltas_congr (idx_congr (w m c) _ _ (on2 ?_ ?_)) (idx_congr (g m c) _ _ (on2 ?_ ?_)) (idx_congr (mo m c) _ _ (on2 ?_ ?_))
      (idx_congr (vo m c) _ _ (on2 ?_ ?_)) <;> blk_simp <;> omega
  · rw [after0_6, block]
    refine moments_congr (idx_congr (g m c) _ _ (on2 ?_ ?_)) (idx_congr (mo m c) _ _ (on2 ?_ ?_)) <;> blk_simp <;> omega
  · rw [after0_7, block]
    refine squares_congr (idx_congr (g m c) _ _ (on2 ?_ ?_)) (idx_congr (vo m c) _ _ (on2 ?_ ?_)) <;> blk_simp <;> omega

/-- The call and its reference leave the same results. -/
theorem algebraic : Cert.algebraic_AdamAdaIdeal_AdamAdaRefIdeal (hAdamAdaIdeal := Cert.AdamAdaIdeal.Gen.facts)
    (hAdamAdaRefIdeal := Cert.AdamAdaRefIdeal.Gen.facts) := by
  intro m ρ m' ρ' _ E
  refine ⟨fun c => g m c, fun c => deltas (w m c) (g m c) (mo m c) (vo m c), fun c => moments (g m c) (mo m c), fun c => squares (g m c) (vo m c),
    (θ_run _ _ _).mono (fun r h c => ?_) (Value.run_blocks m ρ),
    (θ_run _ _ _).mono (fun r h c => ?_) (Cert.AdamAdaRefIdeal.Value.run m' ρ')⟩
  · obtain ⟨h4, h5, h6, h7, h⟩ := h c
    obtain ⟨e4, e5, e6, e7⟩ := arr_eq m c
    exact ⟨h4.trans e4, h5.trans e5, h6.trans e6, h7.trans e7, h⟩
  · obtain ⟨h4, h5, h6, h7, h⟩ := h c
    obtain ⟨e0, e1, e2, e3, e4⟩ := E c
    rw [e1] at h4
    rw [e0, e1, e2, e3] at h5
    rw [e1, e2] at h6
    rw [e1, e3] at h7
    exact ⟨h4, h5.trans (congrArg (shapeCast _ · _) (deltas_eq _ _ _ _ _)), h6.trans (congrArg (shapeCast _ · _) (moments_eq _ _ _)),
      h7.trans (congrArg (shapeCast _ · _) (squares_eq _ _ _)), h⟩

end Cert.Prf.AdamAda

namespace Cert.Prf.AdamConv

open Cert.AdamConvIdeal Cert.AdamConvIdeal.Gen

/-- The two constants that the kernel names. -/
theorem preserves : Cert.preserves_AdamConv_AdamConvIdeal :=
  ⟨IdealRules.named_const.statement Cert.AdamConvIdeal.κ "bias1" .f32 0x3FC48605#32 _ rfl,
    IdealRules.named_const.statement Cert.AdamConvIdeal.κ "bias2" .f32 0x42C8E6D3#32 _ rfl⟩

/-- A point reads and writes the same block of each array. -/
theorem index_eq : ∀ t : Fin cfg0.N, ∀ a, win0_0.index t a = win0_1.index t a ∧ win0_2.index t a = win0_1.index t a
    ∧ win0_3.index t a = win0_1.index t a ∧ win0_4.index t a = win0_1.index t a ∧ win0_5.index t a = win0_1.index t a
    ∧ win0_6.index t a = win0_1.index t a ∧ win0_7.index t a = win0_1.index t a := by
  decide +kernel

variable (m : (ℓ : Loc nD τ sig) → Buf (Elt Ideal) ℓ) (c : Dev nD)

/-- The weights, gradients and moments, as rows. -/
def w : FVec Ideal S16x384 .f32 := shapeCast S16x384 (m ((c : Thread nD τ).loc main_arg0)) shapeCasts_S4x4x384_S16x384
@[inherit_doc w] def g : FVec Ideal S16x384 .f32 := shapeCast S16x384 (m ((c : Thread nD τ).loc main_arg1)) shapeCasts_S4x4x384_S16x384
@[inherit_doc w] def mo : FVec Ideal S16x384 .f32 := shapeCast S16x384 (m ((c : Thread nD τ).loc main_arg2)) shapeCasts_S4x4x384_S16x384
@[inherit_doc w] def vo : FVec Ideal S16x384 .f32 := shapeCast S16x384 (m ((c : Thread nD τ).loc main_arg3)) shapeCasts_S4x4x384_S16x384

/-- The call reads them so. -/
theorem entry : V m c main_v0 = w m c ∧ V m c main_v1 = g m c ∧ V m c main_v2 = mo m c ∧ V m c main_v3 = vo m c := by
  unfold V w g mo vo
  refine ⟨?_, ?_, ?_, ?_⟩ <;> after_results_simp <;> rfl

/-- What a point leaves in the four blocks. -/
theorem block (t : Fin cfg0.N) : outsAt0 m c t = (iblk m c 1 t, deltas (iblk m c 0 t) (iblk m c 1 t) (iblk m c 2 t) (iblk m c 3 t),
    moments (iblk m c 1 t) (iblk m c 2 t), squares (iblk m c 1 t) (iblk m c 3 t)) := by
  unfold outsAt0 out0_A_4 out0_A_5 out0_A_6 out0_A_7
  rw [View.read_writes_eq_canon _ _ _ (fun y => cover0_A_4 (y := y) ..), View.read_writes_eq_canon _ _ _ (fun y => cover0_A_5 (y := y) ..),
    View.read_writes_eq_canon _ _ _ (fun y => cover0_A_6 (y := y) ..), View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread]
  simp (disch := decide) only [View.canon_cons_unit_lit, View.ld_unit_lit]
  unfold k0_pay4 k0_pay3 k0_pay2 k0_pay1
  simp only [shapeCast_self]
  exact Prod.ext rfl (Prod.ext (deltas_kernel _ _ rfl rfl _ _ _ _) (Prod.ext rfl rfl))

/-- The four arrays that the call leaves. -/
theorem arr_eq : (dats m 0 c).arrAt 4 cfg0.N = g m c
    ∧ (dats m 0 c).arrAt 5 cfg0.N = deltas (w m c) (g m c) (mo m c) (vo m c)
    ∧ (dats m 0 c).arrAt 6 cfg0.N = moments (g m c) (mo m c)
    ∧ (dats m 0 c).arrAt 7 cfg0.N = squares (g m c) (vo m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    rw [eta2 y]
    have h := index_eq t 0
    have h' := index_eq t 1
  · rw [after0_4, block]
    refine idx_congr (g m c) _ _ (on2 ?_ ?_) <;> blk_simp <;> omega
  · rw [after0_5, block]
    refine deltas_congr (idx_congr (w m c) _ _ (on2 ?_ ?_)) (idx_congr (g m c) _ _ (on2 ?_ ?_)) (idx_congr (mo m c) _ _ (on2 ?_ ?_))
      (idx_congr (vo m c) _ _ (on2 ?_ ?_)) <;> blk_simp <;> omega
  · rw [after0_6, block]
    refine moments_congr (idx_congr (g m c) _ _ (on2 ?_ ?_)) (idx_congr (mo m c) _ _ (on2 ?_ ?_)) <;> blk_simp <;> omega
  · rw [after0_7, block]
    refine squares_congr (idx_congr (g m c) _ _ (on2 ?_ ?_)) (idx_congr (vo m c) _ _ (on2 ?_ ?_)) <;> blk_simp <;> omega

/-- The call and its reference leave the same results. -/
theorem algebraic : Cert.algebraic_AdamConvIdeal_AdamConvRefIdeal (hAdamConvIdeal := Cert.AdamConvIdeal.Gen.facts)
    (hAdamConvRefIdeal := Cert.AdamConvRefIdeal.Gen.facts) := by
  intro m ρ m' ρ' _ E
  refine ⟨fun c => g m c, fun c => deltas (w m c) (g m c) (mo m c) (vo m c), fun c => moments (g m c) (mo m c), fun c => squares (g m c) (vo m c),
    (θ_run _ _ _).mono (fun r h c => ?_) (Value.run_blocks m ρ),
    (θ_run _ _ _).mono (fun r h c => ?_) (Cert.AdamConvRefIdeal.Value.run m' ρ')⟩
  · obtain ⟨h4, h5, h6, h7, h⟩ := h c
    obtain ⟨e4, e5, e6, e7⟩ := arr_eq m c
    exact ⟨h4.trans e4, h5.trans e5, h6.trans e6, h7.trans e7, h⟩
  · obtain ⟨h4, h5, h6, h7, h⟩ := h c
    obtain ⟨e0, e1, e2, e3, e4⟩ := E c
    rw [e1] at h4
    rw [e0, e1, e2, e3] at h5
    rw [e1, e2] at h6
    rw [e1, e3] at h7
    exact ⟨h4, h5.trans (congrArg (shapeCast _ · _) (deltas_eq _ _ _ _ _)), h6.trans (congrArg (shapeCast _ · _) (moments_eq _ _ _)),
      h7.trans (congrArg (shapeCast _ · _) (squares_eq _ _ _)), h⟩

end Cert.Prf.AdamConv

namespace Cert.Prf.AdamSmall

open Cert.AdamSmallIdeal Cert.AdamSmallIdeal.Gen

/-- The two constants that the kernel names. -/
theorem preserves : Cert.preserves_AdamSmall_AdamSmallIdeal :=
  ⟨IdealRules.named_const.statement Cert.AdamSmallIdeal.κ "bias1" .f32 0x3FC48605#32 _ rfl,
    IdealRules.named_const.statement Cert.AdamSmallIdeal.κ "bias2" .f32 0x42C8E6D3#32 _ rfl⟩

/-- A point reads and writes the same block of each array. -/
theorem index_eq : ∀ t : Fin cfg0.N, ∀ a, win0_0.index t a = win0_1.index t a ∧ win0_2.index t a = win0_1.index t a
    ∧ win0_3.index t a = win0_1.index t a ∧ win0_4.index t a = win0_1.index t a ∧ win0_5.index t a = win0_1.index t a
    ∧ win0_6.index t a = win0_1.index t a ∧ win0_7.index t a = win0_1.index t a := by
  decide +kernel

variable (m : (ℓ : Loc nD τ sig) → Buf (Elt Ideal) ℓ) (c : Dev nD)

/-- The packed weights, gradients and moments. -/
def w : FVec Ideal S48x1024 .f32 := m ((c : Thread nD τ).loc main_arg0)
@[inherit_doc w] def g : FVec Ideal S48x1024 .f32 := m ((c : Thread nD τ).loc main_arg1)
@[inherit_doc w] def mo : FVec Ideal S48x1024 .f32 := m ((c : Thread nD τ).loc main_arg2)
@[inherit_doc w] def vo : FVec Ideal S48x1024 .f32 := m ((c : Thread nD τ).loc main_arg3)

/-- What a point leaves in the four blocks. -/
theorem block (t : Fin cfg0.N) : outsAt0 m c t = (iblk m c 1 t, deltas (iblk m c 0 t) (iblk m c 1 t) (iblk m c 2 t) (iblk m c 3 t),
    moments (iblk m c 1 t) (iblk m c 2 t), squares (iblk m c 1 t) (iblk m c 3 t)) := by
  unfold outsAt0 out0_A_4 out0_A_5 out0_A_6 out0_A_7
  rw [View.read_writes_eq_canon _ _ _ (fun y => cover0_A_4 (y := y) ..), View.read_writes_eq_canon _ _ _ (fun y => cover0_A_5 (y := y) ..),
    View.read_writes_eq_canon _ _ _ (fun y => cover0_A_6 (y := y) ..), View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread]
  simp (disch := decide) only [View.canon_cons_unit_lit, View.ld_unit_lit]
  unfold k0_pay3 k0_pay2 k0_pay1
  simp only [shapeCast_self]
  exact Prod.ext rfl (Prod.ext (deltas_kernel _ _ rfl rfl _ _ _ _) (Prod.ext rfl rfl))

/-- The four arrays that the call leaves. -/
theorem arr_eq : (dats m 0 c).arrAt 4 cfg0.N = g m c
    ∧ (dats m 0 c).arrAt 5 cfg0.N = deltas (w m c) (g m c) (mo m c) (vo m c)
    ∧ (dats m 0 c).arrAt 6 cfg0.N = moments (g m c) (mo m c)
    ∧ (dats m 0 c).arrAt 7 cfg0.N = squares (g m c) (vo m c) := by
  refine ⟨(dats m 0 c).arrAt_eq_of_covers 4 _ (by decide +kernel) fun t hf y => ?_,
    (dats m 0 c).arrAt_eq_of_covers 5 _ (by decide +kernel) fun t hf y => ?_,
    (dats m 0 c).arrAt_eq_of_covers 6 _ (by decide +kernel) fun t hf y => ?_,
    (dats m 0 c).arrAt_eq_of_covers 7 _ (by decide +kernel) fun t hf y => ?_⟩
  all_goals
    blk_simp
    rw [eta2 y]
    have h := index_eq t 0
    have h' := index_eq t 1
  · rw [after0_4, block]
    refine idx_congr (g m c) _ _ (on2 ?_ ?_) <;> blk_simp <;> omega
  · rw [after0_5, block]
    refine deltas_congr (idx_congr (w m c) _ _ (on2 ?_ ?_)) (idx_congr (g m c) _ _ (on2 ?_ ?_)) (idx_congr (mo m c) _ _ (on2 ?_ ?_))
      (idx_congr (vo m c) _ _ (on2 ?_ ?_)) <;> blk_simp <;> omega
  · rw [after0_6, block]
    refine moments_congr (idx_congr (g m c) _ _ (on2 ?_ ?_)) (idx_congr (mo m c) _ _ (on2 ?_ ?_)) <;> blk_simp <;> omega
  · rw [after0_7, block]
    refine squares_congr (idx_congr (g m c) _ _ (on2 ?_ ?_)) (idx_congr (vo m c) _ _ (on2 ?_ ?_)) <;> blk_simp <;> omega

/-- The call and its reference leave the same results. -/
theorem algebraic : Cert.algebraic_AdamSmallIdeal_AdamSmallRefIdeal (hAdamSmallIdeal := Cert.AdamSmallIdeal.Gen.facts)
    (hAdamSmallRefIdeal := Cert.AdamSmallRefIdeal.Gen.facts) := by
  intro m ρ m' ρ' _ E
  refine ⟨fun c => g m c, fun c => deltas (w m c) (g m c) (mo m c) (vo m c), fun c => moments (g m c) (mo m c), fun c => squares (g m c) (vo m c),
    (θ_run _ _ _).mono (fun r h c => ?_) (Value.run_blocks m ρ),
    (θ_run _ _ _).mono (fun r h c => ?_) (Cert.AdamSmallRefIdeal.Value.run m' ρ')⟩
  · obtain ⟨h4, h5, h6, h7, h⟩ := h c
    obtain ⟨e4, e5, e6, e7⟩ := arr_eq m c
    exact ⟨h4.trans e4, h5.trans e5, h6.trans e6, h7.trans e7, h⟩
  · obtain ⟨h4, h5, h6, h7, h⟩ := h c
    obtain ⟨e0, e1, e2, e3, e4⟩ := E c
    rw [e0, e1, e2, e3] at h5
    rw [e1, e2] at h6
    rw [e1, e3] at h7
    exact ⟨h4.trans e1, h5.trans (deltas_eq ..), h6.trans (moments_eq ..), h7.trans (squares_eq ..), h⟩

end Cert.Prf.AdamSmall

end
-- ==== Proof.Passes.lean ====
/- The rows of an array whose layers come in two parts: the first layers' rows are the one part's, the other layers' rows
   the other's.  The optimiser's calls for the weights that are updated in two passes take their gradient so. -/
module

public import Idealize.ShloMosaic.Lib.Pipeline.ValueKit

@[expose] public section

noncomputable section

open Idealize.ShloMosaic

namespace Cert.Passes

variable {n A B C L M N k : ℕ} {d : Fin n → ℕ} {α : Type}

/-- The first layers of a stack, as rows. -/
theorem rows_first (a : (⟨n + 1, Matrix.vecCons A d⟩ : Shape).Idx → α) (b : (⟨n + 1, Matrix.vecCons B d⟩ : Shape).Idx → α)
    (h : Shape.Concatenates [(⟨n + 1, Matrix.vecCons A d⟩ : Shape), ⟨n + 1, Matrix.vecCons B d⟩] ⟨n + 1, Matrix.vecCons C d⟩ 0)
    (hs : (⟨n + 1, Matrix.vecCons C d⟩ : Shape).ShapeCasts ⟨2, ![N, k]⟩) (ha : (⟨n + 1, Matrix.vecCons A d⟩ : Shape).ShapeCasts ⟨2, ![M, k]⟩)
    (i : (⟨2, ![N, k]⟩ : Shape).Idx) (j : (⟨2, ![M, k]⟩ : Shape).Idx) (h0 : (i 0).val = (j 0).val) (h1 : (i 1).val = (j 1).val) :
    shapeCast ⟨2, ![N, k]⟩ (concatenate ⟨n + 1, Matrix.vecCons C d⟩ 0 [⟨_, a⟩, ⟨_, b⟩] h) hs i = shapeCast ⟨2, ![M, k]⟩ a ha j := by
  have hC : A + (B + 0) = C := by simpa using h.2.2
  have hp := Shape.rowMajor_reshapeEquiv ha j
  unfold shapeCast
  generalize Shape.reshapeEquiv ha j = p at hp ⊢
  have hlt : (p 0).val < A := (p 0).isLt
  rw [← concatenate_pair_apply_left 0 a b h (Fin.cons ⟨(p 0).val, by show (p 0).val < C; omega⟩ fun b => p b.succ) rfl p
    (fun b => by refine Fin.cases ?_ (fun b => ?_) b <;> rfl)]
  refine congrArg _ (Shape.reshapeEquiv_eq_of_rowMajor hs ?_)
  rw [Shape.rowMajor_val_succ] at hp ⊢
  rw [Shape.rowMajor_val_two] at hp ⊢
  rw [h0, h1]
  exact hp

/-- The other layers of a stack, as rows. -/
theorem rows_rest (a : (⟨n + 1, Matrix.vecCons A d⟩ : Shape).Idx → α) (b : (⟨n + 1, Matrix.vecCons B d⟩ : Shape).Idx → α)
    (h : Shape.Concatenates [(⟨n + 1, Matrix.vecCons A d⟩ : Shape), ⟨n + 1, Matrix.vecCons B d⟩] ⟨n + 1, Matrix.vecCons C d⟩ 0)
    (hs : (⟨n + 1, Matrix.vecCons C d⟩ : Shape).ShapeCasts ⟨2, ![N, k]⟩) (ha : (⟨n + 1, Matrix.vecCons A d⟩ : Shape).ShapeCasts ⟨2, ![M, k]⟩)
    (hb : (⟨n + 1, Matrix.vecCons B d⟩ : Shape).ShapeCasts ⟨2, ![L, k]⟩)
    (i : (⟨2, ![N, k]⟩ : Shape).Idx) (j : (⟨2, ![L, k]⟩ : Shape).Idx) (h0 : (i 0).val = M + (j 0).val) (h1 : (i 1).val = (j 1).val) :
    shapeCast ⟨2, ![N, k]⟩ (concatenate ⟨n + 1, Matrix.vecCons C d⟩ 0 [⟨_, a⟩, ⟨_, b⟩] h) hs i = shapeCast ⟨2, ![L, k]⟩ b hb j := by
  have hC : A + (B + 0) = C := by simpa using h.2.2
  have hp := Shape.rowMajor_reshapeEquiv hb j
  have hA : M * k = A * (⟨n, d⟩ : Shape).numel := by
    have := (show (⟨2, ![M, k]⟩ : Shape).numel = (⟨n + 1, Matrix.vecCons A d⟩ : Shape).numel from ha)
    simpa [Shape.numel, Fin.prod_univ_succ] using this
  unfold shapeCast
  generalize Shape.reshapeEquiv hb j = p at hp ⊢
  have hlt : (p 0).val < B := (p 0).isLt
  rw [← concatenate_pair_apply_right 0 a b h (Fin.cons ⟨A + (p 0).val, by show A + (p 0).val < C; omega⟩ fun b => p b.succ) rfl rfl p
    (fun b => by
      refine Fin.cases (fun h => absurd rfl h) (fun b _ => ?_) b
      rfl)
    (Nat.add_comm _ _)]
  refine congrArg _ (Shape.reshapeEquiv_eq_of_rowMajor hs ?_)
  rw [Shape.rowMajor_val_succ] at hp ⊢
  rw [Shape.rowMajor_val_two] at hp ⊢
  rw [h0, h1]
  show (A + (p 0).val) * (⟨n, d⟩ : Shape).numel + ((⟨n, d⟩ : Shape).rowMajor fun a => p a.succ).val = (M + (j 0).val) * k + (j 1).val
  have hp' : (p 0).val * (⟨n, d⟩ : Shape).numel + ((⟨n, d⟩ : Shape).rowMajor fun a => p a.succ).val = (j 0).val * k + (j 1).val := hp
  rw [Nat.add_mul, Nat.add_mul, hA, Nat.add_assoc, Nat.add_assoc, hp']

end Cert.Passes

end

end
-- ==== Proof.Regions.lean ====
/- What a program of several regions and host stretches leaves: every buffer outside the regions' scopes holds what the
   last boundary says. -/
module

public import Idealize.ShloMosaic.Adequacy
public import Idealize.ShloMosaic.Init
public import Idealize.ShloMosaic.Lib.Pipeline.ValueKit
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg ucRefs)

namespace Cert.Regions

variable {nD : Nat} {τ : Topo} {sig : RefSig} {Val : EltTy → Type} {Λ₀ : Labels} {P : Type} [Fintype P] [DecidableEq P]
  [∀ e, Nonempty (Val e)]

/-- The register and the debts that ride along. -/
abbrev Rest (c : Dev nD) : sProp (MT nD τ sig Unit Val ℕ (UR sig nD τ) ℕ) :=
  iprop((∃ r, prngReg c r) ∗ ∃ W, owes (c : Thread nD τ) (0 : CellTallies nD τ sig Unit) W)

/-- What a host stretch leaves, grouped as the end of a program wants it. -/
theorem regroup (A B C : sProp (MT nD τ sig Unit Val ℕ (UR sig nD τ) ℕ)) : iprop(A ∗ B ∗ C) ⊢ iprop((A ∗ B) ∗ C) := by
  iintro ⟨HA, HB, HC⟩
  isplitl [HA HB]
  · isplitl [HA]; · iexact HA
    iexact HB
  iexact HC

set_option backward.isDefEq.respectTransparency.types false in
/-- A chain of segments from the launched memory to the contents `W`: every run ends with the contents `W`. -/
theorem run (pcs : P → Pipeline.PCfg sig Λ₀ Val) (a : (p : P) → (pcs p).Adm)
    (pdats : (p : P) → (c : Dev nD) → Dat τ Val Unit ℕ (UR sig nD τ) ℕ (Pipeline.pin pcs a p) c)
    (inj : Function.Injective (Pipeline.cellOf (nD := nD) (τ := τ) (Pipeline.pin pcs a))) (defs₀ : Defs nD τ sig Val Λ₀)
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Seg pcs a pdats () defs₀ Variants.none (fun _ => ∅) (fun _ _ => 0))) (hmain : ∀ c, main c = Seg.run segs)
    (hnd : (Seg.pipes segs).Nodup) (W : Dev nD → Valuation τ sig Val)
    (hch : Seg.Chains (fun c => iprop(StableHlo.held (c : Thread nD τ) (ucRefs τ sig) (fun b => m ((c : Dev nD), b)) ∗ Rest c)) segs
      fun c => iprop(iprop(StableHlo.held (c : Thread nD τ) (ucRefs τ sig) (W c) ∗ ∃ r, prngReg c r)
        ∗ ∃ W, owes (c : Thread nD τ) (0 : CellTallies nD τ sig Unit) W)) :
    θ_run (Pipeline.defs pcs defs₀) (onTc (τ := τ) main) ⟨m, fun _ => 0, ρ⟩
      (fun r => ∀ c : Dev nD, ∀ b ∈ ucRefs τ sig, r.2.mem (((c : Thread nD τ)).1, b) = W c b) :=
  Pipeline.θ_run_regions_kit_sems pcs a pdats () inj emb₁ defs₀ Variants.none (fun _ => ∅) (fun _ _ => 0) m ρ main segs
    (fun c Q => by rw [hmain c]) hnd (O₀ := 0) (hL := fun _ _ => rfl) (G := fun _ => iprop(emp))
    (u₀ := initOf (Pipeline.cells (Pipeline.pin pcs a) inj) (Pipeline.launchToks (Pipeline.pin pcs a) inj))
    (hu₀ := by
      iintro Hu; imodintro
      isplitl [Hu]
      · iapply (show (ownU (initOf (Pipeline.cells (Pipeline.pin pcs a) inj) (Pipeline.launchToks (Pipeline.pin pcs a) inj))
            : sProp (MT nD τ sig Unit Val ℕ (UR sig nD τ) ℕ))
          ⊢ BI.own (emb₁ (initOf (Pipeline.cells (Pipeline.pin pcs a) inj) (Pipeline.launchToks (Pipeline.pin pcs a) inj))) from .rfl)
        iexact Hu
      iapply (show (BI.emp : sProp (MT nD τ sig Unit Val ℕ (UR sig nD τ) ℕ))
        ⊢ bigSep Finset.univ (fun _ : Dev nD => (BI.emp : sProp (MT nD τ sig Unit Val ℕ (UR sig nD τ) ℕ))) from by rw [BI.bigSep_emp_const])
      iempintro)
    (T₀ := fun c => iprop(StableHlo.held (c : Thread nD τ) (ucRefs τ sig) (fun b => m ((c : Dev nD), b)) ∗ Rest c))
    (Tₙ := fun c => iprop(StableHlo.held (c : Thread nD τ) (ucRefs τ sig) (W c) ∗ ∃ r, prngReg c r))
    (hch := hch)
    (hinit := by
      refine Pipeline.initEach _ _ fun c => ?_
      rw [show unscopedBufs c (fun b => m ((c : Thread nD τ).loc b))
          = StableHlo.held (c : Thread nD τ) (ucRefs τ sig) (fun b => m ((c : Dev nD), b)) from Pipeline.unscopedBufs_held c (fun b => m ((c : Dev nD), b))]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W c b)
    (hfin := fun c s' => by
      iintro ⟨⟨Hh, -⟩, HSI⟩
      unfold StableHlo.held
      imodintro
      iapply (pointsTo_read_all (ucRefs τ sig) (fun b => (((c : Thread nD τ)).1, b)) (W c) s')
      isplitl [Hh] <;> iassumption)
    (hQ := fun _ h _ => h)

end Cert.Regions

end

end
-- ==== Proof.PassFf2.lean ====
/- The optimiser's call for the feed-forward block's second weights, which are updated in two passes: the gradients of the last
   three layers are ready first, that of the first layer later.

   The first pass writes the rows of the last three layers; the second takes its results, writes the rows of the first
   layer over them, and leaves the others. -/
module

public import proofs.«01_k».proof.Defs
public import proofs.«01_k».proof.Proof.Adam
public import proofs.«01_k».proof.Proof.Blocked
public import proofs.«01_k».proof.Proof.Passes
public import proofs.«01_k».proof.Proof.Regions
public import proofs.«01_k».proof.Proof.Gen.AdamFf2Ideal.Frame
public import proofs.«01_k».proof.Proof.Gen.AdamFf2RefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked Cert.Adam

namespace Cert.Prf.AdamFf2

open Cert.AdamFf2Ideal Cert.AdamFf2Ideal.Gen

/-- The two constants that the kernel names. -/
theorem preserves : Cert.preserves_AdamFf2_AdamFf2Ideal :=
  ⟨IdealRules.named_const.statement Cert.AdamFf2Ideal.κ "bias1" .f32 0x3FC48605#32 _ rfl,
    IdealRules.named_const.statement Cert.AdamFf2Ideal.κ "bias2" .f32 0x42C8E6D3#32 _ rfl⟩

section Blocks

variable (V : (c : Dev nD) → (b : Ref sig .tc) → Buf (Elt Ideal) ((c : Thread nD τ).loc b)) (c : Dev nD)

set_option maxHeartbeats 2000000 in
/-- What a point of the first pass leaves in the four blocks. -/
theorem block0 (t : Fin cfg0.N) : outsAt0 V c t = (iblk0 V c 1 t, deltas (iblk0 V c 0 t) (iblk0 V c 1 t) (iblk0 V c 2 t) (iblk0 V c 3 t),
    moments (iblk0 V c 1 t) (iblk0 V c 2 t), squares (iblk0 V c 1 t) (iblk0 V c 3 t)) := by
  unfold outsAt0 out0_A_4 out0_A_5 out0_A_6 out0_A_7
  rw [View.read_writes_eq_canon _ _ _ (fun y => cover0_A_4 (y := y) ..), View.read_writes_eq_canon _ _ _ (fun y => cover0_A_5 (y := y) ..),
    View.read_writes_eq_canon _ _ _ (fun y => cover0_A_6 (y := y) ..), View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread]
  simp (disch := decide) only [View.canon_cons_unit_lit, View.ld_unit_lit]
  unfold k0_pay4 k0_pay3 k0_pay2 k0_pay1
  simp only [shapeCast_self]
  exact Prod.ext rfl (Prod.ext (deltas_kernel _ _ rfl rfl _ _ _ _) (Prod.ext rfl rfl))

set_option maxHeartbeats 2000000 in
/-- What a point of the second pass leaves in the four blocks. -/
theorem block1 (t : Fin cfg1.N) : outsAt1 V c t = (iblk1 V c 1 t, deltas (iblk1 V c 0 t) (iblk1 V c 1 t) (iblk1 V c 2 t) (iblk1 V c 3 t),
    moments (iblk1 V c 1 t) (iblk1 V c 2 t), squares (iblk1 V c 1 t) (iblk1 V c 3 t)) := by
  unfold outsAt1 out1_A_4 out1_A_5 out1_A_6 out1_A_7
  rw [View.read_writes_eq_canon _ _ _ (fun y => cover1_A_4 (y := y) ..), View.read_writes_eq_canon _ _ _ (fun y => cover1_A_5 (y := y) ..),
    View.read_writes_eq_canon _ _ _ (fun y => cover1_A_6 (y := y) ..), View.read_writes_eq_canon _ _ _ (fun y => cover1_A_7 (y := y) ..)]
  unfold kernelRun1_A; dsimp only; sl_unfold_words
  simp (disch := decide) only [View.readAt_eq_ld, (hs1_0 t).read_unread, (hs1_1 t).read_unread, (hs1_2 t).read_unread, (hs1_3 t).read_unread]
  simp (disch := decide) only [View.canon_cons_unit_lit, View.ld_unit_lit]
  unfold k1_pay4 k1_pay3 k1_pay2 k1_pay1
  simp only [shapeCast_self]
  exact Prod.ext rfl (Prod.ext (deltas_kernel _ _ rfl rfl _ _ _ _) (Prod.ext rfl rfl))

end Blocks

/-- A point of the first pass reads and writes the same block of each array, but of the gradient, which has no rows of the first layer. -/
theorem index0 : ∀ t : Fin cfg0.N, (win0_1.index t 0 + 4 = win0_4.index t 0 ∧ win0_1.index t 1 = win0_4.index t 1)
    ∧ ∀ a, win0_0.index t a = win0_4.index t a ∧ win0_2.index t a = win0_4.index t a ∧ win0_3.index t a = win0_4.index t a
      ∧ win0_5.index t a = win0_4.index t a ∧ win0_6.index t a = win0_4.index t a ∧ win0_7.index t a = win0_4.index t a := by
  decide +kernel

/-- A point of the second pass reads and writes the same block of each array. -/
theorem index1 : ∀ t : Fin cfg1.N, ∀ a, win1_0.index t a = win1_4.index t a ∧ win1_1.index t a = win1_4.index t a
    ∧ win1_2.index t a = win1_4.index t a ∧ win1_3.index t a = win1_4.index t a ∧ win1_5.index t a = win1_4.index t a
    ∧ win1_6.index t a = win1_4.index t a ∧ win1_7.index t a = win1_4.index t a := by
  decide +kernel

variable (m : (ℓ : Loc nD τ sig) → Buf (Elt Ideal) ℓ) (ρ : Dev nD → PrngReg) (c : Dev nD)

/-- The gradients of the first layer and of the last three are a gradient. -/
theorem layers : Shape.Concatenates [S1x1024x1024, S3x1024x1024] S4x1024x1024 0 := by decide

/-- The weights, gradients and moments, as rows. -/
def w : FVec Ideal S4096x1024 .f32 := shapeCast S4096x1024 (m ((c : Thread nD τ).loc main_arg0)) shapeCasts_S4x1024x1024_S4096x1024
@[inherit_doc w] def g : FVec Ideal S4096x1024 .f32 := shapeCast S4096x1024 (concatenate S4x1024x1024 0
  [⟨S1x1024x1024, m ((c : Thread nD τ).loc main_arg2)⟩, ⟨S3x1024x1024, m ((c : Thread nD τ).loc main_arg1)⟩] layers) shapeCasts_S4x1024x1024_S4096x1024
@[inherit_doc w] def mo : FVec Ideal S4096x1024 .f32 := shapeCast S4096x1024 (m ((c : Thread nD τ).loc main_arg3)) shapeCasts_S4x1024x1024_S4096x1024
@[inherit_doc w] def vo : FVec Ideal S4096x1024 .f32 := shapeCast S4096x1024 (m ((c : Thread nD τ).loc main_arg4)) shapeCasts_S4x1024x1024_S4096x1024

/-- The gradients of the last three layers and of the first, as rows. -/
def gb : FVec Ideal S3072x1024 .f32 := shapeCast S3072x1024 (m ((c : Thread nD τ).loc main_arg1)) shapeCasts_S3x1024x1024_S3072x1024
@[inherit_doc gb] def ga : FVec Ideal S1024x1024 .f32 := shapeCast S1024x1024 (m ((c : Thread nD τ).loc main_arg2)) shapeCasts_S1x1024x1024_S1024x1024

/-- They are the gradient's rows. -/
theorem gb_eq (i : S3072x1024.Idx) (j : S4096x1024.Idx) (h0 : (j 0).val = 1024 + (i 0).val) (h1 : (j 1).val = (i 1).val) : gb m c i = g m c j :=
  (Cert.Passes.rows_rest _ _ layers shapeCasts_S4x1024x1024_S4096x1024 shapeCasts_S1x1024x1024_S1024x1024 shapeCasts_S3x1024x1024_S3072x1024
    j i h0 h1).symm

@[inherit_doc gb_eq]
theorem ga_eq (i : S1024x1024.Idx) (j : S4096x1024.Idx) (h0 : (j 0).val = (i 0).val) (h1 : (j 1).val = (i 1).val) : ga m c i = g m c j :=
  (Cert.Passes.rows_first _ _ layers shapeCasts_S4x1024x1024_S4096x1024 shapeCasts_S1x1024x1024_S1024x1024 j i h0 h1).symm

/-- The first pass reads them so. -/
theorem entry0 : V1 m ρ c main_v0 = w m c ∧ V1 m ρ c main_v1 = gb m c ∧ V1 m ρ c main_v2 = mo m c ∧ V1 m ρ c main_v3 = vo m c := by
  unfold V1 W1 w gb mo vo
  refine ⟨?_, ?_, ?_, ?_⟩ <;> after_results_simp <;> rfl

/-- The second pass reads them so. -/
theorem entry1 : V3 m ρ c main_v5 = w m c ∧ V3 m ρ c main_v6 = ga m c ∧ V3 m ρ c main_v7 = mo m c ∧ V3 m ρ c main_v8 = vo m c := by
  have h0 := W2_args m ρ c main_arg0 (by decide)
  have h2 := W2_args m ρ c main_arg2 (by decide)
  have h3 := W2_args m ρ c main_arg3 (by decide)
  have h4 := W2_args m ρ c main_arg4 (by decide)
  unfold w ga mo vo
  rw [← h0, ← h2, ← h3, ← h4]
  generalize hW : W2 m ρ c = W
  refine ⟨?_, ?_, ?_, ?_⟩ <;> (unfold V3 W3; rw [hW]; after_results_simp <;> rfl)

/-- It starts from the results of the first. -/
theorem kept : V3 m ρ c main_v9_0 = (dat0 (V1 m ρ) c).arrAt 4 cfg0.N ∧ V3 m ρ c main_v9_1 = (dat0 (V1 m ρ) c).arrAt 5 cfg0.N
    ∧ V3 m ρ c main_v9_2 = (dat0 (V1 m ρ) c).arrAt 6 cfg0.N ∧ V3 m ρ c main_v9_3 = (dat0 (V1 m ρ) c).arrAt 7 cfg0.N := by
  rw [← W2_arr m ρ c 4, ← W2_arr m ρ c 5, ← W2_arr m ρ c 6, ← W2_arr m ρ c 7]
  generalize hW : W2 m ρ c = W
  refine ⟨?_, ?_, ?_, ?_⟩ <;> (unfold V3 W3; rw [hW]; after_results_simp <;> rfl)

set_option maxHeartbeats 2000000 in
/-- The rows that the first pass leaves. -/
theorem first (i : S4096x1024.Idx) (hi : 1024 ≤ (i 0).val) : (dat0 (V1 m ρ) c).arrAt 4 cfg0.N i = g m c i
    ∧ (dat0 (V1 m ρ) c).arrAt 5 cfg0.N i = deltas (w m c) (g m c) (mo m c) (vo m c) i
    ∧ (dat0 (V1 m ρ) c).arrAt 6 cfg0.N i = moments (g m c) (mo m c) i
    ∧ (dat0 (V1 m ρ) c).arrAt 7 cfg0.N i = squares (g m c) (vo m c) i := by
  obtain ⟨ew, eg, em, ev⟩ := entry0 m ρ c
  refine ⟨((dat0 (V1 m ρ) c).arrAt_apply_of_coversWhere 4 (g m c) (P := fun i : S4096x1024.Idx => 1024 ≤ (i 0).val)
      (fun β => 4 ≤ β (0 : Fin 2)) (by decide +kernel) (fun t hf y => ?_) (fun j => by blk_simp [Pipeline.Window.cell_apply]; omega) i).trans (if_pos hi),
    ((dat0 (V1 m ρ) c).arrAt_apply_of_coversWhere 5 (deltas (w m c) (g m c) (mo m c) (vo m c)) (P := fun i : S4096x1024.Idx => 1024 ≤ (i 0).val)
      (fun β => 4 ≤ β (0 : Fin 2)) (by decide +kernel) (fun t hf y => ?_) (fun j => by blk_simp [Pipeline.Window.cell_apply]; omega) i).trans (if_pos hi),
    ((dat0 (V1 m ρ) c).arrAt_apply_of_coversWhere 6 (moments (g m c) (mo m c)) (P := fun i : S4096x1024.Idx => 1024 ≤ (i 0).val)
      (fun β => 4 ≤ β (0 : Fin 2)) (by decide +kernel) (fun t hf y => ?_) (fun j => by blk_simp [Pipeline.Window.cell_apply]; omega) i).trans (if_pos hi),
    ((dat0 (V1 m ρ) c).arrAt_apply_of_coversWhere 7 (squares (g m c) (vo m c)) (P := fun i : S4096x1024.Idx => 1024 ≤ (i 0).val)
      (fun β => 4 ≤ β (0 : Fin 2)) (by decide +kernel) (fun t hf y => ?_) (fun j => by blk_simp [Pipeline.Window.cell_apply]; omega) i).trans (if_pos hi)⟩
  all_goals
    clear hi
    blk_simp
    rw [eta2 y]
    have h := (index0 t).1
    have h0 := (index0 t).2 0
    have h1 := (index0 t).2 1
  · rw [after0_4, block0]
    refine (congrFun eg _).trans (gb_eq m c _ _ ?_ ?_) <;> blk_simp <;> omega
  · rw [after0_5, block0]
    refine deltas_congr ((congrFun ew _).trans (idx_congr (w m c) _ _ (on2 ?_ ?_))) ((congrFun eg _).trans (gb_eq m c _ _ ?_ ?_))
      ((congrFun em _).trans (idx_congr (mo m c) _ _ (on2 ?_ ?_))) ((congrFun ev _).trans (idx_congr (vo m c) _ _ (on2 ?_ ?_))) <;> blk_simp <;> omega
  · rw [after0_6, block0]
    refine moments_congr ((congrFun eg _).trans (gb_eq m c _ _ ?_ ?_)) ((congrFun em _).trans (idx_congr (mo m c) _ _ (on2 ?_ ?_))) <;> blk_simp <;> omega
  · rw [after0_7, block0]
    refine squares_congr ((congrFun eg _).trans (gb_eq m c _ _ ?_ ?_)) ((congrFun ev _).trans (idx_congr (vo m c) _ _ (on2 ?_ ?_))) <;> blk_simp <;> omega

set_option maxHeartbeats 2000000 in
/-- The four arrays that the two passes leave. -/
theorem arr_eq : (dat1 (V3 m ρ) c).arrAt 4 cfg1.N = g m c
    ∧ (dat1 (V3 m ρ) c).arrAt 5 cfg1.N = deltas (w m c) (g m c) (mo m c) (vo m c)
    ∧ (dat1 (V3 m ρ) c).arrAt 6 cfg1.N = moments (g m c) (mo m c)
    ∧ (dat1 (V3 m ρ) c).arrAt 7 cfg1.N = squares (g m c) (vo m c) := by
  obtain ⟨ew, eg, em, ev⟩ := entry1 m ρ c
  obtain ⟨k4, k5, k6, k7⟩ := kept m ρ c
  have rest (i : S4096x1024.Idx) (hi : ¬(i 0).val / 256 < 4) := first m ρ c i (by omega)
  refine ⟨(dat1 (V3 m ρ) c).arrAt_eq_of_coversWhere_of_agree 4 (g m c) (fun β => β (0 : Fin 2) < 4) (by decide +kernel) (fun t hf y => ?_)
      (fun j hj => (congrFun k4 j).trans (rest j hj).1),
    (dat1 (V3 m ρ) c).arrAt_eq_of_coversWhere_of_agree 5 (deltas (w m c) (g m c) (mo m c) (vo m c)) (fun β => β (0 : Fin 2) < 4) (by decide +kernel)
      (fun t hf y => ?_) (fun j hj => (congrFun k5 j).trans (rest j hj).2.1),
    (dat1 (V3 m ρ) c).arrAt_eq_of_coversWhere_of_agree 6 (moments (g m c) (mo m c)) (fun β => β (0 : Fin 2) < 4) (by decide +kernel)
      (fun t hf y => ?_) (fun j hj => (congrFun k6 j).trans (rest j hj).2.2.1),
    (dat1 (V3 m ρ) c).arrAt_eq_of_coversWhere_of_agree 7 (squares (g m c) (vo m c)) (fun β => β (0 : Fin 2) < 4) (by decide +kernel)
      (fun t hf y => ?_) (fun j hj => (congrFun k7 j).trans (rest j hj).2.2.2)⟩
  all_goals
    clear rest
    blk_simp
    rw [eta2 y]
    have h0 := index1 t 0
    have h1 := index1 t 1
  · rw [after1_4, block1]
    refine (congrFun eg _).trans (ga_eq m c _ _ ?_ ?_) <;> blk_simp <;> omega
  · rw [after1_5, block1]
    refine deltas_congr ((congrFun ew _).trans (idx_congr (w m c) _ _ (on2 ?_ ?_))) ((congrFun eg _).trans (ga_eq m c _ _ ?_ ?_))
      ((congrFun em _).trans (idx_congr (mo m c) _ _ (on2 ?_ ?_))) ((congrFun ev _).trans (idx_congr (vo m c) _ _ (on2 ?_ ?_))) <;> blk_simp <;> omega
  · rw [after1_6, block1]
    refine moments_congr ((congrFun eg _).trans (ga_eq m c _ _ ?_ ?_)) ((congrFun em _).trans (idx_congr (mo m c) _ _ (on2 ?_ ?_))) <;> blk_simp <;> omega
  · rw [after1_7, block1]
    refine squares_congr ((congrFun eg _).trans (ga_eq m c _ _ ?_ ?_)) ((congrFun ev _).trans (idx_congr (vo m c) _ _ (on2 ?_ ?_))) <;> blk_simp <;> omega

set_option backward.isDefEq.respectTransparency.types false in
/-- The run of the two passes. -/
theorem runs : θ_run defs (onTc (τ := τ) main) ⟨m, fun _ => 0, ρ⟩ (fun r => ∀ c : Dev nD, ∀ b ∈ Pipeline.ucRefs τ sig,
    r.2.mem ((c : Thread nD τ).1, b) = W4 m ρ c b) :=
  Cert.Regions.run pcfgs adm (pdats m ρ) cellOf_inj defs₀ m ρ main (segs m ρ) (main_run m ρ)
    (by simp only [segs, Pipeline.Seg.pipes_host, Pipeline.Seg.pipes_region, Pipeline.Seg.pipes_nil]; decide) (W4 m ρ)
    ⟨fun _ => .rfl, fun _ => .rfl, fun _ => .rfl, fun _ => .rfl, fun _ => .rfl⟩

/-- The call and its reference leave the same results. -/
theorem algebraic : Cert.algebraic_AdamFf2Ideal_AdamFf2RefIdeal (hAdamFf2Ideal := Cert.AdamFf2Ideal.Gen.facts)
    (hAdamFf2RefIdeal := Cert.AdamFf2RefIdeal.Gen.facts) := by
  intro m ρ m' ρ' _ E
  refine ⟨fun c => g m c, fun c => deltas (w m c) (g m c) (mo m c) (vo m c), fun c => moments (g m c) (mo m c), fun c => squares (g m c) (vo m c),
    (θ_run _ _ _).mono (fun r h c => ?_) (runs m ρ), (θ_run _ _ _).mono (fun r h c => ?_) (Cert.AdamFf2RefIdeal.Value.run m' ρ')⟩
  · obtain ⟨e4, e5, e6, e7⟩ := arr_eq m ρ c
    exact ⟨(h c _ (mem_uc main_v9_0 (by decide))).trans ((W4_arr m ρ c 4).trans e4),
      (h c _ (mem_uc main_v9_1 (by decide))).trans ((W4_arr m ρ c 5).trans e5),
      (h c _ (mem_uc main_v9_2 (by decide))).trans ((W4_arr m ρ c 6).trans e6),
      (h c _ (mem_uc main_v9_3 (by decide))).trans ((W4_arr m ρ c 7).trans e7),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩
  · obtain ⟨h4, h5, h6, h7, h⟩ := h c
    obtain ⟨e0, e1, e2, e3, e4, e5, e6⟩ := E c
    rw [e1, e2] at h4
    rw [e0, e1, e2, e3, e4] at h5
    rw [e1, e2, e3] at h6
    rw [e1, e2, e4] at h7
    exact ⟨h4, h5.trans (congrArg (shapeCast _ · _) (deltas_eq _ _ _ _ _)), h6.trans (congrArg (shapeCast _ · _) (moments_eq _ _ _)),
      h7.trans (congrArg (shapeCast _ · _) (squares_eq _ _ _)), h⟩

end Cert.Prf.AdamFf2

end

end
-- ==== Proof.PassIn.lean ====
/- The optimiser's call for the input projection's weights, which are updated in two passes, each layer transposed: the gradients
   of the last three layers are ready first, that of the first layer later.

   The first pass writes the last three layers; the second takes its results, writes the first layer over them, and leaves
   the others. -/
module

public import proofs.«01_k».proof.Defs
public import proofs.«01_k».proof.Proof.Adam
public import proofs.«01_k».proof.Proof.Blocked
public import proofs.«01_k».proof.Proof.Regions
public import proofs.«01_k».proof.Proof.Gen.AdamInIdeal.Frame
public import proofs.«01_k».proof.Proof.Gen.AdamInRefIdeal.Run
public import Idealize.ShloMosaic.Lib.Pipeline.ValueKit

@[expose] public section

set_option maxRecDepth 16384

noncomputable section

open Idealize.ShloMosaic Idealize.ShloMosaic.TcCoe Idealize.ShloMosaic.Tactic Cert.Blocked Cert.Adam

namespace Cert.Prf.AdamIn

open Cert.AdamInIdeal Cert.AdamInIdeal.Gen

/-- The two constants that the kernel names. -/
theorem preserves : Cert.preserves_AdamIn_AdamInIdeal :=
  ⟨IdealRules.named_const.statement Cert.AdamInIdeal.κ "bias1" .f32 0x3FC48605#32 _ rfl,
    IdealRules.named_const.statement Cert.AdamInIdeal.κ "bias2" .f32 0x42C8E6D3#32 _ rfl⟩

/-- An index of an array of three axes is its three coordinates. -/
theorem eta3 {n m k : ℕ} (i : (⟨3, ![n, m, k]⟩ : Shape).Idx) : i = ix3 (i 0) (i 1) (i 2) := by
  funext a
  match a with
  | ⟨0, _⟩ => rfl
  | ⟨1, _⟩ => rfl
  | ⟨2, _⟩ => rfl

/-- A step over a layer's matrix is the step over the layer. -/
theorem deltas_layer {s r : Shape} (h : s.ShapeCasts r) (h' : r.ShapeCasts s) (w g m v : FVec Ideal s .f32) :
    shapeCast s (deltas (shapeCast r w h) (shapeCast r g h) (shapeCast r m h) (shapeCast r v h)) h' = deltas w g m v := by
  rw [show shapeCast s (deltas (shapeCast r w h) (shapeCast r g h) (shapeCast r m h) (shapeCast r v h)) h'
    = deltas (shapeCast s (shapeCast r w h) h') (shapeCast s (shapeCast r g h) h') (shapeCast s (shapeCast r m h) h')
      (shapeCast s (shapeCast r v h) h') from rfl]
  simp only [shapeCast_shapeCast]

@[inherit_doc deltas_layer]
theorem moments_layer {s r : Shape} (h : s.ShapeCasts r) (h' : r.ShapeCasts s) (g m : FVec Ideal s .f32) :
    shapeCast s (moments (shapeCast r g h) (shapeCast r m h)) h' = moments g m := by
  rw [show shapeCast s (moments (shapeCast r g h) (shapeCast r m h)) h'
    = moments (shapeCast s (shapeCast r g h) h') (shapeCast s (shapeCast r m h) h') from rfl]
  simp only [shapeCast_shapeCast]

@[inherit_doc deltas_layer]
theorem squares_layer {s r : Shape} (h : s.ShapeCasts r) (h' : r.ShapeCasts s) (g v : FVec Ideal s .f32) :
    shapeCast s (squares (shapeCast r g h) (shapeCast r v h)) h' = squares g v := by
  rw [show shapeCast s (squares (shapeCast r g h) (shapeCast r v h)) h'
    = squares (shapeCast s (shapeCast r g h) h') (shapeCast s (shapeCast r v h) h') from rfl]
  simp only [shapeCast_shapeCast]

section Blocks

variable (V : (c : Dev nD) → (b : Ref sig .tc) → Buf (Elt Ideal) ((c : Thread nD τ).loc b)) (c : Dev nD)

set_option maxHeartbeats 2000000 in
/-- What a point of the first pass leaves in the four blocks. -/
theorem block0 (t : Fin cfg0.N) : outsAt0 V c t = (iblk0 V c 1 t, deltas (iblk0 V c 0 t) (iblk0 V c 1 t) (iblk0 V c 2 t) (iblk0 V c 3 t),
    moments (iblk0 V c 1 t) (iblk0 V c 2 t), squares (iblk0 V c 1 t) (iblk0 V c 3 t)) := by
  unfold outsAt0 out0_A_4 out0_A_5 out0_A_6 out0_A_7
  rw [View.read_writes_eq_canon _ _ _ (fun y => cover0_A_4 (y := y) ..), View.read_writes_eq_canon _ _ _ (fun y => cover0_A_5 (y := y) ..),
    View.read_writes_eq_canon _ _ _ (fun y => cover0_A_6 (y := y) ..), View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread]
  simp (disch := decide) only [View.canon_cons_unit_lit, View.ld_unit_lit]
  unfold k0_pay1 k0_pay2 k0_pay3 k0_pay8 k0_pay7 k0_pay6 k0_pay5 k0_pay4
  dsimp only
  refine Prod.ext (shapeCast_shapeCast (iblk0 V c 1 t) shapeCasts_S1x2820x128_S2820x128 shapeCasts_S2820x128_S1x2820x128)
    (Prod.ext ?_ (Prod.ext (moments_layer shapeCasts_S1x2820x128_S2820x128 shapeCasts_S2820x128_S1x2820x128 (iblk0 V c 1 t) (iblk0 V c 2 t))
      (squares_layer shapeCasts_S1x2820x128_S2820x128 shapeCasts_S2820x128_S1x2820x128 (iblk0 V c 1 t) (iblk0 V c 3 t))))
  exact (congrArg (shapeCast S1x2820x128 · shapeCasts_S2820x128_S1x2820x128) (deltas_kernel _ _ rfl rfl
    (shapeCast S2820x128 (iblk0 V c 0 t) shapeCasts_S1x2820x128_S2820x128) (shapeCast S2820x128 (iblk0 V c 1 t) shapeCasts_S1x2820x128_S2820x128)
    (shapeCast S2820x128 (iblk0 V c 2 t) shapeCasts_S1x2820x128_S2820x128) (shapeCast S2820x128 (iblk0 V c 3 t) shapeCasts_S1x2820x128_S2820x128))).trans
    (deltas_layer shapeCasts_S1x2820x128_S2820x128 shapeCasts_S2820x128_S1x2820x128 (iblk0 V c 0 t) (iblk0 V c 1 t) (iblk0 V c 2 t) (iblk0 V c 3 t))

set_option maxHeartbeats 2000000 in
/-- What a point of the second pass leaves in the four blocks. -/
theorem block1 (t : Fin cfg1.N) : outsAt1 V c t = (iblk1 V c 1 t, deltas (iblk1 V c 0 t) (iblk1 V c 1 t) (iblk1 V c 2 t) (iblk1 V c 3 t),
    moments (iblk1 V c 1 t) (iblk1 V c 2 t), squares (iblk1 V c 1 t) (iblk1 V c 3 t)) := by
  unfold outsAt1 out1_A_4 out1_A_5 out1_A_6 out1_A_7
  rw [View.read_writes_eq_canon _ _ _ (fun y => cover1_A_4 (y := y) ..), View.read_writes_eq_canon _ _ _ (fun y => cover1_A_5 (y := y) ..),
    View.read_writes_eq_canon _ _ _ (fun y => cover1_A_6 (y := y) ..), View.read_writes_eq_canon _ _ _ (fun y => cover1_A_7 (y := y) ..)]
  unfold kernelRun1_A; dsimp only; sl_unfold_words
  simp (disch := decide) only [View.readAt_eq_ld, (hs1_0 t).read_unread, (hs1_1 t).read_unread, (hs1_2 t).read_unread, (hs1_3 t).read_unread]
  simp (disch := decide) only [View.canon_cons_unit_lit, View.ld_unit_lit]
  unfold k1_pay1 k1_pay2 k1_pay3 k1_pay8 k1_pay7 k1_pay6 k1_pay5 k1_pay4
  dsimp only
  refine Prod.ext (shapeCast_shapeCast (iblk1 V c 1 t) shapeCasts_S1x2820x128_S2820x128 shapeCasts_S2820x128_S1x2820x128)
    (Prod.ext ?_ (Prod.ext (moments_layer shapeCasts_S1x2820x128_S2820x128 shapeCasts_S2820x128_S1x2820x128 (iblk1 V c 1 t) (iblk1 V c 2 t))
      (squares_layer shapeCasts_S1x2820x128_S2820x128 shapeCasts_S2820x128_S1x2820x128 (iblk1 V c 1 t) (iblk1 V c 3 t))))
  exact (congrArg (shapeCast S1x2820x128 · shapeCasts_S2820x128_S1x2820x128) (deltas_kernel _ _ rfl rfl
    (shapeCast S2820x128 (iblk1 V c 0 t) shapeCasts_S1x2820x128_S2820x128) (shapeCast S2820x128 (iblk1 V c 1 t) shapeCasts_S1x2820x128_S2820x128)
    (shapeCast S2820x128 (iblk1 V c 2 t) shapeCasts_S1x2820x128_S2820x128) (shapeCast S2820x128 (iblk1 V c 3 t) shapeCasts_S1x2820x128_S2820x128))).trans
    (deltas_layer shapeCasts_S1x2820x128_S2820x128 shapeCasts_S2820x128_S1x2820x128 (iblk1 V c 0 t) (iblk1 V c 1 t) (iblk1 V c 2 t) (iblk1 V c 3 t))

end Blocks

/-- A point of the first pass reads and writes the same block of each array, but of the gradient, which has no first layer. -/
theorem index0 : ∀ t : Fin cfg0.N, (win0_1.index t 0 + 1 = win0_4.index t 0 ∧ win0_1.index t 1 = win0_4.index t 1 ∧ win0_1.index t 2 = win0_4.index t 2)
    ∧ ∀ a, win0_0.index t a = win0_4.index t a ∧ win0_2.index t a = win0_4.index t a ∧ win0_3.index t a = win0_4.index t a
      ∧ win0_5.index t a = win0_4.index t a ∧ win0_6.index t a = win0_4.index t a ∧ win0_7.index t a = win0_4.index t a := by
  decide +kernel

/-- A point of the second pass reads and writes the same block of each array. -/
theorem index1 : ∀ t : Fin cfg1.N, ∀ a, win1_0.index t a = win1_4.index t a ∧ win1_1.index t a = win1_4.index t a
    ∧ win1_2.index t a = win1_4.index t a ∧ win1_3.index t a = win1_4.index t a ∧ win1_5.index t a = win1_4.index t a
    ∧ win1_6.index t a = win1_4.index t a ∧ win1_7.index t a = win1_4.index t a := by
  decide +kernel

variable (m : (ℓ : Loc nD τ sig) → Buf (Elt Ideal) ℓ) (ρ : Dev nD → PrngReg) (c : Dev nD)

/-- The gradients of the first layer and of the last three are a gradient. -/
theorem layers : Shape.Concatenates [S1x2820x1024, S3x2820x1024] S4x2820x1024 0 := by decide

/-- The weights, gradients and moments, each layer transposed. -/
def w : FVec Ideal S4x2820x1024 .f32 := transpose S4x2820x1024 [0, 2, 1] (m ((c : Thread nD τ).loc main_arg0)) transposes_S4x1024x2820_S4x2820x1024_0_2_1
@[inherit_doc w] def g : FVec Ideal S4x2820x1024 .f32 := concatenate S4x2820x1024 0
  [⟨S1x2820x1024, m ((c : Thread nD τ).loc main_arg2)⟩, ⟨S3x2820x1024, m ((c : Thread nD τ).loc main_arg1)⟩] layers
@[inherit_doc w] def mo : FVec Ideal S4x2820x1024 .f32 := transpose S4x2820x1024 [0, 2, 1] (m ((c : Thread nD τ).loc main_arg3)) transposes_S4x1024x2820_S4x2820x1024_0_2_1
@[inherit_doc w] def vo : FVec Ideal S4x2820x1024 .f32 := transpose S4x2820x1024 [0, 2, 1] (m ((c : Thread nD τ).loc main_arg4)) transposes_S4x1024x2820_S4x2820x1024_0_2_1

/-- The gradients of the last three layers and of the first. -/
def gb : FVec Ideal S3x2820x1024 .f32 := m ((c : Thread nD τ).loc main_arg1)
@[inherit_doc gb] def ga : FVec Ideal S1x2820x1024 .f32 := m ((c : Thread nD τ).loc main_arg2)

/-- They are the gradient's layers. -/
theorem gb_eq (i : S3x2820x1024.Idx) (j : S4x2820x1024.Idx) (h0 : (j 0).val = 1 + (i 0).val) (h1 : (j 1).val = (i 1).val)
    (h2 : (j 2).val = (i 2).val) : gb m c i = g m c j :=
  (concatenate_pair_apply_right 0 _ _ layers j rfl rfl i (fun b => match b with
    | ⟨0, _⟩ => fun h => absurd rfl h
    | ⟨1, _⟩ => fun _ => h1.symm
    | ⟨2, _⟩ => fun _ => h2.symm) ((Nat.add_comm _ _).trans h0.symm)).symm

@[inherit_doc gb_eq]
theorem ga_eq (i : S1x2820x1024.Idx) (j : S4x2820x1024.Idx) (h0 : (j 0).val = (i 0).val) (h1 : (j 1).val = (i 1).val)
    (h2 : (j 2).val = (i 2).val) : ga m c i = g m c j :=
  (concatenate_pair_apply_left 0 _ _ layers j rfl i (on3 h0.symm h1.symm h2.symm)).symm

/-- The first pass reads them so. -/
theorem entry0 : V1 m ρ c main_v0 = w m c ∧ V1 m ρ c main_arg1 = gb m c ∧ V1 m ρ c main_v1 = mo m c ∧ V1 m ρ c main_v2 = vo m c := by
  unfold V1 W1 w gb mo vo
  refine ⟨?_, ?_, ?_, ?_⟩ <;> after_results_simp <;> rfl

/-- The second pass reads them so. -/
theorem entry1 : V3 m ρ c main_v0 = w m c ∧ V3 m ρ c main_arg2 = ga m c ∧ V3 m ρ c main_v1 = mo m c ∧ V3 m ρ c main_v2 = vo m c := by
  obtain ⟨ew, -, em, ev⟩ := entry0 m ρ c
  exact ⟨(W3_of m ρ c main_v0 (by decide)).trans ((W2_of m ρ c main_v0 (by decide)).trans ew), W3_args m ρ c main_arg2 (by decide),
    (W3_of m ρ c main_v1 (by decide)).trans ((W2_of m ρ c main_v1 (by decide)).trans em),
    (W3_of m ρ c main_v2 (by decide)).trans ((W2_of m ρ c main_v2 (by decide)).trans ev)⟩

/-- It starts from the results of the first. -/
theorem kept : V3 m ρ c main_v4_0 = (dat0 (V1 m ρ) c).arrAt 4 cfg0.N ∧ V3 m ρ c main_v4_1 = (dat0 (V1 m ρ) c).arrAt 5 cfg0.N
    ∧ V3 m ρ c main_v4_2 = (dat0 (V1 m ρ) c).arrAt 6 cfg0.N ∧ V3 m ρ c main_v4_3 = (dat0 (V1 m ρ) c).arrAt 7 cfg0.N := by
  rw [← W2_arr m ρ c 4, ← W2_arr m ρ c 5, ← W2_arr m ρ c 6, ← W2_arr m ρ c 7]
  generalize hW : W2 m ρ c = W
  refine ⟨?_, ?_, ?_, ?_⟩ <;> (unfold V3 W3; rw [hW]; after_results_simp <;> rfl)

set_option maxHeartbeats 2000000 in
/-- The layers that the first pass leaves. -/
theorem first (i : S4x2820x1024.Idx) (hi : 1 ≤ (i 0).val) : (dat0 (V1 m ρ) c).arrAt 4 cfg0.N i = g m c i
    ∧ (dat0 (V1 m ρ) c).arrAt 5 cfg0.N i = deltas (w m c) (g m c) (mo m c) (vo m c) i
    ∧ (dat0 (V1 m ρ) c).arrAt 6 cfg0.N i = moments (g m c) (mo m c) i
    ∧ (dat0 (V1 m ρ) c).arrAt 7 cfg0.N i = squares (g m c) (vo m c) i := by
  obtain ⟨ew, eg, em, ev⟩ := entry0 m ρ c
  refine ⟨((dat0 (V1 m ρ) c).arrAt_apply_of_coversWhere 4 (g m c) (P := fun i : S4x2820x1024.Idx => 1 ≤ (i 0).val)
      (fun β => 1 ≤ β (0 : Fin 3)) (by decide +kernel) (fun t hf y => ?_) (fun j => by blk_simp [Pipeline.Window.cell_apply]; omega) i).trans (if_pos hi),
    ((dat0 (V1 m ρ) c).arrAt_apply_of_coversWhere 5 (deltas (w m c) (g m c) (mo m c) (vo m c)) (P := fun i : S4x2820x1024.Idx => 1 ≤ (i 0).val)
      (fun β => 1 ≤ β (0 : Fin 3)) (by decide +kernel) (fun t hf y => ?_) (fun j => by blk_simp [Pipeline.Window.cell_apply]; omega) i).trans (if_pos hi),
    ((dat0 (V1 m ρ) c).arrAt_apply_of_coversWhere 6 (moments (g m c) (mo m c)) (P := fun i : S4x2820x1024.Idx => 1 ≤ (i 0).val)
      (fun β => 1 ≤ β (0 : Fin 3)) (by decide +kernel) (fun t hf y => ?_) (fun j => by blk_simp [Pipeline.Window.cell_apply]; omega) i).trans (if_pos hi),
    ((dat0 (V1 m ρ) c).arrAt_apply_of_coversWhere 7 (squares (g m c) (vo m c)) (P := fun i : S4x2820x1024.Idx => 1 ≤ (i 0).val)
      (fun β => 1 ≤ β (0 : Fin 3)) (by decide +kernel) (fun t hf y => ?_) (fun j => by blk_simp [Pipeline.Window.cell_apply]; omega) i).trans (if_pos hi)⟩
  all_goals
    clear hi
    blk_simp
    rw [eta3 y]
    have h := (index0 t).1
    have h0 := (index0 t).2 0
    have h1 := (index0 t).2 1
    have h2 := (index0 t).2 2
  · rw [after0_4, block0]
    refine (congrFun eg _).trans (gb_eq m c _ _ ?_ ?_ ?_) <;> blk_simp <;> omega
  · rw [after0_5, block0]
    refine deltas_congr ((congrFun ew _).trans (idx_congr (w m c) _ _ (on3 ?_ ?_ ?_))) ((congrFun eg _).trans (gb_eq m c _ _ ?_ ?_ ?_))
      ((congrFun em _).trans (idx_congr (mo m c) _ _ (on3 ?_ ?_ ?_))) ((congrFun ev _).trans (idx_congr (vo m c) _ _ (on3 ?_ ?_ ?_))) <;> blk_simp <;> omega
  · rw [after0_6, block0]
    refine moments_congr ((congrFun eg _).trans (gb_eq m c _ _ ?_ ?_ ?_)) ((congrFun em _).trans (idx_congr (mo m c) _ _ (on3 ?_ ?_ ?_))) <;> blk_simp <;> omega
  · rw [after0_7, block0]
    refine squares_congr ((congrFun eg _).trans (gb_eq m c _ _ ?_ ?_ ?_)) ((congrFun ev _).trans (idx_congr (vo m c) _ _ (on3 ?_ ?_ ?_))) <;> blk_simp <;> omega

set_option maxHeartbeats 2000000 in
/-- The four arrays that the two passes leave. -/
theorem arr_eq : (dat1 (V3 m ρ) c).arrAt 4 cfg1.N = g m c
    ∧ (dat1 (V3 m ρ) c).arrAt 5 cfg1.N = deltas (w m c) (g m c) (mo m c) (vo m c)
    ∧ (dat1 (V3 m ρ) c).arrAt 6 cfg1.N = moments (g m c) (mo m c)
    ∧ (dat1 (V3 m ρ) c).arrAt 7 cfg1.N = squares (g m c) (vo m c) := by
  obtain ⟨ew, eg, em, ev⟩ := entry1 m ρ c
  obtain ⟨k4, k5, k6, k7⟩ := kept m ρ c
  have rest (i : S4x2820x1024.Idx) (hi : ¬(i 0).val / 1 < 1) := first m ρ c i (by omega)
  refine ⟨(dat1 (V3 m ρ) c).arrAt_eq_of_coversWhere_of_agree 4 (g m c) (fun β => β (0 : Fin 3) < 1) (by decide +kernel) (fun t hf y => ?_)
      (fun j hj => (congrFun k4 j).trans (rest j hj).1),
    (dat1 (V3 m ρ) c).arrAt_eq_of_coversWhere_of_agree 5 (deltas (w m c) (g m c) (mo m c) (vo m c)) (fun β => β (0 : Fin 3) < 1) (by decide +kernel)
      (fun t hf y => ?_) (fun j hj => (congrFun k5 j).trans (rest j hj).2.1),
    (dat1 (V3 m ρ) c).arrAt_eq_of_coversWhere_of_agree 6 (moments (g m c) (mo m c)) (fun β => β (0 : Fin 3) < 1) (by decide +kernel)
      (fun t hf y => ?_) (fun j hj => (congrFun k6 j).trans (rest j hj).2.2.1),
    (dat1 (V3 m ρ) c).arrAt_eq_of_coversWhere_of_agree 7 (squares (g m c) (vo m c)) (fun β => β (0 : Fin 3) < 1) (by decide +kernel)
      (fun t hf y => ?_) (fun j hj => (congrFun k7 j).trans (rest j hj).2.2.2)⟩
  all_goals
    clear rest
    blk_simp
    rw [eta3 y]
    have h0 := index1 t 0
    have h1 := index1 t 1
    have h2 := index1 t 2
  · rw [after1_4, block1]
    refine (congrFun eg _).trans (ga_eq m c _ _ ?_ ?_ ?_) <;> blk_simp <;> omega
  · rw [after1_5, block1]
    refine deltas_congr ((congrFun ew _).trans (idx_congr (w m c) _ _ (on3 ?_ ?_ ?_))) ((congrFun eg _).trans (ga_eq m c _ _ ?_ ?_ ?_))
      ((congrFun em _).trans (idx_congr (mo m c) _ _ (on3 ?_ ?_ ?_))) ((congrFun ev _).trans (idx_congr (vo m c) _ _ (on3 ?_ ?_ ?_))) <;> blk_simp <;> omega
  · rw [after1_6, block1]
    refine moments_congr ((congrFun eg _).trans (ga_eq m c _ _ ?_ ?_ ?_)) ((congrFun em _).trans (idx_congr (mo m c) _ _ (on3 ?_ ?_ ?_))) <;> blk_simp <;> omega
  · rw [after1_7, block1]
    refine squares_congr ((congrFun eg _).trans (ga_eq m c _ _ ?_ ?_ ?_)) ((congrFun ev _).trans (idx_congr (vo m c) _ _ (on3 ?_ ?_ ?_))) <;> blk_simp <;> omega

set_option backward.isDefEq.respectTransparency.types false in
/-- The run of the two passes. -/
theorem runs : θ_run defs (onTc (τ := τ) main) ⟨m, fun _ => 0, ρ⟩ (fun r => ∀ c : Dev nD, ∀ b ∈ Pipeline.ucRefs τ sig,
    r.2.mem ((c : Thread nD τ).1, b) = W5 m ρ c b) :=
  Cert.Regions.run pcfgs adm (pdats m ρ) cellOf_inj defs₀ m ρ main (segs m ρ) (main_run m ρ)
    (by simp only [segs, Pipeline.Seg.pipes_host, Pipeline.Seg.pipes_region, Pipeline.Seg.pipes_nil]; decide) (W5 m ρ)
    ⟨fun _ => .rfl, fun _ => .rfl, fun _ => .rfl, fun _ => .rfl, fun _ => .rfl, fun _ => Cert.Regions.regroup _ _ _⟩

/-- The results, each layer transposed back. -/
theorem exit : W5 m ρ c (Proc.devRef .tc main_v5) = transpose S4x1024x2820 [0, 2, 1] (g m c) transposes_S4x2820x1024_S4x1024x2820_0_2_1
    ∧ W5 m ρ c (Proc.devRef .tc main_v6)
      = transpose S4x1024x2820 [0, 2, 1] (deltas (w m c) (g m c) (mo m c) (vo m c)) transposes_S4x2820x1024_S4x1024x2820_0_2_1
    ∧ W5 m ρ c (Proc.devRef .tc main_v7) = transpose S4x1024x2820 [0, 2, 1] (moments (g m c) (mo m c)) transposes_S4x2820x1024_S4x1024x2820_0_2_1
    ∧ W5 m ρ c (Proc.devRef .tc main_v8) = transpose S4x1024x2820 [0, 2, 1] (squares (g m c) (vo m c)) transposes_S4x2820x1024_S4x1024x2820_0_2_1 := by
  obtain ⟨e4, e5, e6, e7⟩ := arr_eq m ρ c
  rw [← e5, ← e6, ← e7, ← e4, ← W4_arr m ρ c 4, ← W4_arr m ρ c 5, ← W4_arr m ρ c 6, ← W4_arr m ρ c 7]
  generalize hW : W4 m ρ c = W
  refine ⟨?_, ?_, ?_, ?_⟩ <;> (unfold W5; rw [hW]; after_results_simp <;> rfl)

/-- A layer transposed twice is the layer. -/
theorem twice (x : FVec Ideal S4x1024x2820 .f32) : transpose S4x1024x2820 [0, 2, 1]
    (transpose S4x2820x1024 [0, 2, 1] x transposes_S4x1024x2820_S4x2820x1024_0_2_1) transposes_S4x2820x1024_S4x1024x2820_0_2_1 = x := by
  funext i
  exact (transpose_apply _ _ _ i (ix3 (i 0) (i 2) (i 1)) (on3 rfl rfl rfl)).trans (transpose_apply _ _ _ _ i (on3 rfl rfl rfl))

/-- The gradient, each layer transposed back. -/
def gt : FVec Ideal S4x1024x2820 .f32 := transpose S4x1024x2820 [0, 2, 1] (g m c) transposes_S4x2820x1024_S4x1024x2820_0_2_1

/-- The step's results are those of the step over the arrays as they came. -/
theorem back : transpose S4x1024x2820 [0, 2, 1] (deltas (w m c) (g m c) (mo m c) (vo m c)) transposes_S4x2820x1024_S4x1024x2820_0_2_1
      = deltas (m ((c : Thread nD τ).loc main_arg0)) (gt m c) (m ((c : Thread nD τ).loc main_arg3)) (m ((c : Thread nD τ).loc main_arg4))
    ∧ transpose S4x1024x2820 [0, 2, 1] (moments (g m c) (mo m c)) transposes_S4x2820x1024_S4x1024x2820_0_2_1
      = moments (gt m c) (m ((c : Thread nD τ).loc main_arg3))
    ∧ transpose S4x1024x2820 [0, 2, 1] (squares (g m c) (vo m c)) transposes_S4x2820x1024_S4x1024x2820_0_2_1
      = squares (gt m c) (m ((c : Thread nD τ).loc main_arg4)) := by
  have hw := twice (m ((c : Thread nD τ).loc main_arg0))
  have hm := twice (m ((c : Thread nD τ).loc main_arg3))
  have hv := twice (m ((c : Thread nD τ).loc main_arg4))
  exact ⟨funext fun i => deltas_congr (congrFun hw i) rfl (congrFun hm i) (congrFun hv i),
    funext fun i => moments_congr rfl (congrFun hm i), funext fun i => squares_congr rfl (congrFun hv i)⟩

/-- The call and its reference leave the same results. -/
theorem algebraic : Cert.algebraic_AdamInIdeal_AdamInRefIdeal (hAdamInIdeal := Cert.AdamInIdeal.Gen.facts)
    (hAdamInRefIdeal := Cert.AdamInRefIdeal.Gen.facts) := by
  intro m ρ m' ρ' _ E
  refine ⟨fun c => gt m c,
    fun c => deltas (m ((c : Thread nD τ).loc main_arg0)) (gt m c) (m ((c : Thread nD τ).loc main_arg3)) (m ((c : Thread nD τ).loc main_arg4)),
    fun c => moments (gt m c) (m ((c : Thread nD τ).loc main_arg3)), fun c => squares (gt m c) (m ((c : Thread nD τ).loc main_arg4)),
    (θ_run _ _ _).mono (fun r h c => ?_) (runs m ρ), (θ_run _ _ _).mono (fun r h c => ?_) (Cert.AdamInRefIdeal.Value.run m' ρ')⟩
  · obtain ⟨e4, e5, e6, e7⟩ := exit m ρ c
    obtain ⟨b5, b6, b7⟩ := back m c
    exact ⟨(h c _ (mem_uc main_v5 (by decide))).trans e4,
      (h c _ (mem_uc main_v6 (by decide))).trans (e5.trans b5),
      (h c _ (mem_uc main_v7 (by decide))).trans (e6.trans b6),
      (h c _ (mem_uc main_v8 (by decide))).trans (e7.trans b7),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c)⟩
  · obtain ⟨h4, h5, h6, h7, h⟩ := h c
    obtain ⟨e0, e1, e2, e3, e4, e5⟩ := E c
    rw [e1, e2] at h4
    rw [e0, e1, e2, e3, e4] at h5
    rw [e1, e2, e3] at h6
    rw [e1, e2, e4] at h7
    exact ⟨h4, h5.trans (deltas_eq _ _ _ _ _), h6.trans (moments_eq _ _ _), h7.trans (squares_eq _ _ _), h⟩

end Cert.Prf.AdamIn

end

end
-- ==== Proof.Unit.lean ====
/- One head of one block of the backward pass, as the kernel computes it: every array the body forms
   between the seven loads and the five stores of one head, in one vocabulary that all four heads of a
   block share.  The body unrolls the four heads, and its printed payloads are these terms. -/
module

public import proofs.«01_k».proof.Proof.Gen.KernelIdeal.Value

@[expose] public section

set_option maxRecDepth 16384

noncomputable section

namespace Cert.Attn

open Cert.KernelIdeal Cert.KernelIdeal.Gen Idealize.ShloMosaic

variable {F : FTy → Type} [FloatOps F] [Named F]

/-- A 128 by 128 tile of floats: one head's rows by its lanes, or its queries by its keys. -/
abbrev Tile (F : FTy → Type) : Type := FVec F S128x128 .f32
/-- A column of 128 floats, one per query. -/
abbrev Col (F : FTy → Type) : Type := FVec F S128x1 .f32

/-- The product of two tiles over the lanes of both. -/
def dotNT (a b : Tile F) : Tile F :=
  matmul dot_S128x128_S128x128_S128x128_1_1_0_0_n_n none (truncf .bf16 a bitsLt_bf16_f32)
    (truncf .bf16 b bitsLt_bf16_f32) (constant S128x128 .f32 0x00000000#32)
/-- The product of two tiles, the lanes of the first with the rows of the second. -/
def dotNN (a b : Tile F) : Tile F :=
  matmul dot_S128x128_S128x128_S128x128_1_0_0_1_n_n none (truncf .bf16 a bitsLt_bf16_f32)
    (truncf .bf16 b bitsLt_bf16_f32) (constant S128x128 .f32 0x00000000#32)
/-- The product of two tiles over the rows of both. -/
def dotTN (a b : Tile F) : Tile F :=
  matmul dot_S128x128_S128x128_S128x128_0_0_1_1_n_n none (truncf .bf16 a bitsLt_bf16_f32)
    (truncf .bf16 b bitsLt_bf16_f32) (constant S128x128 .f32 0x00000000#32)

/-- The number of each query in the block. -/
def rowNo : IVec S128x128 32 := iota .tc S128x128 32 [0] iota_S128x128_d0_w32
/-- The number of each key in its block. -/
def keyNo : IVec S128x128 32 := iota .tc S128x128 32 [1] iota_S128x128_d1_w32

/-- Which keys of the block before a query sees: those at most 128 steps back, where there is a block before. -/
def seenP (hp : BitVec 1) : IVec S128x128 1 := andi (cmpi .sge keyNo rowNo) (broadcast S128x128 hp)
/-- Which keys of its own block a query sees: its own and the earlier ones. -/
def seenC : IVec S128x128 1 := cmpi .sle keyNo rowNo

/-- The masked scores against the keys of the block before. -/
def scoreP (sl : F .f32) (hp : BitVec 1) (q kp : Tile F) : Tile F :=
  select (seenP hp)
    (subf (mulf (dotNT q kp) (broadcast S128x128 (Scalar.ofBits .f32 0x3DB504F3#32)))
      (mulf (broadcast S128x128 sl) (sitofp .f32 (subi (addi rowNo (broadcast S128x128 128#32)) keyNo))))
    (broadcast S128x128 (Named.named κ "mask" 0xF149F2CA#32))
/-- The masked scores against the keys of the same block. -/
def scoreC (sl : F .f32) (q kc : Tile F) : Tile F :=
  select seenC
    (subf (mulf (dotNT q kc) (broadcast S128x128 (Scalar.ofBits .f32 0x3DB504F3#32)))
      (mulf (broadcast S128x128 sl) (sitofp .f32 (subi rowNo keyNo))))
    (broadcast S128x128 (Named.named κ "mask" 0xF149F2CA#32))

/-- The greatest of each row. -/
def rowMax (a : Tile F) : Col F :=
  shapeCast S128x1 (multiReduction .maximumf [1] S128 a 0xFF800000#32 reduces_S128x128_S128 (.inl rfl) rfl)
    shapeCasts_S128_S128x1
/-- The sum of each row. -/
def rowSum (a : Tile F) : Col F :=
  shapeCast S128x1 (multiReduction .add [1] S128 a 0x00000000#32 reduces_S128x128_S128 (.inl rfl) rfl)
    shapeCasts_S128_S128x1
/-- A column repeated over the lanes. -/
def spread (a : Col F) : Tile F := broadcastTo S128x128 a broadcasts_S128x1_S128x128
/-- A column summed over its single lane and repeated: the transpose of a repetition. -/
def spreadSum (a : Col F) : Tile F :=
  spread (shapeCast S128x1 (multiReduction .add [1] S128 a 0x00000000#32 reduces_S128x1_S128 (.inl rfl) rfl)
    shapeCasts_S128_S128x1)

/-- The exponentials of the scores less the row's greatest. -/
def expOf (s : Tile F) (mx : Col F) : Tile F := exp (subf s (spread mx))

/-- A row's share of the softmax's denominator's gradient: the gradient of its logarithm plus that of the quotient. -/
def gradDen (den inv : Col F) (num od dl : Tile F) : Col F :=
  addf (divf (rowSum dl) den)
    (subf (broadcast S128x1 (Scalar.ofBits .f32 0x00000000#32)) (rowSum (mulf (mulf od (spread inv)) num)))
/-- The reciprocal of the denominator's square. -/
def invSq (den : Col F) : Col F := divf (broadcast S128x1 (Scalar.ofBits .f32 0x3F800000#32)) (mulf den den)

/-- The gradient of the scores, before the mask and the scale. -/
def gradRaw (dnum v p : Tile F) (dden : Col F) : Tile F := mulf (addf (dotNT dnum v) (spreadSum dden)) p
/-- The gradient of the products of queries and keys. -/
def gradMask (mk : IVec S128x128 1) (g : Tile F) : Tile F :=
  mulf (select mk g (broadcast S128x128 (Scalar.ofBits .f32 0x00000000#32)))
    (broadcast S128x128 (Scalar.ofBits .f32 0x3DB504F3#32))

section Head

variable (sl : F .f32) (hp : BitVec 1) (q kp kc vp vc od dl : Tile F)

/-- The greatest score of each query. -/
def hMax : Col F := maximumf (rowMax (scoreP sl hp q kp)) (rowMax (scoreC sl q kc))
/-- The exponentials at the keys of the block before. -/
def hExpP : Tile F := expOf (scoreP sl hp q kp) (hMax sl hp q kp kc)
/-- The exponentials at the keys of the same block. -/
def hExpC : Tile F := expOf (scoreC sl q kc) (hMax sl hp q kp kc)
/-- The softmax's denominators. -/
def hDen : Col F := addf (rowSum (hExpP sl hp q kp kc)) (rowSum (hExpC sl hp q kp kc))
/-- The softmax's numerators. -/
def hNum : Tile F := addf (dotNN (hExpP sl hp q kp kc) vp) (dotNN (hExpC sl hp q kp kc) vc)
/-- The gradient of the denominators. -/
def hDden : Col F :=
  gradDen (hDen sl hp q kp kc) (invSq (hDen sl hp q kp kc)) (hNum sl hp q kp kc vp vc) od dl
/-- The gradient of the numerators. -/
def hDnum : Tile F := divf od (spread (hDen sl hp q kp kc))
/-- The gradient of the products of the queries with the keys of the block before. -/
def hGradP : Tile F :=
  gradMask (seenP hp) (gradRaw (hDnum sl hp q kp kc od) vp (hExpP sl hp q kp kc) (hDden sl hp q kp kc vp vc od dl))
/-- The gradient of the products of the queries with the keys of the same block. -/
def hGradC : Tile F :=
  gradMask seenC (gradRaw (hDnum sl hp q kp kc od) vc (hExpC sl hp q kp kc) (hDden sl hp q kp kc vp vc od dl))
/-- The gradient of the queries. -/
def hDq : Tile F :=
  addf (dotNN (hGradC sl hp q kp kc vp vc od dl) kc) (dotNN (hGradP sl hp q kp kc vp vc od dl) kp)
/-- The block's own share of the gradient of its keys. -/
def hDkC : Tile F := dotTN (hGradC sl hp q kp kc vp vc od dl) q
/-- The share of the gradient of the keys of the block before. -/
def hDkP : Tile F := dotTN (hGradP sl hp q kp kc vp vc od dl) q
/-- The block's own share of the gradient of its values. -/
def hDvC : Tile F := dotTN (hExpC sl hp q kp kc) (hDnum sl hp q kp kc od)
/-- The share of the gradient of the values of the block before. -/
def hDvP : Tile F := dotTN (hExpP sl hp q kp kc) (hDnum sl hp q kp kc od)

end Head

/-- A tile of a carried scratch array, without its leading axis. -/
def carried (x : Vec F S1x128x128 .f32) : Tile F := shapeCast S128x128 x shapeCasts_S1x128x128_S128x128
/-- A tile as it is put into a carried scratch array. -/
def toCarry (x : Tile F) : Vec F S1x128x128 .f32 := shapeCast S1x128x128 x shapeCasts_S128x128_S1x128x128

/-- The head's slope: the body's choice among the four by the head's number. -/
def slope (i : grid0.Coords) (u : BitVec 32) : F .f32 :=
  let h : BitVec 32 := Scalar.addi (Scalar.muli (BitVec.ofNat 32 (i 0).val) 4#32) u
  Scalar.select (Scalar.cmpi .eq h 0#32) (Scalar.ofBits .f32 0x3F3504F3#32)
    (Scalar.select (Scalar.cmpi .eq h 1#32) (Scalar.ofBits .f32 0x3F000000#32)
      (Scalar.select (Scalar.cmpi .eq h 2#32) (Scalar.ofBits .f32 0x3EB504F3#32) (Scalar.ofBits .f32 0x3E800000#32)))
/-- Whether there is a block before. -/
def hasPrev (i : grid0.Coords) : BitVec 1 := Scalar.cmpi .slt (BitVec.ofNat 32 (i 1).val) 31#32

end Cert.Attn
-- ==== Proof.Pieces.lean ====
/- What the body leaves after one grid point: the blocks of the three results and the two carried scratch
   arrays, each four heads' tiles of `Unit`'s vocabulary, at the first point of a pass (case A: the carried
   shares are zeros) and at the others (case B: they are what the point before left). -/
module

public import proofs.«01_k».proof.Proof.Unit
public import Idealize.ShloMosaic.Lib.Pipeline.ValueKit

@[expose] public section

set_option maxRecDepth 16384

noncomputable section

namespace Cert.Attn

open Cert.KernelIdeal Cert.KernelIdeal.Gen Idealize.ShloMosaic Idealize.ShloMosaic.Tactic

variable {F : FTy → Type} [FloatOps F] [Named F]

/-- The zeros that the first block of a pass starts its carried scratch with. -/
def zeros : Vec F S4x128x128 .f32 := broadcast S4x128x128 (Scalar.ofBits .f32 0x00000000#32)

/-- A load of a scratch array that one store filled whole reads what was stored. -/
theorem readZeros {sp : Space} (v : View sig .tc sp S4x128x128 .f32) (h : ∀ a, (![0, 0, 0] : Fin 3 → Nat) a + S4x128x128.size a ≤ S4x128x128.size a)
    (z : Vec F S4x128x128 .f32) (r : Rect S4x128x128) :
    v.readCov [(⟨Rect.unit ![0, 0, 0] ![4, 128, 128] h, z⟩ : View.Piece (Elt F) S4x128x128 .f32)] r.toLoadRect = View.ld z r := by
  have hc : View.canon [(⟨Rect.unit ![0, 0, 0] ![4, 128, 128] h, z⟩ : View.Piece (Elt F) S4x128x128 .f32)] = z :=
    View.canon_cons_unit_zero (S := S4x128x128) (by decide) ..
  rw [View.readCov_eq_canon', hc]

/-- A load of one head's tile of a scratch array passes over the store of another head's tile. -/
theorem readPast {sp : Space} (v : View sig .tc sp S4x128x128 .f32) {a b : Nat}
    (h : ∀ x, (![a, 0, 0] : Fin 3 → Nat) x + (![1, 128, 128] : Fin 3 → Nat) x ≤ S4x128x128.size x)
    (h' : ∀ x, (![b, 0, 0] : Fin 3 → Nat) x + (![1, 128, 128] : Fin 3 → Nat) x ≤ S4x128x128.size x)
    (w : Vec F S1x128x128 .f32) (L : List (View.Piece (Elt F) S4x128x128 .f32)) (hab : a ≠ b) :
    v.readCov ((⟨Rect.unit ![a, 0, 0] ![1, 128, 128] h, w⟩ : View.Piece (Elt F) S4x128x128 .f32) :: L)
        (Rect.unit ![b, 0, 0] ![1, 128, 128] h').toLoadRect
      = v.readCov L (Rect.unit ![b, 0, 0] ![1, 128, 128] h').toLoadRect := by
  rw [View.readCov_eq_canon', View.readCov_eq_canon']
  funext j
  refine View.canon_cons_of_not_mem _ L ?_
  show ¬ _ ∈ (Rect.unit (s := S4x128x128) ![a, 0, 0] ![1, 128, 128] h).set
  rw [Rect.mem_set_unit]
  intro hm
  have := hm 0
  have e : ((Rect.unit (s := S4x128x128) ![b, 0, 0] ![1, 128, 128] h').toLoadRect.idx j 0).val = b + (j 0).val := by
    show b + 1 * (j 0).val = _
    omega
  have l : (j 0).val < 1 := (j 0).isLt
  have h0 : (![a, 0, 0] : Fin 3 → Nat) 0 = a := rfl
  have h1 : (![1, 128, 128] : Fin 3 → Nat) 0 = 1 := rfl
  rw [e, h0, h1] at this
  omega

/-- Storing the zeros does not reshape them. -/
theorem zeros_eq : shapeCast S4x128x128 (broadcast S4x128x128 (Scalar.ofBits .f32 0x00000000#32 : F .f32)) shapeCasts_S4x128x128_S4x128x128 = zeros := by
  funext j; rfl

/-- Head `u`'s lanes of a block of 512. -/
abbrev laneBox (u : Fin 4) : Rect S128x512 :=
  Rect.unit ![0, 128 * u.val] ![128, 128] (by fin_cases u <;> decide)
/-- Head `u`'s tile of a carried scratch array. -/
abbrev carryBox (u : Fin 4) : Rect S4x128x128 :=
  Rect.unit ![u.val, 0, 0] ![1, 128, 128] (by fin_cases u <;> decide)

/-- Head `u`'s tile of a block. -/
def part (x : Vec F S128x512 .f32) (u : Fin 4) : Tile F := View.ld x (laneBox u)

/-- Four tiles side by side as one block. -/
def beside (f : Fin 4 → Tile F) : Vec F S128x512 .f32 :=
  View.canon [⟨laneBox 3, f 3⟩, ⟨laneBox 2, f 2⟩, ⟨laneBox 1, f 1⟩, ⟨laneBox 0, f 0⟩]
/-- Four tiles one after the other as one scratch array. -/
def stacked (f : Fin 4 → Tile F) : Vec F S4x128x128 .f32 :=
  View.canon [⟨carryBox 3, toCarry (f 3)⟩, ⟨carryBox 2, toCarry (f 2)⟩, ⟨carryBox 1, toCarry (f 1)⟩, ⟨carryBox 0, toCarry (f 0)⟩]

/-- Stores made before others that fill the array leave nothing. -/
theorem canon_append {S : Shape} {e : EltTy} (L' : List (View.Piece (Elt F) S e)) :
    ∀ (L : List (View.Piece (Elt F) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl]
      exact (View.canon_cons_emb p.1 p.2 _ x).trans (View.canon_cons_emb p.1 p.2 _ x).symm
    · rw [List.cons_append, View.canon_cons_of_not_mem _ _ hm, View.canon_cons_of_not_mem _ _ hm]
      refine canon_append L' L y ?_
      obtain ⟨q, hq, hyq⟩ := hy
      rcases List.mem_cons.mp hq with rfl | hq'
      · exact absurd hyq hm
      · exact ⟨q, hq', hyq⟩

/-- Four stacked tiles over anything stored before are the four stacked tiles. -/
theorem stacked_over (f : Fin 4 → Tile F) (p : View.Piece (Elt F) S4x128x128 .f32) :
    View.canon [⟨carryBox 3, toCarry (f 3)⟩, ⟨carryBox 2, toCarry (f 2)⟩, ⟨carryBox 1, toCarry (f 1)⟩, ⟨carryBox 0, toCarry (f 0)⟩, p]
      = stacked f :=
  funext fun y => canon_append [p] [⟨carryBox 3, toCarry (f 3)⟩, ⟨carryBox 2, toCarry (f 2)⟩, ⟨carryBox 1, toCarry (f 1)⟩, ⟨carryBox 0, toCarry (f 0)⟩] y
    (View.cover_of_tiledL (Val := Elt F) (s := S4x128x128) (e := .f32) _ S1x128x128.size (by sl_kernel_rfl) y)

section Block

variable (i : grid0.Coords) (x0 x1 x2 x3 x4 x5 x6 : Vec F S128x512 .f32)

/-- The head's number as the body computes with it. -/
def headNo (u : Fin 4) : BitVec 32 := BitVec.ofNat 32 u.val

/-- The block of the gradient of the queries. -/
def blkDq : Vec F S128x512 .f32 := beside fun u =>
  hDq (slope i (headNo u)) (hasPrev i) (part x0 u) (part x1 u) (part x2 u) (part x3 u) (part x4 u) (part x5 u) (part x6 u)
/-- The block of the gradient of the keys, over the carried share `z`. -/
def blkDk (z : Vec F S4x128x128 .f32) : Vec F S128x512 .f32 := beside fun u =>
  addf (hDkC (slope i (headNo u)) (hasPrev i) (part x0 u) (part x1 u) (part x2 u) (part x3 u) (part x4 u) (part x5 u) (part x6 u))
    (carried (View.ld z (carryBox u)))
/-- The block of the gradient of the values, over the carried share `z`. -/
def blkDv (z : Vec F S4x128x128 .f32) : Vec F S128x512 .f32 := beside fun u =>
  addf (hDvC (slope i (headNo u)) (hasPrev i) (part x0 u) (part x1 u) (part x2 u) (part x5 u))
    (carried (View.ld z (carryBox u)))
/-- The share of the gradient of the keys of the block before that is carried on. -/
def scrDk : Vec F S4x128x128 .f32 := stacked fun u =>
  hDkP (slope i (headNo u)) (hasPrev i) (part x0 u) (part x1 u) (part x2 u) (part x3 u) (part x4 u) (part x5 u) (part x6 u)
/-- The share of the gradient of the values of the block before that is carried on. -/
def scrDv : Vec F S4x128x128 .f32 := stacked fun u =>
  hDvP (slope i (headNo u)) (hasPrev i) (part x0 u) (part x1 u) (part x2 u) (part x5 u)

end Block

/-- At the first point of a pass, the gradient of the queries. -/
theorem pieces_A_7 (c : Dev nD) (t : Fin cfg0.N) (h0 : t.val % 32 = 0) (x0 x1 x2 x3 x4 x5 x6 : Vec F S128x512 .f32) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0)
      x0 x1 x2 x3 x4 x5 x6 = blkDq (grid0.coords t) x0 x1 x2 x3 x4 x5 x6 := by
  unfold out0_A_7
  rw [View.read_writes_eq_canon _ _ _ (fun y => cover0_A_7 (y := y) ..)]
  unfold kernelRun0_A; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, readZeros, readPast]
  rfl

/-- At the first point of a pass, the gradient of the keys. -/
theorem pieces_A_8 (c : Dev nD) (t : Fin cfg0.N) (h0 : t.val % 32 = 0) (x0 x1 x2 x3 x4 x5 x6 : Vec F S128x512 .f32) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0)
      x0 x1 x2 x3 x4 x5 x6 = blkDk (grid0.coords t) x0 x1 x2 x3 x4 x5 x6 zeros := by
  unfold out0_A_8
  rw [View.read_writes_eq_canon _ _ _ (fun y => cover0_A_8 (y := y) ..)]
  unfold kernelRun0_A; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, readZeros, readPast]
  rw [zeros_eq]; rfl

/-- At the first point of a pass, the gradient of the values. -/
theorem pieces_A_9 (c : Dev nD) (t : Fin cfg0.N) (h0 : t.val % 32 = 0) (x0 x1 x2 x3 x4 x5 x6 : Vec F S128x512 .f32) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0)
      x0 x1 x2 x3 x4 x5 x6 = blkDv (grid0.coords t) x0 x1 x2 x5 zeros := by
  unfold out0_A_9
  rw [View.read_writes_eq_canon _ _ _ (fun y => cover0_A_9 (y := y) ..)]
  unfold kernelRun0_A; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, readZeros, readPast]
  rw [zeros_eq]; rfl

/-- At the first point of a pass, the carried share of the keys' gradient. -/
theorem pieces_A_s0 (c : Dev nD) (t : Fin cfg0.N) (h0 : t.val % 32 = 0) (x0 x1 x2 x3 x4 x5 x6 : Vec F S128x512 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0)
      x0 x1 x2 x3 x4 x5 x6 = scrDk (grid0.coords t) x0 x1 x2 x3 x4 x5 x6 := by
  unfold sout0_A_0
  rw [View.read_writes_eq_canon _ _ _ (fun y => scover0_A_0 (y := y) ..)]
  unfold kernelRun0_A; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, readZeros, readPast]
  unfold scrDk
  rw [← stacked_over _ ⟨Rect.unit ![0, 0, 0] ![4, 128, 128] inb_S4x128x128_S4x128x128_0_0_0, shapeCast S4x128x128 (broadcast S4x128x128 (FloatOps.ofBits FTy.f32 0#32)) shapeCasts_S4x128x128_S4x128x128⟩]
  refine congrArg View.canon ?_
  repeat (refine congrArg₂ List.cons ?_ ?_; · rfl)
  rfl

/-- At the first point of a pass, the carried share of the values' gradient. -/
theorem pieces_A_s1 (c : Dev nD) (t : Fin cfg0.N) (h0 : t.val % 32 = 0) (x0 x1 x2 x3 x4 x5 x6 : Vec F S128x512 .f32) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0)
      x0 x1 x2 x3 x4 x5 x6 = scrDv (grid0.coords t) x0 x1 x2 x5 := by
  unfold sout0_A_1
  rw [View.read_writes_eq_canon _ _ _ (fun y => scover0_A_1 (y := y) ..)]
  unfold kernelRun0_A; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, readZeros, readPast]
  unfold scrDv
  rw [← stacked_over _ ⟨Rect.unit ![0, 0, 0] ![4, 128, 128] inb_S4x128x128_S4x128x128_0_0_0, shapeCast S4x128x128 (broadcast S4x128x128 (FloatOps.ofBits FTy.f32 0#32)) shapeCasts_S4x128x128_S4x128x128⟩]
  refine congrArg View.canon ?_
  repeat (refine congrArg₂ List.cons ?_ ?_; · rfl)
  rfl

/-- At a later point, the gradient of the queries. -/
theorem pieces_B_7 (c : Dev nD) (t : Fin cfg0.N) (h0 : ¬ t.val % 32 = 0) (x0 x1 x2 x3 x4 x5 x6 : Vec F S128x512 .f32) (xs0 xs1 : Vec F S4x128x128 .f32) :
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h))
      x0 x1 x2 x3 x4 x5 x6 xs0 xs1 = blkDq (grid0.coords t) x0 x1 x2 x3 x4 x5 x6 := by
  unfold out0_B_7
  rw [View.read_writes_eq_canon _ _ _ (fun y => cover0_B_7 (y := y) ..)]
  unfold kernelRun0_B; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (Memref.isWhole_whole (κ := .tc) cc0_scratch0).read_unread, (Memref.isWhole_whole (κ := .tc) cc0_scratch1).read_unread]
  rfl

/-- At a later point, the gradient of the keys. -/
theorem pieces_B_8 (c : Dev nD) (t : Fin cfg0.N) (h0 : ¬ t.val % 32 = 0) (x0 x1 x2 x3 x4 x5 x6 : Vec F S128x512 .f32) (xs0 xs1 : Vec F S4x128x128 .f32) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h))
      x0 x1 x2 x3 x4 x5 x6 xs0 xs1 = blkDk (grid0.coords t) x0 x1 x2 x3 x4 x5 x6 xs0 := by
  unfold out0_B_8
  rw [View.read_writes_eq_canon _ _ _ (fun y => cover0_B_8 (y := y) ..)]
  unfold kernelRun0_B; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (Memref.isWhole_whole (κ := .tc) cc0_scratch0).read_unread, (Memref.isWhole_whole (κ := .tc) cc0_scratch1).read_unread]
  rfl

/-- At a later point, the gradient of the values. -/
theorem pieces_B_9 (c : Dev nD) (t : Fin cfg0.N) (h0 : ¬ t.val % 32 = 0) (x0 x1 x2 x3 x4 x5 x6 : Vec F S128x512 .f32) (xs0 xs1 : Vec F S4x128x128 .f32) :
    out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h))
      x0 x1 x2 x3 x4 x5 x6 xs0 xs1 = blkDv (grid0.coords t) x0 x1 x2 x5 xs1 := by
  unfold out0_B_9
  rw [View.read_writes_eq_canon _ _ _ (fun y => cover0_B_9 (y := y) ..)]
  unfold kernelRun0_B; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (Memref.isWhole_whole (κ := .tc) cc0_scratch0).read_unread, (Memref.isWhole_whole (κ := .tc) cc0_scratch1).read_unread]
  rfl

/-- At a later point, the carried share of the keys' gradient. -/
theorem pieces_B_s0 (c : Dev nD) (t : Fin cfg0.N) (h0 : ¬ t.val % 32 = 0) (x0 x1 x2 x3 x4 x5 x6 : Vec F S128x512 .f32) (xs0 xs1 : Vec F S4x128x128 .f32) :
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h))
      x0 x1 x2 x3 x4 x5 x6 xs0 xs1 = scrDk (grid0.coords t) x0 x1 x2 x3 x4 x5 x6 := by
  unfold sout0_B_0
  rw [View.read_writes_eq_canon _ _ _ (fun y => scover0_B_0 (y := y) ..)]
  unfold kernelRun0_B; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (Memref.isWhole_whole (κ := .tc) cc0_scratch0).read_unread, (Memref.isWhole_whole (κ := .tc) cc0_scratch1).read_unread]
  unfold scrDk stacked
  refine congrArg View.canon ?_
  repeat (refine congrArg₂ List.cons ?_ ?_; · rfl)
  rfl

/-- At a later point, the carried share of the values' gradient. -/
theorem pieces_B_s1 (c : Dev nD) (t : Fin cfg0.N) (h0 : ¬ t.val % 32 = 0) (x0 x1 x2 x3 x4 x5 x6 : Vec F S128x512 .f32) (xs0 xs1 : Vec F S4x128x128 .f32) :
    sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h))
      x0 x1 x2 x3 x4 x5 x6 xs0 xs1 = scrDv (grid0.coords t) x0 x1 x2 x5 := by
  unfold sout0_B_1
  rw [View.read_writes_eq_canon _ _ _ (fun y => scover0_B_1 (y := y) ..)]
  unfold kernelRun0_B; dsimp only; sl_unfold_words
  simp (disch := decide) only [View.readAt_eq_ld, (hs0_0 t).read_unread, (hs0_1 t).read_unread, (hs0_2 t).read_unread, (hs0_3 t).read_unread, (hs0_4 t).read_unread, (hs0_5 t).read_unread, (hs0_6 t).read_unread, (Memref.isWhole_whole (κ := .tc) cc0_scratch0).read_unread, (Memref.isWhole_whole (κ := .tc) cc0_scratch1).read_unread]
  unfold scrDv stacked
  refine congrArg View.canon ?_
  repeat (refine congrArg₂ List.cons ?_ ?_; · rfl)
  rfl

end Cert.Attn
-- ==== Proof.Tiles.lean ====
/- How the blocks of four heads and the carried scratch arrays read at an index: at query `r` and lane `l` of head
   `u`, a block reads head `u`'s tile at `(r, l)`. -/
module

public import proofs.«01_k».proof.Proof.Pieces
public import Idealize.ShloMosaic.Lib.Pointwise
public import Idealize.ShloMosaic.Lib.Pipeline.CanonAppend

@[expose] public section

set_option maxRecDepth 16384

noncomputable section

namespace Cert.Attn

open Cert.KernelIdeal Cert.KernelIdeal.Gen Idealize.ShloMosaic Idealize.ShloMosaic.Tactic

variable {F : FTy → Type} [FloatOps F] [Named F]

/-- Lane `l` of head `u` among the 512 lanes of a block. -/
def lane (u : Fin 4) (l : Fin 128) : Fin 512 := ⟨128 * u.val + l.val, by omega⟩

/-- Head `u`'s tile of a block reads the block at the head's lanes. -/
theorem part_apply (x : Vec F S128x512 .f32) (u : Fin 4) (r l : Fin 128) :
    part x u (ix2 r l) = x (ix2 r (lane u l)) := by
  show x _ = x _
  congr 1
  funext a
  apply Fin.ext
  fin_cases a
  · show 0 + 1 * r.val = r.val
    omega
  · show 128 * u.val + 1 * l.val = 128 * u.val + l.val
    omega

/-- The four tiles side by side, as one function of the block's index. -/
def besideAt (f : Fin 4 → Tile F) (y : S128x512.Idx) : F .f32 :=
  have h : (y 1).val < 512 := (y 1).isLt
  f ⟨(y 1).val / 128, by omega⟩ (ix2 (y 0) ⟨(y 1).val % 128, by omega⟩)

/-- A tile put at head `u`'s lanes reads as the function of the block's index does there. -/
theorem besideAt_emb (f : Fin 4 → Tile F) (u : Fin 4) (x : (laneBox u).shape.Idx) : f u x = besideAt f ((laneBox u).emb x) := by
  have h0 : ((laneBox u).emb x 0).val = (x 0).val := by
    show 0 + 1 * (x 0).val = _
    omega
  have h1 : ((laneBox u).emb x 1).val = 128 * u.val + (x 1).val := by
    show 128 * u.val + 1 * (x 1).val = _
    omega
  have l1 : (x 1).val < 128 := (x 1).isLt
  have e : (⟨((laneBox u).emb x 1).val / 128, by
      have h : ((laneBox u).emb x 1).val < 512 := ((laneBox u).emb x 1).isLt
      omega⟩ : Fin 4) = u := by
    apply Fin.ext
    show ((laneBox u).emb x 1).val / 128 = _
    rw [h1]; omega
  show _ = f _ _
  rw [e]
  congr 1
  funext a
  apply Fin.ext
  fin_cases a
  · exact h0.symm
  · show (x 1).val = ((laneBox u).emb x 1).val % 128
    rw [h1]; omega

/-- A block of four tiles side by side reads, at lane `l` of head `u`, that head's tile. -/
theorem beside_apply (f : Fin 4 → Tile F) (u : Fin 4) (r l : Fin 128) : beside f (ix2 r (lane u l)) = f u (ix2 r l) := by
  have h : beside f (ix2 r (lane u l)) = besideAt f (ix2 r (lane u l)) := by
    refine View.canon_append_of_pieces (Val := Elt F) (S := S128x512) (e := .f32) (besideAt f) []
      [⟨laneBox 3, f 3⟩, ⟨laneBox 2, f 2⟩, ⟨laneBox 1, f 1⟩, ⟨laneBox 0, f 0⟩] ?_ _
      (View.cover_of_tiledL (Val := Elt F) (s := S128x512) (e := .f32) _ S128x128.size (by sl_kernel_rfl) _)
    intro p hp
    simp only [List.mem_cons, List.not_mem_nil, or_false] at hp
    rcases hp with rfl | rfl | rfl | rfl
    · exact besideAt_emb f 3
    · exact besideAt_emb f 2
    · exact besideAt_emb f 1
    · exact besideAt_emb f 0
  rw [h]
  have e : (⟨(lane u l).val / 128, by have := (lane u l).isLt; omega⟩ : Fin 4) = u := by
    apply Fin.ext
    show (128 * u.val + l.val) / 128 = _
    omega
  show f ⟨(lane u l).val / 128, _⟩ _ = _
  rw [e]
  congr 1
  funext a
  apply Fin.ext
  fin_cases a
  · rfl
  · show (128 * u.val + l.val) % 128 = l.val
    omega

/-- Taking a tile out of a scratch array reads it without its leading axis. -/
theorem carried_apply (x : Vec F S1x128x128 .f32) (r l : Fin 128) : carried x (ix2 r l) = x (ix3 0 r l) := by
  pointwise [carried]

/-- Putting a tile into a scratch array gives it a leading axis of one. -/
theorem toCarry_apply (x : Tile F) (r l : Fin 128) : toCarry x (ix3 0 r l) = x (ix2 r l) := by
  pointwise [toCarry]

/-- A load of head `u`'s tile of a scratch array. -/
theorem ldCarry_apply (z : Vec F S4x128x128 .f32) (u : Fin 4) (r l : Fin 128) :
    carried (View.ld z (carryBox u)) (ix2 r l) = z (ix3 u r l) := by
  rw [carried_apply]
  show z _ = z _
  congr 1
  funext a
  apply Fin.ext
  fin_cases a
  · show u.val + 1 * 0 = u.val
    omega
  · show 0 + 1 * r.val = r.val
    omega
  · show 0 + 1 * l.val = l.val
    omega

/-- A tile put in head `u`'s place reads as the stack does there. -/
theorem stackedAt_emb (f : Fin 4 → Tile F) (u : Fin 4) (x : (carryBox u).shape.Idx) :
    toCarry (f u) x = (fun y : S4x128x128.Idx => f (y 0) (ix2 (y 1) (y 2))) ((carryBox u).emb x) := by
  have l0 : (x 0).val < 1 := (x 0).isLt
  have ex : x = (ix3 (0 : Fin 1) (x 1 : Fin 128) (x 2 : Fin 128) : S1x128x128.Idx) := by
    funext a
    fin_cases a
    · apply Fin.ext
      show (x 0).val = 0
      omega
    · rfl
    · rfl
  have e : toCarry (f u) x = f u (ix2 (x 1) (x 2)) := by
    rw [ex]; exact toCarry_apply (f u) (x 1) (x 2)
  rw [e]
  have h0 : (carryBox u).emb x 0 = u := by
    apply Fin.ext
    show u.val + 1 * (x 0).val = u.val
    omega
  show _ = f ((carryBox u).emb x 0) _
  rw [h0]
  congr 1
  funext a
  apply Fin.ext
  fin_cases a
  · show (x 1).val = 0 + 1 * (x 1).val
    omega
  · show (x 2).val = 0 + 1 * (x 2).val
    omega

/-- Four stacked tiles read, at head `u`, that head's tile. -/
theorem stacked_apply (f : Fin 4 → Tile F) (u : Fin 4) (r l : Fin 128) : stacked f (ix3 u r l) = f u (ix2 r l) := by
  refine View.canon_append_of_pieces (Val := Elt F) (S := S4x128x128) (e := .f32) (fun y => f (y 0) (ix2 (y 1) (y 2))) []
      [⟨carryBox 3, toCarry (f 3)⟩, ⟨carryBox 2, toCarry (f 2)⟩, ⟨carryBox 1, toCarry (f 1)⟩, ⟨carryBox 0, toCarry (f 0)⟩] ?_ _
      (View.cover_of_tiledL (Val := Elt F) (s := S4x128x128) (e := .f32) _ S1x128x128.size (by sl_kernel_rfl) _)
  intro p hp
  simp only [List.mem_cons, List.not_mem_nil, or_false] at hp
  rcases hp with rfl | rfl | rfl | rfl
  · exact stackedAt_emb f 3
  · exact stackedAt_emb f 2
  · exact stackedAt_emb f 1
  · exact stackedAt_emb f 0

end Cert.Attn
-- ==== Proof.Spec.lean ====
/- The mathematics both programs compute, over the real numbers: the gradients of one head's attention of 128
   queries over a window of 128 keys, those of the block before and those of their own block.  The softmax is
   written without the shift by the row's greatest score, which cancels. -/
module

public import Mathlib.Analysis.SpecialFunctions.Log.Basic
public import Mathlib.Data.EReal.Operations
public import Mathlib.Tactic.Ring
public import Mathlib.Tactic.FieldSimp
public import Mathlib.Tactic.Linarith

@[expose] public section

noncomputable section

namespace Cert.Attn

open scoped BigOperators
open Classical

/-- A 128 by 128 table of reals. -/
abbrev Tab : Type := Fin 128 → Fin 128 → ℝ

/-- What one head of one block is given: the scale and the slope, whether there is a block before, the queries, the
    keys and values of the block before and of the block, the gradient of the outputs, and that of the logarithms
    of the softmax's denominators, repeated over the lanes and to be summed over them. -/
structure Head where
  c : ℝ
  σ : ℝ
  hp : Prop
  q : Tab
  kp : Tab
  kc : Tab
  vp : Tab
  vc : Tab
  od : Tab
  dl : Tab

namespace Head

variable (X : Head)

/-- The score of query `i` against key `j` of the block before. -/
def sP (i j : Fin 128) : ℝ := (∑ e, X.q i e * X.kp j e) * X.c - X.σ * ((i.val : ℝ) + 128 - j.val)
/-- The score of query `i` against key `j` of its own block. -/
def sC (i j : Fin 128) : ℝ := (∑ e, X.q i e * X.kc j e) * X.c - X.σ * ((i.val : ℝ) - j.val)
/-- Query `i` sees key `j` of the block before. -/
def mP (i j : Fin 128) : Prop := i ≤ j ∧ X.hp
/-- Query `i` sees key `j` of its own block. -/
def mC (i j : Fin 128) : Prop := j ≤ i
/-- The exponentials of the seen scores. -/
def eP (i j : Fin 128) : ℝ := if X.mP i j then Real.exp (X.sP i j) else 0
/-- The exponentials of the seen scores. -/
def eC (i j : Fin 128) : ℝ := if mC i j then Real.exp (X.sC i j) else 0
/-- The softmax's denominator. -/
def Z (i : Fin 128) : ℝ := ∑ j, X.eP i j + ∑ j, X.eC i j
/-- The softmax at the keys of the block before. -/
def pP (i j : Fin 128) : ℝ := X.eP i j / X.Z i
/-- The softmax at the keys of the same block. -/
def pC (i j : Fin 128) : ℝ := X.eC i j / X.Z i
/-- The attention's output. -/
def o (i e : Fin 128) : ℝ := ∑ j, X.pP i j * X.vp j e + ∑ j, X.pC i j * X.vc j e
/-- What the gradient of a score subtracts from the gradient of its weight. -/
def D (i : Fin 128) : ℝ := ∑ e, X.dl i e - ∑ e, X.od i e * X.o i e
/-- The gradient of the products of queries with the keys of the block before. -/
def gP (i j : Fin 128) : ℝ := X.pP i j * (∑ e, X.od i e * X.vp j e + X.D i) * X.c
/-- The gradient of the products of queries with the keys of the same block. -/
def gC (i j : Fin 128) : ℝ := X.pC i j * (∑ e, X.od i e * X.vc j e + X.D i) * X.c
/-- The gradient of the queries. -/
def dq (i e : Fin 128) : ℝ := ∑ j, X.gC i j * X.kc j e + ∑ j, X.gP i j * X.kp j e
/-- The block's share of the gradient of its keys. -/
def dkC (j e : Fin 128) : ℝ := ∑ i, X.gC i j * X.q i e
/-- The block's share of the gradient of the keys of the block before. -/
def dkP (j e : Fin 128) : ℝ := ∑ i, X.gP i j * X.q i e
/-- The block's share of the gradient of its values. -/
def dvC (j e : Fin 128) : ℝ := ∑ i, X.pC i j * X.od i e
/-- The block's share of the gradient of the values of the block before. -/
def dvP (j e : Fin 128) : ℝ := ∑ i, X.pP i j * X.od i e

theorem eP_nonneg (i j : Fin 128) : 0 ≤ X.eP i j := by
  unfold eP; split
  · exact (Real.exp_pos _).le
  · exact le_rfl

theorem eC_nonneg (i j : Fin 128) : 0 ≤ X.eC i j := by
  unfold eC; split
  · exact (Real.exp_pos _).le
  · exact le_rfl

/-- A query sees itself, so the denominator is positive. -/
theorem Z_pos (i : Fin 128) : 0 < X.Z i := by
  have h1 : 0 ≤ ∑ j, X.eP i j := Finset.sum_nonneg fun j _ => X.eP_nonneg i j
  have h2 : 0 < ∑ j, X.eC i j := by
    refine Finset.sum_pos' (fun j _ => X.eC_nonneg i j) ⟨i, Finset.mem_univ _, ?_⟩
    unfold eC
    rw [if_pos (show mC i i from le_refl i)]
    exact Real.exp_pos _
  exact add_pos_of_nonneg_of_pos h1 h2

/-- The output times the denominator is the numerator. -/
theorem Z_mul_o (i e : Fin 128) : X.Z i * X.o i e = ∑ j, X.eP i j * X.vp j e + ∑ j, X.eC i j * X.vc j e := by
  have hz := (X.Z_pos i).ne'
  unfold o pP pC
  rw [mul_add, Finset.mul_sum, Finset.mul_sum]
  congr 1 <;> refine Finset.sum_congr rfl fun j _ => ?_ <;> field_simp

/-- Where there is no block before, what is given for its keys and values does not matter. -/
theorem gP_none (h : ¬ X.hp) (i j : Fin 128) : X.gP i j = 0 := by
  have he : X.eP i j = 0 := if_neg fun hm => h hm.2
  simp only [gP, pP, he, zero_div, zero_mul]

theorem pP_none (h : ¬ X.hp) (i j : Fin 128) : X.pP i j = 0 := by
  have he : X.eP i j = 0 := if_neg fun hm => h hm.2
  simp only [pP, he, zero_div]

end Head

/-- The same head with zeros for the keys and values of a block before that is not there. -/
def Head.cut (X : Head) : Head :=
  { X with kp := fun j e => if X.hp then X.kp j e else 0, vp := fun j e => if X.hp then X.vp j e else 0 }

/-- Cutting changes nothing where there is a block before. -/
theorem Head.cut_of (X : Head) (h : X.hp) : X.cut = X := by
  unfold Head.cut
  simp only [if_pos h]

namespace Head

variable (X : Head)

theorem cut_eP (i j : Fin 128) : X.cut.eP i j = X.eP i j := by
  by_cases h : X.hp
  · rw [X.cut_of h]
  · rw [eP, eP, if_neg fun hm => h hm.2, if_neg fun hm => h hm.2]

theorem cut_Z (i : Fin 128) : X.cut.Z i = X.Z i := by
  unfold Z
  simp only [cut_eP]
  rfl

theorem cut_pP (i j : Fin 128) : X.cut.pP i j = X.pP i j := by
  unfold pP
  rw [cut_eP, cut_Z]

theorem cut_pC (i j : Fin 128) : X.cut.pC i j = X.pC i j := by
  unfold pC
  rw [cut_Z]
  rfl

theorem cut_o (i e : Fin 128) : X.cut.o i e = X.o i e := by
  by_cases h : X.hp
  · rw [X.cut_of h]
  · unfold o
    simp only [cut_pP, cut_pC, X.pP_none h, zero_mul]
    rfl

theorem cut_D (i : Fin 128) : X.cut.D i = X.D i := by
  unfold D
  simp only [cut_o]
  rfl

theorem cut_gP (i j : Fin 128) : X.cut.gP i j = X.gP i j := by
  by_cases h : X.hp
  · rw [X.cut_of h]
  · rw [X.gP_none h, X.cut.gP_none h]

theorem cut_gC (i j : Fin 128) : X.cut.gC i j = X.gC i j := by
  unfold gC
  rw [cut_pC, cut_D]
  rfl

theorem cut_dq (i e : Fin 128) : X.cut.dq i e = X.dq i e := by
  by_cases h : X.hp
  · rw [X.cut_of h]
  · unfold dq
    simp only [cut_gP, cut_gC, X.gP_none h, zero_mul]
    rfl

theorem cut_dkC (i e : Fin 128) : X.cut.dkC i e = X.dkC i e := by
  unfold dkC
  simp only [cut_gC]
  rfl

theorem cut_dkP (i e : Fin 128) : X.cut.dkP i e = X.dkP i e := by
  unfold dkP
  simp only [cut_gP]
  rfl

theorem cut_dvC (i e : Fin 128) : X.cut.dvC i e = X.dvC i e := by
  unfold dvC
  simp only [cut_pC]
  rfl

theorem cut_dvP (i e : Fin 128) : X.cut.dvP i e = X.dvP i e := by
  unfold dvP
  simp only [cut_pP]
  rfl

/-- Where there is no block before, there is no share for it. -/
theorem dkP_none (h : ¬ X.hp) (i e : Fin 128) : X.dkP i e = 0 := by
  unfold dkP
  simp only [X.gP_none h, zero_mul, Finset.sum_const_zero]

theorem dvP_none (h : ¬ X.hp) (i e : Fin 128) : X.dvP i e = 0 := by
  unfold dvP
  simp only [X.pP_none h, zero_mul, Finset.sum_const_zero]

end Head

/-- A finite sum of reals is the same sum of extended reals. -/
theorem coe_sum {ι : Type} (s : Finset ι) (f : ι → ℝ) : ((∑ i ∈ s, f i : ℝ) : EReal) = ∑ i ∈ s, (f i : EReal) := by
  induction s using Finset.induction_on with
  | empty => simp
  | insert a s ha ih => rw [Finset.sum_insert ha, Finset.sum_insert ha, EReal.coe_add, ih]

/-- The greatest of finitely many values below `⊤`, over a start below `⊤`, is below `⊤`. -/
theorem fold_max_ne_top {ι : Type} (s : Finset ι) (b : EReal) (hb : b ≠ ⊤) (f : ι → EReal) (hf : ∀ i ∈ s, f i ≠ ⊤) :
    s.fold max b f ≠ ⊤ :=
  ne_of_lt ((Finset.fold_max_lt _).mpr ⟨lt_top_iff_ne_top.mpr hb, fun i hi => lt_top_iff_ne_top.mpr (hf i hi)⟩)

/-- The greatest of values one of which is above `⊥` is above `⊥`. -/
theorem fold_max_ne_bot {ι : Type} (s : Finset ι) (b : EReal) (f : ι → EReal) (i : ι) (hi : i ∈ s) (hf : f i ≠ ⊥) :
    s.fold max b f ≠ ⊥ :=
  ne_of_gt ((Finset.lt_fold_max _).mpr (Or.inr ⟨i, hi, bot_lt_iff_ne_bot.mpr hf⟩))

/-- A value that is neither infinity is a real. -/
theorem coe_of_ne {x : EReal} (h1 : x ≠ ⊤) (h2 : x ≠ ⊥) : ∃ r : ℝ, x = (r : EReal) :=
  ⟨x.toReal, (EReal.coe_toReal h1 h2).symm⟩

end Cert.Attn
-- ==== Proof.Head.lean ====
/- One head of one block of the kernel at the ideal instance: on tiles of real numbers every term of `Unit`'s
   vocabulary is the real number `Spec` names, shifted by the row's greatest score where the kernel shifts. -/
module

public import proofs.«01_k».proof.Proof.Tiles
public import proofs.«01_k».proof.Proof.Spec

@[expose] public section

set_option maxRecDepth 16384

noncomputable section

namespace Cert.Attn

open Cert.KernelIdeal Cert.KernelIdeal.Gen Idealize.ShloMosaic Idealize.ShloMosaic.Tactic
open scoped BigOperators
open Classical

/-- A tile holds these real numbers. -/
def Is (A : Tile Ideal) (a : Tab) : Prop := ∀ i j, A (ix2 i j) = ((a i j : ℝ) : EReal)
/-- A column holds these real numbers. -/
def IsCol (A : Col Ideal) (a : Fin 128 → ℝ) : Prop := ∀ i, A (ix2 i 0) = ((a i : ℝ) : EReal)

theorem dotNT_is {A B : Tile Ideal} {a b : Tab} (ha : Is A a) (hb : Is B b) :
    Is (dotNT A B) fun i j => ∑ k, a i k * b j k := by
  intro i j
  pointwise [dotNT]
  rw [coe_sum]
  refine Finset.sum_congr rfl fun k _ => ?_
  rw [ha, hb, EReal.coe_mul]

theorem dotNN_is {A B : Tile Ideal} {a b : Tab} (ha : Is A a) (hb : Is B b) :
    Is (dotNN A B) fun i j => ∑ k, a i k * b k j := by
  intro i j
  pointwise [dotNN]
  rw [coe_sum]
  refine Finset.sum_congr rfl fun k _ => ?_
  rw [ha, hb, EReal.coe_mul]

theorem dotTN_is {A B : Tile Ideal} {a b : Tab} (ha : Is A a) (hb : Is B b) :
    Is (dotTN A B) fun i j => ∑ k, a k i * b k j := by
  intro i j
  pointwise [dotTN]
  rw [coe_sum]
  refine Finset.sum_congr rfl fun k _ => ?_
  rw [ha, hb, EReal.coe_mul]

theorem rowSum_is {A : Tile Ideal} {a : Tab} (ha : Is A a) : IsCol (rowSum A) fun i => ∑ k, a i k := by
  intro i
  pointwise [rowSum]
  rw [coe_sum]
  exact Finset.sum_congr rfl fun k _ => ha i k

theorem spread_is {A : Col Ideal} {a : Fin 128 → ℝ} (ha : IsCol A a) : Is (spread A) fun i _ => a i := by
  intro i j
  pointwise [spread]
  exact ha i

theorem spreadSum_is {A : Col Ideal} {a : Fin 128 → ℝ} (ha : IsCol A a) : Is (spreadSum A) fun i _ => a i := by
  intro i j
  pointwise [spreadSum, spread]
  rw [Fin.sum_univ_one]
  exact ha i

theorem addf_is {A B : Tile Ideal} {a b : Tab} (ha : Is A a) (hb : Is B b) : Is (addf A B) fun i j => a i j + b i j := by
  intro i j
  pointwise []
  rw [ha, hb, EReal.coe_add]

theorem mulf_is {A B : Tile Ideal} {a b : Tab} (ha : Is A a) (hb : Is B b) : Is (mulf A B) fun i j => a i j * b i j := by
  intro i j
  pointwise []
  rw [ha, hb, EReal.coe_mul]

theorem divf_is {A B : Tile Ideal} {a b : Tab} (ha : Is A a) (hb : Is B b) (h : ∀ i j, b i j ≠ 0) :
    Is (divf A B) fun i j => a i j / b i j := by
  intro i j
  pointwise []
  rw [ha, hb, Ideal.div_coe (h i j), ← EReal.coe_mul, mul_one_div]

/-- The kernel's comparison of a key's number with a query's, over all of them. -/
theorem cmpP : ∀ i j : Fin 128, IntOp.cmpi CmpIPredicate.sge (BitVec.ofNat 32 j.val) (BitVec.ofNat 32 i.val)
    = if i ≤ j then 1#1 else 0#1 := by decide +kernel

/-- The other comparison. -/
theorem cmpC : ∀ i j : Fin 128, IntOp.cmpi CmpIPredicate.sle (BitVec.ofNat 32 j.val) (BitVec.ofNat 32 i.val)
    = if j ≤ i then 1#1 else 0#1 := by decide +kernel

/-- A word of one bit is zero or one. -/
theorem bit_cases : ∀ b : BitVec 1, b = 1#1 ∨ b = 0#1 := by decide

/-- The choice by the mask of the block before: key `j` not before query `i`, and a block before. -/
theorem selP {α : Type} (i j : Fin 128) (hp : BitVec 1) (x y : α) :
    Scalar.select (IntOp.andi (IntOp.cmpi CmpIPredicate.sge (BitVec.ofNat 32 j.val) (BitVec.ofNat 32 i.val)) hp) x y
      = if i ≤ j ∧ hp = 1#1 then x else y := by
  rw [cmpP]
  by_cases h : i ≤ j
  · rcases bit_cases hp with rfl | rfl
    · rw [if_pos h, if_pos ⟨h, rfl⟩]; rfl
    · rw [if_pos h, if_neg fun hh => absurd hh.2 (by decide)]; rfl
  · rw [if_neg h, if_neg fun hh => h hh.1]
    rcases bit_cases hp with rfl | rfl <;> rfl

/-- The choice by the mask of the same block: key `j` not after query `i`. -/
theorem selC {α : Type} (i j : Fin 128) (x y : α) :
    Scalar.select (IntOp.cmpi CmpIPredicate.sle (BitVec.ofNat 32 j.val) (BitVec.ofNat 32 i.val)) x y
      = if j ≤ i then x else y := by
  rw [cmpC]
  by_cases h : j ≤ i
  · rw [if_pos h, if_pos h]; rfl
  · rw [if_neg h, if_neg h]; rfl

/-- The distance to a key of the block before, as a word, read as an integer. -/
theorem relP_toInt : ∀ i j : Fin 128,
    (IntOp.subi (IntOp.addi (BitVec.ofNat 32 i.val) 128#32) (BitVec.ofNat 32 j.val)).toInt = (i.val : ℤ) + 128 - j.val := by
  decide +kernel

/-- The distance to a key of the same block, as a word, read as an integer. -/
theorem relC_toInt : ∀ i j : Fin 128,
    (IntOp.subi (BitVec.ofNat 32 i.val) (BitVec.ofNat 32 j.val)).toInt = (i.val : ℤ) - j.val := by
  decide +kernel

/-- The tiles and words the kernel works on hold a head's real numbers. -/
structure HeadIs (X : Head) (sl : Ideal .f32) (hp : BitVec 1) (q kp kc vp vc od dl : Tile Ideal) : Prop where
  c : Ideal.ofBits .f32 0x3DB504F3#32 = ((X.c : ℝ) : EReal)
  σ : sl = ((X.σ : ℝ) : EReal)
  hp : hp = 1#1 ↔ X.hp
  q : Is q X.q
  kp : Is kp X.kp
  kc : Is kc X.kc
  vp : Is vp X.vp
  vc : Is vc X.vc
  od : Is od X.od
  dl : Is dl X.dl

section

variable {X : Head} {sl : Ideal .f32} {hp : BitVec 1} {q kp kc vp vc od dl : Tile Ideal}
variable (H : HeadIs X sl hp q kp kc vp vc od dl)

include H

/-- The scores against the block before: the unseen ones are `⊥`. -/
theorem scoreP_val (i j : Fin 128) :
    scoreP sl hp q kp (ix2 i j) = if X.mP i j then ((X.sP i j : ℝ) : EReal) else ⊥ := by
  pointwise [scoreP, seenP, rowNo, keyNo]
  rw [selP, H.c, H.σ, dotNT_is H.q H.kp i j]
  have hm : (i ≤ j ∧ hp = 1#1) ↔ X.mP i j := and_congr Iff.rfl H.hp
  have hbot : (Named.named (F := Ideal) κ "mask" (φ := .f32) 4048155338#32 : EReal) = ⊥ := rfl
  rw [hbot]
  simp only [hm]
  congr 1
  show _ - ((X.σ : ℝ) : EReal) * (((IntOp.subi (IntOp.addi (BitVec.ofNat 32 i.val) 128#32) (BitVec.ofNat 32 j.val)).toInt : ℝ) : EReal) = _
  rw [relP_toInt, ← EReal.coe_mul, ← EReal.coe_mul, ← EReal.coe_sub]
  unfold Head.sP
  push_cast
  rfl

/-- The scores against the same block: the unseen ones are `⊥`. -/
theorem scoreC_val (i j : Fin 128) :
    scoreC sl q kc (ix2 i j) = if Head.mC i j then ((X.sC i j : ℝ) : EReal) else ⊥ := by
  pointwise [scoreC, seenC, rowNo, keyNo]
  rw [selC, H.c, H.σ, dotNT_is H.q H.kc i j]
  have hm : (j ≤ i) ↔ Head.mC i j := Iff.rfl
  have hbot : (Named.named (F := Ideal) κ "mask" (φ := .f32) 4048155338#32 : EReal) = ⊥ := rfl
  rw [hbot]
  simp only [hm]
  congr 1
  show _ - ((X.σ : ℝ) : EReal) * (((IntOp.subi (BitVec.ofNat 32 i.val) (BitVec.ofNat 32 j.val)).toInt : ℝ) : EReal) = _
  rw [relC_toInt, ← EReal.coe_mul, ← EReal.coe_mul, ← EReal.coe_sub]
  unfold Head.sC
  push_cast
  rfl

/-- The greatest scores are real numbers: every query sees itself. -/
theorem hMax_is : ∃ M : Fin 128 → ℝ, IsCol (hMax sl hp q kp kc) M := by
  have h : ∀ i, ∃ r : ℝ, hMax sl hp q kp kc (ix2 i 0) = (r : EReal) := by
    intro i
    pointwise [hMax, rowMax]
    have hb : Ideal.ofBits .f32 4286578688#32 = ⊥ := by simp [Ideal.ofBits, Ideal.ieee]
    rw [hb]
    refine coe_of_ne ?_ ?_
    · refine ne_of_lt (max_lt (lt_top_iff_ne_top.mpr (fold_max_ne_top _ _ bot_ne_top _ fun k _ => ?_))
        (lt_top_iff_ne_top.mpr (fold_max_ne_top _ _ bot_ne_top _ fun k _ => ?_)))
      · rw [scoreP_val H]; split
        · exact EReal.coe_ne_top _
        · exact bot_ne_top
      · rw [scoreC_val H]; split
        · exact EReal.coe_ne_top _
        · exact bot_ne_top
    · refine ne_of_gt (lt_max_of_lt_right (bot_lt_iff_ne_bot.mpr (fold_max_ne_bot _ _ _ i (Finset.mem_univ _) ?_)))
      rw [scoreC_val H, if_pos (show Head.mC i i from le_refl i)]
      exact EReal.coe_ne_bot _
  choose M hM using h
  exact ⟨M, hM⟩

variable {M : Fin 128 → ℝ} (hM : IsCol (hMax sl hp q kp kc) M)

include hM

theorem hExpP_is : Is (hExpP sl hp q kp kc) fun i j => Real.exp (-M i) * X.eP i j := by
  intro i j
  pointwise [hExpP, expOf, spread]
  rw [scoreP_val H, hM i]
  unfold Head.eP
  split
  · rw [← EReal.coe_sub, Ideal.exp_coe, ← Real.exp_add]
    congr 2; ring
  · rw [EReal.bot_sub, Ideal.exp_bot, mul_zero, EReal.coe_zero]

theorem hExpC_is : Is (hExpC sl hp q kp kc) fun i j => Real.exp (-M i) * X.eC i j := by
  intro i j
  pointwise [hExpC, expOf, spread]
  rw [scoreC_val H, hM i]
  unfold Head.eC
  split
  · rw [← EReal.coe_sub, Ideal.exp_coe, ← Real.exp_add]
    congr 2; ring
  · rw [EReal.bot_sub, Ideal.exp_bot, mul_zero, EReal.coe_zero]

theorem hDen_is : IsCol (hDen sl hp q kp kc) fun i => Real.exp (-M i) * X.Z i := by
  intro i
  pointwise [hDen]
  rw [rowSum_is (hExpP_is H hM) i, rowSum_is (hExpC_is H hM) i, ← EReal.coe_add]
  unfold Head.Z
  rw [mul_add, Finset.mul_sum, Finset.mul_sum]

theorem hNum_is : Is (hNum sl hp q kp kc vp vc) fun i e => Real.exp (-M i) * X.Z i * X.o i e := by
  intro i e
  unfold hNum
  rw [addf_is (dotNN_is (hExpP_is H hM) H.vp) (dotNN_is (hExpC_is H hM) H.vc) i e]
  congr 1
  show ∑ k, Real.exp (-M i) * X.eP i k * X.vp k e + ∑ k, Real.exp (-M i) * X.eC i k * X.vc k e = Real.exp (-M i) * X.Z i * X.o i e
  rw [mul_assoc, X.Z_mul_o i e, mul_add, Finset.mul_sum, Finset.mul_sum]
  simp only [mul_assoc]

omit H hM in
theorem den_pos (i : Fin 128) : 0 < Real.exp (-M i) * X.Z i := mul_pos (Real.exp_pos _) (X.Z_pos i)

theorem hDnum_is : Is (hDnum sl hp q kp kc od) fun i e => X.od i e / (Real.exp (-M i) * X.Z i) :=
  divf_is H.od (spread_is (hDen_is H hM)) fun i _ => (den_pos (X := X) i).ne'

theorem invSq_is : IsCol (invSq (hDen sl hp q kp kc)) fun i => 1 / (Real.exp (-M i) * X.Z i * (Real.exp (-M i) * X.Z i)) := by
  intro i
  have hz := (den_pos (X := X) (M := M) i).ne'
  pointwise [invSq]
  rw [hDen_is H hM i, ← EReal.coe_mul, Ideal.div_coe (mul_ne_zero hz hz), one_mul]

/-- The gradient of the denominators: what each score's gradient subtracts, over the denominator. -/
theorem hDden_is : IsCol (hDden sl hp q kp kc vp vc od dl) fun i => X.D i / (Real.exp (-M i) * X.Z i) := by
  intro i
  have hz := (den_pos (X := X) (M := M) i).ne'
  have h1 := rowSum_is (mulf_is (mulf_is H.od (spread_is (invSq_is H hM))) (hNum_is H hM)) i
  pointwise [hDden, gradDen]
  rw [rowSum_is H.dl i, hDen_is H hM i, Ideal.div_coe hz, ← EReal.coe_mul, h1, zero_sub, ← EReal.coe_neg, ← EReal.coe_add]
  congr 1
  unfold Head.D
  rw [sub_div, Finset.sum_div, sub_eq_add_neg, mul_one_div, Finset.sum_div, Finset.sum_div]
  congr 2
  refine Finset.sum_congr rfl fun e _ => ?_
  field_simp

/-- The gradient of the products with the keys of the block before. -/
theorem hGradP_is : Is (hGradP sl hp q kp kc vp vc od dl) X.gP := by
  intro i j
  have hz := (den_pos (X := X) (M := M) i).ne'
  have h1 := mulf_is (addf_is (dotNT_is (hDnum_is H hM) H.vp) (spreadSum_is (hDden_is H hM))) (hExpP_is H hM) i j
  pointwise [hGradP, gradMask, seenP, rowNo, keyNo]
  rw [selP, H.c]
  unfold gradRaw
  rw [h1]
  have hm : (i ≤ j ∧ hp = 1#1) ↔ X.mP i j := and_congr Iff.rfl H.hp
  simp only [hm]
  by_cases h : X.mP i j
  · rw [if_pos h, ← EReal.coe_mul]
    congr 1
    unfold Head.gP Head.pP
    have hs : ∑ k, X.od i k / (Real.exp (-M i) * X.Z i) * X.vp j k = (∑ k, X.od i k * X.vp j k) / (Real.exp (-M i) * X.Z i) := by
      rw [Finset.sum_div]; exact Finset.sum_congr rfl fun k _ => by ring
    rw [hs]
    have hw := (Real.exp_pos (-M i)).ne'
    have hZ := (X.Z_pos i).ne'
    field_simp
  · rw [if_neg h]
    have he : X.eP i j = 0 := if_neg h
    simp only [Head.gP, Head.pP, he, zero_div, zero_mul, EReal.coe_zero]

/-- The gradient of the products with the keys of the same block. -/
theorem hGradC_is : Is (hGradC sl hp q kp kc vp vc od dl) X.gC := by
  intro i j
  have hz := (den_pos (X := X) (M := M) i).ne'
  have h1 := mulf_is (addf_is (dotNT_is (hDnum_is H hM) H.vc) (spreadSum_is (hDden_is H hM))) (hExpC_is H hM) i j
  pointwise [hGradC, gradMask, seenC, rowNo, keyNo]
  rw [selC, H.c]
  unfold gradRaw
  rw [h1]
  have hm : (j ≤ i) ↔ Head.mC i j := Iff.rfl
  simp only [hm]
  by_cases h : Head.mC i j
  · rw [if_pos h, ← EReal.coe_mul]
    congr 1
    unfold Head.gC Head.pC
    have hs : ∑ k, X.od i k / (Real.exp (-M i) * X.Z i) * X.vc j k = (∑ k, X.od i k * X.vc j k) / (Real.exp (-M i) * X.Z i) := by
      rw [Finset.sum_div]; exact Finset.sum_congr rfl fun k _ => by ring
    rw [hs]
    have hw := (Real.exp_pos (-M i)).ne'
    have hZ := (X.Z_pos i).ne'
    field_simp
  · rw [if_neg h]
    have he : X.eC i j = 0 := if_neg h
    simp only [Head.gC, Head.pC, he, zero_div, zero_mul, EReal.coe_zero]

omit hM

/-- What the kernel leaves of the gradient of the queries. -/
theorem hDq_is : Is (hDq sl hp q kp kc vp vc od dl) X.dq := by
  obtain ⟨M, hM⟩ := hMax_is H
  exact addf_is (dotNN_is (hGradC_is H hM) H.kc) (dotNN_is (hGradP_is H hM) H.kp)

/-- What the kernel leaves of the gradient of the keys, without the carried share. -/
theorem hDkC_is : Is (hDkC sl hp q kp kc vp vc od dl) X.dkC := by
  obtain ⟨M, hM⟩ := hMax_is H
  exact dotTN_is (hGradC_is H hM) H.q

/-- The share of the gradient of the keys that the kernel carries to the block before. -/
theorem hDkP_is : Is (hDkP sl hp q kp kc vp vc od dl) X.dkP := by
  obtain ⟨M, hM⟩ := hMax_is H
  exact dotTN_is (hGradP_is H hM) H.q

/-- What the kernel leaves of the gradient of the values, without the carried share. -/
theorem hDvC_is : Is (hDvC sl hp q kp kc od) X.dvC := by
  obtain ⟨M, hM⟩ := hMax_is H
  intro j e
  unfold hDvC
  rw [dotTN_is (hExpC_is H hM) (hDnum_is H hM) j e]
  unfold Head.dvC Head.pC
  congr 1
  refine Finset.sum_congr rfl fun i _ => ?_
  have hw := (Real.exp_pos (-M i)).ne'
  have hZ := (X.Z_pos i).ne'
  field_simp

/-- The share of the gradient of the values that the kernel carries to the block before. -/
theorem hDvP_is : Is (hDvP sl hp q kp kc od) X.dvP := by
  obtain ⟨M, hM⟩ := hMax_is H
  intro j e
  unfold hDvP
  rw [dotTN_is (hExpP_is H hM) (hDnum_is H hM) j e]
  unfold Head.dvP Head.pP
  congr 1
  refine Finset.sum_congr rfl fun i _ => ?_
  have hw := (Real.exp_pos (-M i)).ne'
  have hZ := (X.Z_pos i).ne'
  field_simp

end

end Cert.Attn
-- ==== Proof.Whole.lean ====
/- The whole arrays over the real numbers: 4096 positions in 32 blocks of 128, 512 lanes in 4 heads of 128.  Each block
   of each head is one `Head`; the gradient of a block's keys and values has the block's own share and that of the
   block after it. -/
module

public import proofs.«01_k».proof.Proof.Spec

@[expose] public section

noncomputable section

namespace Cert.Attn

/-- Position `i` of block `n`. -/
def row (n : Fin 32) (i : Fin 128) : Fin 4096 := ⟨n.val * 128 + i.val, by omega⟩
/-- Lane `e` of head `h`. -/
def col (h : Fin 4) (e : Fin 128) : Fin 512 := ⟨h.val * 128 + e.val, by omega⟩
/-- The block before, the first block's own number for the first. -/
def before (n : Fin 32) : Fin 32 := ⟨n.val - 1, by omega⟩
/-- A 4096 by 512 table of reals. -/
abbrev Arr : Type := Fin 4096 → Fin 512 → ℝ

/-- What both programs are given, as real numbers: the scale, the heads' slopes, queries, keys, values, and the two
    gradients that come in. -/
structure Data where
  c : ℝ
  σ : Fin 4 → ℝ
  Q : Arr
  K : Arr
  V : Arr
  O : Arr
  L : Arr

namespace Data

variable (Y : Data)

/-- Head `h` of block `n`. -/
def head (n : Fin 32) (h : Fin 4) : Head where
  c := Y.c
  σ := Y.σ h
  hp := 0 < n.val
  q i e := Y.Q (row n i) (col h e)
  kp j e := Y.K (row (before n) j) (col h e)
  kc j e := Y.K (row n j) (col h e)
  vp j e := Y.V (row (before n) j) (col h e)
  vc j e := Y.V (row n j) (col h e)
  od i e := Y.O (row n i) (col h e)
  dl i e := Y.L (row n i) (col h e)

/-- The share of the block after in the gradient of block `n`'s keys; nothing for the last block. -/
def laterK (n : Fin 32) (h : Fin 4) (j e : Fin 128) : ℝ :=
  if hn : n.val + 1 < 32 then (Y.head ⟨n.val + 1, hn⟩ h).dkP j e else 0
/-- The share of the block after in the gradient of block `n`'s values. -/
def laterV (n : Fin 32) (h : Fin 4) (j e : Fin 128) : ℝ :=
  if hn : n.val + 1 < 32 then (Y.head ⟨n.val + 1, hn⟩ h).dvP j e else 0

/-- The gradient of the queries. -/
def dQ (n : Fin 32) (h : Fin 4) (i e : Fin 128) : ℝ := (Y.head n h).dq i e
/-- The gradient of the keys. -/
def dK (n : Fin 32) (h : Fin 4) (j e : Fin 128) : ℝ := (Y.head n h).dkC j e + Y.laterK n h j e
/-- The gradient of the values. -/
def dV (n : Fin 32) (h : Fin 4) (j e : Fin 128) : ℝ := (Y.head n h).dvC j e + Y.laterV n h j e

end Data

end Cert.Attn
-- ==== Proof.Arrays.lean ====
/- The kernel's three result arrays over the real numbers.  Point `t` of the grid works block `31 - t`, so that the share
   of the keys' and values' gradients that a block gives to the block before is at hand, in the carried scratch, when
   the next point works that block. -/
module

public import proofs.«01_k».proof.Proof.Head
public import proofs.«01_k».proof.Proof.Whole
public import proofs.«01_k».proof.Proof.Gen.KernelIdeal.Value

@[expose] public section

set_option maxRecDepth 16384

noncomputable section

namespace Cert.Attn.Arrays

open Cert.KernelIdeal Cert.KernelIdeal.Gen Idealize.ShloMosaic Idealize.ShloMosaic.TcCoe Idealize.ShloMosaic.Tactic

/-- The words of the four heads' slopes. -/
def word : Fin 4 → BitVec 32 := ![0x3F3504F3#32, 0x3F000000#32, 0x3EB504F3#32, 0x3E800000#32]

/-- Device `c`'s arguments are the real numbers of `Y`, and so are the scale and the slopes. -/
structure Given (Y : Data) (m : (ℓ : Loc nD τ sig) → Buf (Elt Ideal) ℓ) (c : Dev nD) : Prop where
  scale : Ideal.ofBits .f32 0x3DB504F3#32 = ((Y.c : ℝ) : EReal)
  σ : ∀ h, Ideal.ofBits .f32 (word h) = ((Y.σ h : ℝ) : EReal)
  Q : ∀ (r : Fin 4096) (l : Fin 512),
    (m ((c : Thread nD τ).loc main_arg0) : Vec Ideal S4096x1536 .f32) (ix2 r ⟨l.val, by omega⟩) = ((Y.Q r l : ℝ) : EReal)
  K : ∀ (r : Fin 4096) (l : Fin 512),
    (m ((c : Thread nD τ).loc main_arg1) : Vec Ideal S4096x1536 .f32) (ix2 r ⟨l.val, by omega⟩) = ((Y.K r l : ℝ) : EReal)
  V : ∀ (r : Fin 4096) (l : Fin 512),
    (m ((c : Thread nD τ).loc main_arg2) : Vec Ideal S4096x12288 .f32) (ix2 r ⟨4608 + l.val, by omega⟩) = ((Y.V r l : ℝ) : EReal)
  O : ∀ (r : Fin 4096) (l : Fin 512),
    (m ((c : Thread nD τ).loc main_arg3) : Vec Ideal S4096x512 .f32) (ix2 r l) = ((Y.O r l : ℝ) : EReal)
  L : ∀ (r : Fin 4096) (l : Fin 512),
    (m ((c : Thread nD τ).loc main_arg4) : Vec Ideal S4096x512 .f32) (ix2 r l) = ((Y.L r l : ℝ) : EReal)

/-- The block that point `t` works. -/
def at_ (t : Fin cfg0.N) : Fin 32 := ⟨31 - t.val, by omega⟩
/-- The point that works block `n`. -/
def point (n : Fin 32) : Fin cfg0.N := ⟨31 - n.val, lt_of_lt_of_eq (by omega : 31 - n.val < 32) (show 32 = cfg0.N from N_0.symm)⟩

theorem at_point (n : Fin 32) : at_ (point n) = n := Fin.ext (show 31 - (31 - n.val) = n.val by omega)

theorem lane_eq (u : Fin 4) (e : Fin 128) : lane u e = col u e := Fin.ext (show 128 * u.val + e.val = u.val * 128 + e.val by omega)

/-- Which blocks the windows are on. -/
theorem index_eq : ∀ t : Fin cfg0.N,
    (win0_0.index t 0 = 31 - t.val ∧ win0_0.index t 1 = 0) ∧ (win0_1.index t 0 = 31 - t.val - 1 ∧ win0_1.index t 1 = 0)
    ∧ (win0_2.index t 0 = 31 - t.val ∧ win0_2.index t 1 = 0) ∧ (win0_3.index t 0 = 31 - t.val - 1 ∧ win0_3.index t 1 = 9)
    ∧ (win0_4.index t 0 = 31 - t.val ∧ win0_4.index t 1 = 9) ∧ (win0_5.index t 0 = 31 - t.val ∧ win0_5.index t 1 = 0)
    ∧ (win0_6.index t 0 = 31 - t.val ∧ win0_6.index t 1 = 0) ∧ (win0_7.index t 0 = 31 - t.val ∧ win0_7.index t 1 = 0)
    ∧ (win0_8.index t 0 = 31 - t.val ∧ win0_8.index t 1 = 0) ∧ (win0_9.index t 0 = 31 - t.val ∧ win0_9.index t 1 = 0) := by
  decide +kernel

/-- There is a block before exactly where the body says so. -/
theorem hasPrev_iff : ∀ t : Fin cfg0.N, hasPrev (grid0.coords t) = 1#1 ↔ 0 < 31 - t.val := by
  decide +kernel

/-- The grid's first axis has one position. -/
theorem coord0 : ∀ t : Fin cfg0.N, (grid0.coords t 0).val = 0 := by
  decide +kernel

/-- The body's slope of head `u`. -/
theorem slope_eq (t : Fin cfg0.N) (u : Fin 4) : (slope (grid0.coords t) (headNo u) : Ideal .f32) = Ideal.ofBits .f32 (word u) := by
  unfold slope
  rw [coord0 t]
  fin_cases u <;> rfl

variable {Y : Data} {m : (ℓ : Loc nD τ sig) → Buf (Elt Ideal) ℓ} {c : Dev nD}

/-- Window 0 at a point reads the query. -/
theorem read0 (G : Given Y m c) (t : Fin cfg0.N) (i : Fin 128) (l : Fin 512) :
    (iblk m c 0 t : Vec Ideal S128x512 .f32) (ix2 i l) = ((Y.Q (row (at_ t) i) l : ℝ) : EReal) := by
  refine Eq.trans ?_ (G.Q (row (at_ t) i) l)
  obtain ⟨e0, e1⟩ : win0_0.index t 0 = 31 - t.val ∧ win0_0.index t 1 = 0 := (index_eq t).1
  show m _ _ = m _ _
  congr 1
  funext a
  match a with
  | ⟨0, _⟩ =>
    refine Fin.ext ?_
    show win0_0.index t 0 * 128 + 1 * i.val = (31 - t.val) * 128 + i.val
    rw [e0, one_mul]
  | ⟨1, _⟩ =>
    refine Fin.ext ?_
    show win0_0.index t 1 * 512 + 1 * l.val = l.val
    rw [e1]; omega

/-- Window 1 at a point reads the key of the block before. -/
theorem read1 (G : Given Y m c) (t : Fin cfg0.N) (i : Fin 128) (l : Fin 512) :
    (iblk m c 1 t : Vec Ideal S128x512 .f32) (ix2 i l) = ((Y.K (row (before (at_ t)) i) l : ℝ) : EReal) := by
  refine Eq.trans ?_ (G.K (row (before (at_ t)) i) l)
  obtain ⟨e0, e1⟩ : win0_1.index t 0 = 31 - t.val - 1 ∧ win0_1.index t 1 = 0 := (index_eq t).2.1
  show m _ _ = m _ _
  congr 1
  funext a
  match a with
  | ⟨0, _⟩ =>
    refine Fin.ext ?_
    show win0_1.index t 0 * 128 + 1 * i.val = (31 - t.val - 1) * 128 + i.val
    rw [e0, one_mul]
  | ⟨1, _⟩ =>
    refine Fin.ext ?_
    show win0_1.index t 1 * 512 + 1 * l.val = l.val
    rw [e1]; omega

/-- Window 2 at a point reads the key. -/
theorem read2 (G : Given Y m c) (t : Fin cfg0.N) (i : Fin 128) (l : Fin 512) :
    (iblk m c 2 t : Vec Ideal S128x512 .f32) (ix2 i l) = ((Y.K (row (at_ t) i) l : ℝ) : EReal) := by
  refine Eq.trans ?_ (G.K (row (at_ t) i) l)
  obtain ⟨e0, e1⟩ : win0_2.index t 0 = 31 - t.val ∧ win0_2.index t 1 = 0 := (index_eq t).2.2.1
  show m _ _ = m _ _
  congr 1
  funext a
  match a with
  | ⟨0, _⟩ =>
    refine Fin.ext ?_
    show win0_2.index t 0 * 128 + 1 * i.val = (31 - t.val) * 128 + i.val
    rw [e0, one_mul]
  | ⟨1, _⟩ =>
    refine Fin.ext ?_
    show win0_2.index t 1 * 512 + 1 * l.val = l.val
    rw [e1]; omega

/-- Window 3 at a point reads the value of the block before. -/
theorem read3 (G : Given Y m c) (t : Fin cfg0.N) (i : Fin 128) (l : Fin 512) :
    (iblk m c 3 t : Vec Ideal S128x512 .f32) (ix2 i l) = ((Y.V (row (before (at_ t)) i) l : ℝ) : EReal) := by
  refine Eq.trans ?_ (G.V (row (before (at_ t)) i) l)
  obtain ⟨e0, e1⟩ : win0_3.index t 0 = 31 - t.val - 1 ∧ win0_3.index t 1 = 9 := (index_eq t).2.2.2.1
  show m _ _ = m _ _
  congr 1
  funext a
  match a with
  | ⟨0, _⟩ =>
    refine Fin.ext ?_
    show win0_3.index t 0 * 128 + 1 * i.val = (31 - t.val - 1) * 128 + i.val
    rw [e0, one_mul]
  | ⟨1, _⟩ =>
    refine Fin.ext ?_
    show win0_3.index t 1 * 512 + 1 * l.val = 4608 + l.val
    rw [e1]; omega

/-- Window 4 at a point reads the value. -/
theorem read4 (G : Given Y m c) (t : Fin cfg0.N) (i : Fin 128) (l : Fin 512) :
    (iblk m c 4 t : Vec Ideal S128x512 .f32) (ix2 i l) = ((Y.V (row (at_ t) i) l : ℝ) : EReal) := by
  refine Eq.trans ?_ (G.V (row (at_ t) i) l)
  obtain ⟨e0, e1⟩ : win0_4.index t 0 = 31 - t.val ∧ win0_4.index t 1 = 9 := (index_eq t).2.2.2.2.1
  show m _ _ = m _ _
  congr 1
  funext a
  match a with
  | ⟨0, _⟩ =>
    refine Fin.ext ?_
    show win0_4.index t 0 * 128 + 1 * i.val = (31 - t.val) * 128 + i.val
    rw [e0, one_mul]
  | ⟨1, _⟩ =>
    refine Fin.ext ?_
    show win0_4.index t 1 * 512 + 1 * l.val = 4608 + l.val
    rw [e1]; omega

/-- Window 5 at a point reads the first incoming gradient. -/
theorem read5 (G : Given Y m c) (t : Fin cfg0.N) (i : Fin 128) (l : Fin 512) :
    (iblk m c 5 t : Vec Ideal S128x512 .f32) (ix2 i l) = ((Y.O (row (at_ t) i) l : ℝ) : EReal) := by
  refine Eq.trans ?_ (G.O (row (at_ t) i) l)
  obtain ⟨e0, e1⟩ : win0_5.index t 0 = 31 - t.val ∧ win0_5.index t 1 = 0 := (index_eq t).2.2.2.2.2.1
  show m _ _ = m _ _
  congr 1
  funext a
  match a with
  | ⟨0, _⟩ =>
    refine Fin.ext ?_
    show win0_5.index t 0 * 128 + 1 * i.val = (31 - t.val) * 128 + i.val
    rw [e0, one_mul]
  | ⟨1, _⟩ =>
    refine Fin.ext ?_
    show win0_5.index t 1 * 512 + 1 * l.val = l.val
    rw [e1]; omega

/-- Window 6 at a point reads the second incoming gradient. -/
theorem read6 (G : Given Y m c) (t : Fin cfg0.N) (i : Fin 128) (l : Fin 512) :
    (iblk m c 6 t : Vec Ideal S128x512 .f32) (ix2 i l) = ((Y.L (row (at_ t) i) l : ℝ) : EReal) := by
  refine Eq.trans ?_ (G.L (row (at_ t) i) l)
  obtain ⟨e0, e1⟩ : win0_6.index t 0 = 31 - t.val ∧ win0_6.index t 1 = 0 := (index_eq t).2.2.2.2.2.2.1
  show m _ _ = m _ _
  congr 1
  funext a
  match a with
  | ⟨0, _⟩ =>
    refine Fin.ext ?_
    show win0_6.index t 0 * 128 + 1 * i.val = (31 - t.val) * 128 + i.val
    rw [e0, one_mul]
  | ⟨1, _⟩ =>
    refine Fin.ext ?_
    show win0_6.index t 1 * 512 + 1 * l.val = l.val
    rw [e1]; omega

/-- The four heads' tiles at a point are the real numbers of the point's block. -/
theorem head_is (G : Given Y m c) (t : Fin cfg0.N) (u : Fin 4) :
    HeadIs (Y.head (at_ t) u) (slope (grid0.coords t) (headNo u)) (hasPrev (grid0.coords t))
      (part (iblk m c 0 t) u) (part (iblk m c 1 t) u) (part (iblk m c 2 t) u) (part (iblk m c 3 t) u)
      (part (iblk m c 4 t) u) (part (iblk m c 5 t) u) (part (iblk m c 6 t) u) where
  c := G.scale
  σ := (slope_eq t u).trans (G.σ u)
  hp := hasPrev_iff t
  q i e := (part_apply _ u i e).trans (by rw [lane_eq]; exact read0 G t i (col u e))
  kp i e := (part_apply _ u i e).trans (by rw [lane_eq]; exact read1 G t i (col u e))
  kc i e := (part_apply _ u i e).trans (by rw [lane_eq]; exact read2 G t i (col u e))
  vp i e := (part_apply _ u i e).trans (by rw [lane_eq]; exact read3 G t i (col u e))
  vc i e := (part_apply _ u i e).trans (by rw [lane_eq]; exact read4 G t i (col u e))
  od i e := (part_apply _ u i e).trans (by rw [lane_eq]; exact read5 G t i (col u e))
  dl i e := (part_apply _ u i e).trans (by rw [lane_eq]; exact read6 G t i (col u e))

/-- The carried zeros. -/
theorem zeros_apply (u : Fin 4) (j e : Fin 128) : (zeros : Vec Ideal S4x128x128 .f32) (ix3 u j e) = 0 := by
  pointwise [zeros]

/-- A point leaves the gradient of its block's queries. -/
theorem out_q (G : Given Y m c) (t : Fin cfg0.N) (u : Fin 4) (i e : Fin 128) :
    (outsAt0 m c t.val t.isLt).1 (ix2 i (col u e)) = ((Y.dQ (at_ t) u i e : ℝ) : EReal) := by
  have hx := hDq_is (head_is G t u) i e
  rw [← lane_eq]
  by_cases h0 : t.val % 32 = 0
  · rw [outsAt0_A m c t h0]
    dsimp only
    rw [pieces_A_7 c t h0]
    exact (beside_apply _ u i e).trans hx
  · rw [outsAt0_B m c t h0]
    dsimp only
    rw [pieces_B_7 c t h0]
    exact (beside_apply _ u i e).trans hx

/-- A point leaves in the first scratch its block's share in the gradient of the keys of the block before. -/
theorem kept_k (G : Given Y m c) (t : Fin cfg0.N) (u : Fin 4) (j e : Fin 128) :
    (outsAt0 m c t.val t.isLt).2.2.2.1 (ix3 u j e) = (((Y.head (at_ t) u).dkP j e : ℝ) : EReal) := by
  have hx := hDkP_is (head_is G t u) j e
  by_cases h0 : t.val % 32 = 0
  · rw [outsAt0_A m c t h0]
    dsimp only
    rw [pieces_A_s0 c t h0]
    exact (stacked_apply _ u j e).trans hx
  · rw [outsAt0_B m c t h0]
    dsimp only
    rw [pieces_B_s0 c t h0]
    exact (stacked_apply _ u j e).trans hx

/-- … and in the second that in the gradient of its values. -/
theorem kept_v (G : Given Y m c) (t : Fin cfg0.N) (u : Fin 4) (j e : Fin 128) :
    (outsAt0 m c t.val t.isLt).2.2.2.2 (ix3 u j e) = (((Y.head (at_ t) u).dvP j e : ℝ) : EReal) := by
  have hx := hDvP_is (head_is G t u) j e
  by_cases h0 : t.val % 32 = 0
  · rw [outsAt0_A m c t h0]
    dsimp only
    rw [pieces_A_s1 c t h0]
    exact (stacked_apply _ u j e).trans hx
  · rw [outsAt0_B m c t h0]
    dsimp only
    rw [pieces_B_s1 c t h0]
    exact (stacked_apply _ u j e).trans hx

/-- The point before works the block after. -/
theorem at_before (t : Fin cfg0.N) (h0 : ¬ t.val % 32 = 0) (h : t.val - 1 < cfg0.N) :
    ∃ hn : (at_ t).val + 1 < 32, at_ ⟨t.val - 1, h⟩ = ⟨(at_ t).val + 1, hn⟩ := by
  have ht : t.val < 32 := Nat.lt_of_lt_of_eq t.isLt N_0
  have hn : 31 - t.val + 1 < 32 := by omega
  exact ⟨hn, Fin.ext (show 31 - (t.val - 1) = 31 - t.val + 1 by omega)⟩

/-- The first point works the last block. -/
theorem at_first (t : Fin cfg0.N) (h0 : t.val % 32 = 0) : ¬ (at_ t).val + 1 < 32 := by
  have ht : t.val < 32 := Nat.lt_of_lt_of_eq t.isLt N_0
  show ¬ 31 - t.val + 1 < 32
  omega

/-- A point leaves the gradient of its block's keys: its own share and the carried one. -/
theorem out_k (G : Given Y m c) (t : Fin cfg0.N) (u : Fin 4) (j e : Fin 128) :
    (outsAt0 m c t.val t.isLt).2.1 (ix2 j (col u e)) = ((Y.dK (at_ t) u j e : ℝ) : EReal) := by
  have hx := hDkC_is (head_is G t u) j e
  have hs : ((Y.dK (at_ t) u j e : ℝ) : EReal) = (((Y.head (at_ t) u).dkC j e : ℝ) : EReal) + ((Y.laterK (at_ t) u j e : ℝ) : EReal) :=
    EReal.coe_add _ _
  rw [← lane_eq, hs]
  by_cases h0 : t.val % 32 = 0
  · rw [outsAt0_A m c t h0]
    dsimp only
    rw [pieces_A_8 c t h0]
    refine (beside_apply _ u j e).trans (congrArg₂ (fun x y : EReal => x + y) hx ?_)
    rw [show Y.laterK (at_ t) u j e = 0 from dif_neg (at_first t h0)]
    exact (ldCarry_apply _ u j e).trans (zeros_apply u j e)
  · rw [outsAt0_B m c t h0]
    dsimp only
    rw [pieces_B_8 c t h0]
    refine (beside_apply _ u j e).trans (congrArg₂ (fun x y : EReal => x + y) hx ?_)
    refine (ldCarry_apply _ u j e).trans ?_
    have hb : t.val - 1 < cfg0.N := Nat.lt_of_le_of_lt (Nat.sub_le _ _) t.isLt
    obtain ⟨hn, hat⟩ := at_before t h0 hb
    rw [show Y.laterK (at_ t) u j e = _ from dif_pos hn, ← hat]
    exact kept_k G ⟨t.val - 1, hb⟩ u j e

/-- A point leaves the gradient of its block's values: its own share and the carried one. -/
theorem out_v (G : Given Y m c) (t : Fin cfg0.N) (u : Fin 4) (j e : Fin 128) :
    (outsAt0 m c t.val t.isLt).2.2.1 (ix2 j (col u e)) = ((Y.dV (at_ t) u j e : ℝ) : EReal) := by
  have hx := hDvC_is (head_is G t u) j e
  have hs : ((Y.dV (at_ t) u j e : ℝ) : EReal) = (((Y.head (at_ t) u).dvC j e : ℝ) : EReal) + ((Y.laterV (at_ t) u j e : ℝ) : EReal) :=
    EReal.coe_add _ _
  rw [← lane_eq, hs]
  by_cases h0 : t.val % 32 = 0
  · rw [outsAt0_A m c t h0]
    dsimp only
    rw [pieces_A_9 c t h0]
    refine (beside_apply _ u j e).trans (congrArg₂ (fun x y : EReal => x + y) hx ?_)
    rw [show Y.laterV (at_ t) u j e = 0 from dif_neg (at_first t h0)]
    exact (ldCarry_apply _ u j e).trans (zeros_apply u j e)
  · rw [outsAt0_B m c t h0]
    dsimp only
    rw [pieces_B_9 c t h0]
    refine (beside_apply _ u j e).trans (congrArg₂ (fun x y : EReal => x + y) hx ?_)
    refine (ldCarry_apply _ u j e).trans ?_
    have hb : t.val - 1 < cfg0.N := Nat.lt_of_le_of_lt (Nat.sub_le _ _) t.isLt
    obtain ⟨hn, hat⟩ := at_before t h0 hb
    rw [show Y.laterV (at_ t) u j e = _ from dif_pos hn, ← hat]
    exact kept_v G ⟨t.val - 1, hb⟩ u j e

/-- The kernel's array of the gradient of the queries. -/
theorem arr_q (G : Given Y m c) (n : Fin 32) (h : Fin 4) (i e : Fin 128) :
    ((dats m 0 c).arrAt 7 cfg0.N : Vec Ideal S4096x512 .f32) (ix2 (row n i) (col h e)) = ((Y.dQ n h i e : ℝ) : EReal) := by
  have hv := out_q G (point n) h i e
  rw [at_point] at hv
  refine Eq.trans ?_ hv
  have hb := congrFun ((Value.blocks7 m c (point n) (flush0_7 (point n))).trans (Value.flushed7 m c (point n))) (ix2 i (col h e))
  refine Eq.trans ?_ hb
  obtain ⟨e0, e1⟩ : win0_7.index (point n) 0 = 31 - (point n).val ∧ win0_7.index (point n) 1 = 0 := (index_eq (point n)).2.2.2.2.2.2.2.1
  show (dats m 0 c).arrAt 7 cfg0.N _ = (dats m 0 c).arrAt 7 cfg0.N _
  congr 1
  funext a
  match a with
  | ⟨0, _⟩ =>
    refine Fin.ext ?_
    show n.val * 128 + i.val = win0_7.index (point n) 0 * 128 + 1 * i.val
    rw [e0, one_mul]
    show _ = (31 - (31 - n.val)) * 128 + i.val
    omega
  | ⟨1, _⟩ =>
    refine Fin.ext ?_
    show (col h e).val = win0_7.index (point n) 1 * 512 + 1 * (col h e).val
    rw [e1]; omega

/-- The kernel's array of the gradient of the keys. -/
theorem arr_k (G : Given Y m c) (n : Fin 32) (h : Fin 4) (i e : Fin 128) :
    ((dats m 0 c).arrAt 8 cfg0.N : Vec Ideal S4096x512 .f32) (ix2 (row n i) (col h e)) = ((Y.dK n h i e : ℝ) : EReal) := by
  have hv := out_k G (point n) h i e
  rw [at_point] at hv
  refine Eq.trans ?_ hv
  have hb := congrFun ((Value.blocks8 m c (point n) (flush0_8 (point n))).trans (Value.flushed8 m c (point n))) (ix2 i (col h e))
  refine Eq.trans ?_ hb
  obtain ⟨e0, e1⟩ : win0_8.index (point n) 0 = 31 - (point n).val ∧ win0_8.index (point n) 1 = 0 := (index_eq (point n)).2.2.2.2.2.2.2.2.1
  show (dats m 0 c).arrAt 8 cfg0.N _ = (dats m 0 c).arrAt 8 cfg0.N _
  congr 1
  funext a
  match a with
  | ⟨0, _⟩ =>
    refine Fin.ext ?_
    show n.val * 128 + i.val = win0_8.index (point n) 0 * 128 + 1 * i.val
    rw [e0, one_mul]
    show _ = (31 - (31 - n.val)) * 128 + i.val
    omega
  | ⟨1, _⟩ =>
    refine Fin.ext ?_
    show (col h e).val = win0_8.index (point n) 1 * 512 + 1 * (col h e).val
    rw [e1]; omega

/-- The kernel's array of the gradient of the values. -/
theorem arr_v (G : Given Y m c) (n : Fin 32) (h : Fin 4) (i e : Fin 128) :
    ((dats m 0 c).arrAt 9 cfg0.N : Vec Ideal S4096x512 .f32) (ix2 (row n i) (col h e)) = ((Y.dV n h i e : ℝ) : EReal) := by
  have hv := out_v G (point n) h i e
  rw [at_point] at hv
  refine Eq.trans ?_ hv
  have hb := congrFun ((Value.blocks9 m c (point n) (flush0_9 (point n))).trans (Value.flushed9 m c (point n))) (ix2 i (col h e))
  refine Eq.trans ?_ hb
  obtain ⟨e0, e1⟩ : win0_9.index (point n) 0 = 31 - (point n).val ∧ win0_9.index (point n) 1 = 0 := (index_eq (point n)).2.2.2.2.2.2.2.2.2
  show (dats m 0 c).arrAt 9 cfg0.N _ = (dats m 0 c).arrAt 9 cfg0.N _
  congr 1
  funext a
  match a with
  | ⟨0, _⟩ =>
    refine Fin.ext ?_
    show n.val * 128 + i.val = win0_9.index (point n) 0 * 128 + 1 * i.val
    rw [e0, one_mul]
    show _ = (31 - (31 - n.val)) * 128 + i.val
    omega
  | ⟨1, _⟩ =>
    refine Fin.ext ?_
    show (col h e).val = win0_9.index (point n) 1 * 512 + 1 * (col h e).val
    rw [e1]; omega

end Cert.Attn.Arrays
-- ==== Proof.Ref.lean ====
/- The reference at the ideal instance: where its arguments hold real numbers, the named arrays it goes through
   hold, block by block and head by head, the numbers `Spec` names.  Its window is one axis of 256 keys; `lo` are
   those of the block before, `hi` those of the same block. -/
module

public import proofs.«01_k».proof.Proof.Gen.ReferenceIdeal.Run
public import proofs.«01_k».proof.Proof.Whole
public import Idealize.ShloMosaic.Lib.Pointwise

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem Idealize.ShloMosaic.StableHlo
open scoped BigOperators
open Classical

/-- Key `j` of the block before, in the window of 256. -/
def lo (j : Fin 128) : Fin 256 := ⟨j.val, by omega⟩
/-- Key `j` of the same block, in the window of 256. -/
def hi (j : Fin 128) : Fin 256 := ⟨128 + j.val, by omega⟩

/-- A sum over the window, by its two halves. -/
theorem sum_halves {M : Type} [AddCommMonoid M] (f : Fin 256 → M) : ∑ k, f k = ∑ j, f (lo j) + ∑ j, f (hi j) :=
  Fin.sum_univ_add (a := 128) (b := 128) f

/-- Every key of the window is in one of its halves. -/
theorem half_cases (k : Fin 256) : (∃ j, k = lo j) ∨ ∃ j, k = hi j := by
  by_cases h : k.val < 128
  · exact Or.inl ⟨⟨k.val, h⟩, rfl⟩
  · exact Or.inr ⟨⟨k.val - 128, by omega⟩, Fin.ext (show k.val = 128 + (k.val - 128) by omega)⟩

section axes

variable {n0 n1 n2 n3 n4 n5 : Nat}

/-- The indices that lose their last of six coordinates to the same five differ in that coordinate only. -/
theorem drop_last (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro he
    refine ⟨i 5, ?_⟩
    funext x
    apply Fin.ext
    match x with
    | ⟨0, _⟩ => exact (congrArg Fin.val (congrFun he 0)).symm
    | ⟨1, _⟩ => exact (congrArg Fin.val (congrFun he 1)).symm
    | ⟨2, _⟩ => exact (congrArg Fin.val (congrFun he 2)).symm
    | ⟨3, _⟩ => exact (congrArg Fin.val (congrFun he 3)).symm
    | ⟨4, _⟩ => exact (congrArg Fin.val (congrFun he 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- A sum along the last of six axes. -/
theorem sum_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal) (a : Fin n0) (b : Fin n1) (c : Fin n2)
    (d : Fin n3) (e : Fin n4) :
    Ideal.hostReduceAdd h v z (ix5 a b c d e) = z + ∑ k : Fin n5, v (ix6 a b c d e k) :=
  congrArg (z + ·) (Finset.sum_filter_eq_sum_of_fiber _ (fun k : Fin n5 => ix6 a b c d e k) (fun _ _ he => congrFun he 5)
    (drop_last h a b c d e) v)

/-- The greatest value along the last of six axes. -/
theorem max_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (z : EReal) (a : Fin n0) (b : Fin n1) (c : Fin n2)
    (d : Fin n3) (e : Fin n4) :
    (Finset.univ.filter fun i => h.drop i = ix5 a b c d e).fold max z v
      = (Finset.univ : Finset (Fin n5)).fold max z fun k => v (ix6 a b c d e k) :=
  Finset.fold_filter_eq_fold_of_fiber max _ (fun k : Fin n5 => ix6 a b c d e k) (fun _ _ he => congrFun he 5)
    (drop_last h a b c d e) z v

/-- A sum along three axes of size one is its one summand. -/
theorem sum_ones (h : (⟨6, ![1, n1, 1, n3, n4, 1]⟩ : Shape).ReducesTo [0, 2, 5] ⟨3, ![n1, n3, n4]⟩)
    (v : (⟨6, ![1, n1, 1, n3, n4, 1]⟩ : Shape).Idx → EReal) (z : EReal) (b : Fin n1) (d : Fin n3) (e : Fin n4) :
    Ideal.hostReduceAdd h v z (ix3 b d e) = z + v (ix6 0 b 0 d e 0) := by
  have hp : ∀ i, h.drop i = ix3 b d e ↔ ∃ _ : Unit, ix6 0 b 0 d e 0 = i := by
    intro i
    constructor
    · intro he
      refine ⟨(), ?_⟩
      funext x
      apply Fin.ext
      match x with
      | ⟨0, _⟩ => exact (congrArg Fin.val (Subsingleton.elim (α := Fin 1) _ _))
      | ⟨1, _⟩ => exact (congrArg Fin.val (congrFun he 0)).symm
      | ⟨2, _⟩ => exact (congrArg Fin.val (Subsingleton.elim (α := Fin 1) _ _))
      | ⟨3, _⟩ => exact (congrArg Fin.val (congrFun he 1)).symm
      | ⟨4, _⟩ => exact (congrArg Fin.val (congrFun he 2)).symm
      | ⟨5, _⟩ => exact (congrArg Fin.val (Subsingleton.elim (α := Fin 1) _ _))
    · rintro ⟨_, rfl⟩
      funext x
      apply Fin.ext
      match x with
      | ⟨0, _⟩ => rfl
      | ⟨1, _⟩ => rfl
      | ⟨2, _⟩ => rfl
  refine congrArg (z + ·) ((Finset.sum_filter_eq_sum_of_fiber _ (fun _ : Unit => ix6 0 b 0 d e 0) (fun _ _ _ => rfl) hp v).trans ?_)
  simp

end axes

/-- The arguments hold real numbers, and so do the constants. -/
structure Holds (Y : Data) (V0 : Valuation τ sig (Elt Ideal)) : Prop where
  c : Ideal.ofBits .f32 0x3DB504F3#32 = ((Y.c : ℝ) : EReal)
  σ : ∀ h : Fin 4, (if _ : h.val < 1 then Ideal.ofBits .f32 1060439283#32 else
    if _ : h.val - 1 < 1 then Ideal.ofBits .f32 1056964608#32 else
      if _ : h.val - 1 - 1 < 1 then Ideal.ofBits .f32 1052050675#32 else Ideal.ofBits .f32 1048576000#32) = ((Y.σ h : ℝ) : EReal)
  Q : ∀ (r : Fin 4096) (l : Fin 512), V0 (Proc.tc.devRef main_arg0) (ix2 r ⟨l.val, by omega⟩) = ((Y.Q r l : ℝ) : EReal)
  K : ∀ (r : Fin 4096) (l : Fin 512), V0 (Proc.tc.devRef main_arg1) (ix2 r ⟨l.val, by omega⟩) = ((Y.K r l : ℝ) : EReal)
  V : ∀ (r : Fin 4096) (l : Fin 512), V0 (Proc.tc.devRef main_arg2) (ix2 r ⟨4608 + l.val, by omega⟩) = ((Y.V r l : ℝ) : EReal)
  O : ∀ (r : Fin 4096) (l : Fin 512), V0 (Proc.tc.devRef main_arg3) (ix2 r l) = ((Y.O r l : ℝ) : EReal)
  L : ∀ (r : Fin 4096) (l : Fin 512), V0 (Proc.tc.devRef main_arg4) (ix2 r l) = ((Y.L r l : ℝ) : EReal)

variable {Y : Data} {V0 : Valuation τ sig (Elt Ideal)} (H : Holds Y V0) (h : Fin 4) (n : Fin 32)

include H

theorem q_val (i e : Fin 128) : res_main_v17 V0 (ix6 0 h 0 n i e) = (((Y.head n h).q i e : ℝ) : EReal) := by
  pointwise [res_main_v17]
  exact H.Q (row n i) (col h e)

theorem od_val (i e : Fin 128) : res_main_v117 V0 (ix6 0 h 0 n i e) = (((Y.head n h).od i e : ℝ) : EReal) := by
  pointwise [res_main_v117]
  exact H.O (row n i) (col h e)

theorem kc_val (j e : Fin 128) : res_main_v24 V0 (ix6 0 h 0 n (hi j) e) = (((Y.head n h).kc j e : ℝ) : EReal) := by
  unfold hi
  pointwise [res_main_v24, res_main_v14]
  exact H.K (row n j) (col h e)

theorem kp_val (j e : Fin 128) : res_main_v24 V0 (ix6 0 h 0 n (lo j) e) = (((Y.head n h).cut.kp j e : ℝ) : EReal) := by
  unfold lo
  pointwise [res_main_v24, res_main_v14]
  by_cases hn : 0 < n.val
  · rw [show (Y.head n h).cut.kp j e = Y.K (row (before n) j) (col h e) from if_pos hn, dif_neg (by omega)]
    refine Eq.trans (congrArg (fun r => V0 (Proc.tc.devRef main_arg1) (ix2 r _)) ?_) (H.K (row (before n) j) (col h e))
    exact Fin.ext (show n.val * 128 + j.val - 128 = (n.val - 1) * 128 + j.val by omega)
  · rw [show (Y.head n h).cut.kp j e = 0 from if_neg hn, dif_pos (by omega), EReal.coe_zero]

theorem vc_val (j e : Fin 128) : res_main_v31 V0 (ix6 0 h 0 n (hi j) e) = (((Y.head n h).vc j e : ℝ) : EReal) := by
  unfold hi
  pointwise [res_main_v31, res_main_v16]
  exact H.V (row n j) (col h e)

theorem vp_val (j e : Fin 128) : res_main_v31 V0 (ix6 0 h 0 n (lo j) e) = (((Y.head n h).cut.vp j e : ℝ) : EReal) := by
  unfold lo
  pointwise [res_main_v31, res_main_v16]
  by_cases hn : 0 < n.val
  · rw [show (Y.head n h).cut.vp j e = Y.V (row (before n) j) (col h e) from if_pos hn, dif_neg (by omega)]
    refine Eq.trans (congrArg (fun r => V0 (Proc.tc.devRef main_arg2) (ix2 r _)) ?_) (H.V (row (before n) j) (col h e))
    exact Fin.ext (show n.val * 128 + j.val - 128 = (n.val - 1) * 128 + j.val by omega)
  · rw [show (Y.head n h).cut.vp j e = 0 from if_neg hn, dif_pos (by omega), EReal.coe_zero]

omit H in
/-- A comparison of words, by the integers they stand for. -/
theorem sge_val (a b : BitVec 32) : IntOp.cmpi CmpIPredicate.sge a b = if b.toInt ≤ a.toInt then 1#1 else 0#1 := by
  show BitVec.ofBool (b.sle a) = _
  rw [BitVec.sle_eq_decide]
  by_cases hh : b.toInt ≤ a.toInt <;> simp [hh]

omit H in
theorem sle_val (a b : BitVec 32) : IntOp.cmpi CmpIPredicate.sle a b = if a.toInt ≤ b.toInt then 1#1 else 0#1 := by
  show BitVec.ofBool (a.sle b) = _
  rw [BitVec.sle_eq_decide]
  by_cases hh : a.toInt ≤ b.toInt <;> simp [hh]

omit H in
/-- A difference of two small words is the difference of the integers. -/
theorem dist_toInt (a b : ℕ) (ha : a < 2 ^ 20) (hb : b < 2 ^ 20) :
    (IntOp.subi (IntOp.addi (BitVec.ofNat 32 a) 128#32) (BitVec.ofNat 32 b)).toInt = (a : ℤ) + 128 - b := by
  show (BitVec.ofNat 32 a + 128#32 - BitVec.ofNat 32 b).toInt = _
  rw [BitVec.toInt_eq_toNat_bmod, BitVec.toNat_sub, BitVec.toNat_add, BitVec.toNat_ofNat, BitVec.toNat_ofNat, BitVec.toNat_ofNat]
  rw [Int.bmod_def]
  omega

omit H in
/-- The position of a key less 128, as an integer. -/
theorem key_toInt (a b : ℕ) (ha : a < 2 ^ 10) (hb : b < 2 ^ 20) :
    (IntOp.subi (IntOp.addi (IntOp.muli (BitVec.ofNat 32 a) 128#32) (BitVec.ofNat 32 b)) 128#32).toInt = (a : ℤ) * 128 + b - 128 := by
  show (BitVec.ofNat 32 a * 128#32 + BitVec.ofNat 32 b - 128#32).toInt = _
  rw [BitVec.toInt_eq_toNat_bmod, BitVec.toNat_sub, BitVec.toNat_add, BitVec.toNat_mul, BitVec.toNat_ofNat, BitVec.toNat_ofNat, BitVec.toNat_ofNat]
  rw [Int.bmod_def]
  omega

omit H in
/-- The window's mask: the query is at most 128 after the key and not before it, and the key is not before the first. -/
theorem mask_val (i : Fin 128) (k : Fin 256) : res_main_v78_1 V0 (ix6 0 h 0 n i k)
    = if (i.val ≤ k.val ∧ k.val ≤ i.val + 128) ∧ 128 ≤ n.val * 128 + k.val then 1#1 else 0#1 := by
  pointwise [res_main_v78_1, res_main_v43, res_main_v38]
  rw [sge_val, sle_val, sge_val, dist_toInt _ _ (by omega) (by omega), key_toInt _ _ (by omega) (by omega)]
  have z : (0#32).toInt = 0 := rfl
  have t : (128#32).toInt = 128 := rfl
  rw [z, t]
  have e1 : (0 ≤ (i.val : ℤ) + 128 - k.val) ↔ k.val ≤ i.val + 128 := by omega
  have e2 : ((i.val : ℤ) + 128 - k.val ≤ 128) ↔ i.val ≤ k.val := by omega
  have e3 : (0 ≤ (n.val : ℤ) * 128 + k.val - 128) ↔ 128 ≤ n.val * 128 + k.val := by omega
  simp only [e1, e2, e3]
  by_cases a1 : k.val ≤ i.val + 128 <;> by_cases a2 : i.val ≤ k.val <;> by_cases a3 : 128 ≤ n.val * 128 + k.val <;>
    simp only [a1, a2, a3, if_true, if_false, and_true, and_false, true_and, false_and] <;> rfl

omit H in
theorem bit_iff (p : Prop) [Decidable p] : ((if p then 1#1 else 0#1) = 1#1) ↔ p := by
  by_cases hp : p <;> simp [hp]

omit H in
theorem mask_lo (i j : Fin 128) : (res_main_v78_1 V0 (ix6 0 h 0 n i (lo j)) = 1#1) ↔ (Y.head n h).cut.mP i j := by
  rw [mask_val]
  have e : ((i.val ≤ (lo j).val ∧ (lo j).val ≤ i.val + 128) ∧ 128 ≤ n.val * 128 + (lo j).val) ↔ (Y.head n h).cut.mP i j := by
    show ((i.val ≤ j.val ∧ j.val ≤ i.val + 128) ∧ 128 ≤ n.val * 128 + j.val) ↔ (i.val ≤ j.val ∧ 0 < n.val)
    omega
  exact (bit_iff _).trans e

omit H in
theorem mask_hi (i j : Fin 128) : (res_main_v78_1 V0 (ix6 0 h 0 n i (hi j)) = 1#1) ↔ Head.mC i j := by
  rw [mask_val]
  have e : ((i.val ≤ (hi j).val ∧ (hi j).val ≤ i.val + 128) ∧ 128 ≤ n.val * 128 + (hi j).val) ↔ Head.mC i j := by
    show ((i.val ≤ 128 + j.val ∧ 128 + j.val ≤ i.val + 128) ∧ 128 ≤ n.val * 128 + (128 + j.val)) ↔ j.val ≤ i.val
    omega
  exact (bit_iff _).trans e

omit H in
/-- A choice by a bit that says `p`. -/
theorem select_of {α : Type} {b : BitVec 1} {p : Prop} (hb : b = 1#1 ↔ p) (x y : α) :
    Scalar.select b x y = if p then x else y := by
  unfold Scalar.select
  by_cases hp : p
  · rw [if_pos hp, hb.mpr hp]; rfl
  · rw [if_neg hp]
    have : b ≠ 1#1 := fun he => hp (hb.mp he)
    simp [this]

/-- The scores against the block before: the unseen ones are `⊥`. -/
theorem score_lo (i j : Fin 128) : res_main_v78_0 V0 (ix6 0 h 0 n i (lo j))
    = if (Y.head n h).cut.mP i j then (((Y.head n h).cut.sP i j : ℝ) : EReal) else ⊥ := by
  pointwise [res_main_v78_0, res_main_v43, res_main_v38]
  rw [select_of (mask_lo h n i j), H.σ, H.c]
  simp only [q_val H, kp_val H]
  have hbot : (id (constant (F := Ideal) S_ FTy.f32 4286578688#32) ix0 : EReal) = ⊥ := by
    show Ideal.ofBits .f32 4286578688#32 = ⊥
    simp [Ideal.ofBits, Ideal.ieee]
  rw [hbot]
  congr 1
  simp only [← EReal.coe_mul]
  rw [← coe_sum]
  show _ + _ * (((IntOp.muli (IntOp.subi (IntOp.addi (BitVec.ofNat 32 i.val) 128#32) (BitVec.ofNat 32 (lo j).val)) 1#32).toInt : ℝ) : EReal) = _
  rw [show ∀ x : BitVec 32, IntOp.muli x 1#32 = x from fun x => BitVec.mul_one x, dist_toInt _ _ (by omega) (by omega)]
  rw [← EReal.coe_neg, ← EReal.coe_mul, ← EReal.coe_mul, ← EReal.coe_add]
  congr 1
  show (∑ x, (Y.head n h).q i x * (Y.head n h).cut.kp j x) * Y.c + -Y.σ h * (((i.val : ℤ) + 128 - (j.val : ℕ) : ℤ) : ℝ)
    = (∑ x, (Y.head n h).q i x * (Y.head n h).cut.kp j x) * Y.c - Y.σ h * ((i.val : ℝ) + 128 - j.val)
  push_cast
  ring

/-- The scores against the same block: the unseen ones are `⊥`. -/
theorem score_hi (i j : Fin 128) : res_main_v78_0 V0 (ix6 0 h 0 n i (hi j))
    = if Head.mC i j then (((Y.head n h).cut.sC i j : ℝ) : EReal) else ⊥ := by
  pointwise [res_main_v78_0, res_main_v43, res_main_v38]
  rw [select_of (mask_hi h n i j), H.σ, H.c]
  simp only [q_val H, kc_val H]
  have hbot : (id (constant (F := Ideal) S_ FTy.f32 4286578688#32) ix0 : EReal) = ⊥ := by
    show Ideal.ofBits .f32 4286578688#32 = ⊥
    simp [Ideal.ofBits, Ideal.ieee]
  rw [hbot]
  congr 1
  simp only [← EReal.coe_mul]
  rw [← coe_sum]
  show _ + _ * (((IntOp.muli (IntOp.subi (IntOp.addi (BitVec.ofNat 32 i.val) 128#32) (BitVec.ofNat 32 (hi j).val)) 1#32).toInt : ℝ) : EReal) = _
  rw [show ∀ x : BitVec 32, IntOp.muli x 1#32 = x from fun x => BitVec.mul_one x, dist_toInt _ _ (by omega) (by omega)]
  rw [← EReal.coe_neg, ← EReal.coe_mul, ← EReal.coe_mul, ← EReal.coe_add]
  congr 1
  show (∑ x, (Y.head n h).q i x * (Y.head n h).kc j x) * Y.c + -Y.σ h * (((i.val : ℤ) + 128 - (128 + j.val : ℕ) : ℤ) : ℝ)
    = (∑ x, (Y.head n h).q i x * (Y.head n h).kc j x) * Y.c - Y.σ h * ((i.val : ℝ) - j.val)
  push_cast
  ring

/-- Each query's greatest score is a real number: it sees itself. -/
theorem max_val (i : Fin 128) : ∃ M : ℝ, res_main_v79 V0 (ix5 0 h 0 n i) = (M : EReal) := by
  have e : res_main_v79 V0 (ix5 0 h 0 n i)
      = (Finset.univ : Finset (Fin 256)).fold max (⊥ : EReal) fun k => res_main_v78_0 V0 (ix6 0 h 0 n i k) := by
    unfold res_main_v79
    rw [Ideal.maximumf_eq_max]
    refine (Host.reduce_eq_fold (max : EReal → EReal → EReal) (res_main_v78_0 V0) _ _ _ _).trans ?_
    have hb : (constant (F := Ideal) S_ FTy.f32 0xFF800000#32 (Shape.Idx.first h_S_) : EReal) = ⊥ := by
      show Ideal.ofBits .f32 4286578688#32 = ⊥
      simp [Ideal.ofBits, Ideal.ieee]
    rw [hb]
    exact max_last reducesTo_S1x4x1x32x128x256_S1x4x1x32x128_d5 (res_main_v78_0 V0) ⊥ 0 h 0 n i
  rw [e]
  refine coe_of_ne (fold_max_ne_top _ _ bot_ne_top _ fun k _ => ?_) (fold_max_ne_bot _ _ _ (hi i) (Finset.mem_univ _) ?_)
  · rcases half_cases k with ⟨j, rfl⟩ | ⟨j, rfl⟩
    · rw [score_lo H]; split
      · exact EReal.coe_ne_top _
      · exact bot_ne_top
    · rw [score_hi H]; split
      · exact EReal.coe_ne_top _
      · exact bot_ne_top
  · rw [score_hi H, if_pos (show Head.mC i i from le_refl i)]
    exact EReal.coe_ne_bot _

omit H in
theorem add_log {s : Shape} {φ : FTy} (a b : FVec Ideal s φ) (i : s.Idx) : addf a (Host.log b) i = (a i : EReal) + Ideal.log (b i) := rfl

section shifted

variable {M : Fin 128 → ℝ} (hM : ∀ i, res_main_v79 V0 (ix5 0 h 0 n i) = ((M i : ℝ) : EReal))

include hM

/-- The exponentials, shifted by the row's greatest score. -/
theorem exp_lo (i j : Fin 128) :
    res_main_v88 V0 (ix6 0 h 0 n i (lo j)) = ((Real.exp (-M i) * (Y.head n h).cut.eP i j : ℝ) : EReal) := by
  pointwise [res_main_v88]
  rw [score_lo H, hM i]
  unfold Head.eP
  split
  · rw [← EReal.coe_sub, Ideal.exp_coe, ← Real.exp_add]
    congr 2; ring
  · rw [EReal.bot_sub, Ideal.exp_bot, mul_zero, EReal.coe_zero]

theorem exp_hi (i j : Fin 128) :
    res_main_v88 V0 (ix6 0 h 0 n i (hi j)) = ((Real.exp (-M i) * (Y.head n h).cut.eC i j : ℝ) : EReal) := by
  pointwise [res_main_v88]
  rw [score_hi H, hM i]
  unfold Head.eC
  split
  · rw [← EReal.coe_sub, Ideal.exp_coe, ← Real.exp_add]
    congr 2; ring
  · rw [EReal.bot_sub, Ideal.exp_bot, mul_zero, EReal.coe_zero]

/-- The denominator, shifted. -/
theorem den_val (i : Fin 128) :
    res_main_v89 V0 (ix5 0 h 0 n i) = ((Real.exp (-M i) * (Y.head n h).cut.Z i : ℝ) : EReal) := by
  have e : res_main_v89 V0 (ix5 0 h 0 n i) = Finset.sum (M := EReal) Finset.univ fun k => res_main_v88 V0 (ix6 0 h 0 n i k) := by
    unfold res_main_v89
    refine (sum_last reducesTo_S1x4x1x32x128x256_S1x4x1x32x128_d5 (res_main_v88 V0) _ 0 h 0 n i).trans ?_
    have hz : (constant (F := Ideal) S_ FTy.f32 0x00000000#32 (Shape.Idx.first h_S_) : EReal) = 0 := by
      show Ideal.ofBits .f32 0#32 = 0
      simp [Ideal.ofBits, Ideal.ieee]
    rw [hz, zero_add]
  rw [e, sum_halves]
  simp only [exp_lo H h n hM, exp_hi H h n hM]
  rw [← coe_sum, ← coe_sum, ← EReal.coe_add]
  unfold Head.Z
  rw [mul_add, Finset.mul_sum, Finset.mul_sum]

/-- The logarithm of the softmax's denominator. -/
theorem lse_val (i : Fin 128) :
    res_main_v91 V0 (ix5 0 h 0 n i) = ((Real.log ((Y.head n h).cut.Z i) : ℝ) : EReal) := by
  have hz := (Y.head n h).cut.Z_pos i
  have hw : 0 < Real.exp (-M i) * (Y.head n h).cut.Z i := mul_pos (Real.exp_pos _) hz
  unfold res_main_v91
  rw [add_log, hM i, den_val H h n hM i, Ideal.log_coe, if_neg (not_le.mpr hw), ← EReal.coe_add,
    Real.log_mul (Real.exp_pos _).ne' hz.ne', Real.log_exp]
  congr 1; ring

/-- The softmax. -/
theorem p_lo (i j : Fin 128) : res_main_v95 V0 (ix6 0 h 0 n i (lo j)) = (((Y.head n h).cut.pP i j : ℝ) : EReal) := by
  pointwise [res_main_v95]
  rw [score_lo H, lse_val H h n hM i]
  unfold Head.pP Head.eP
  split
  · rw [← EReal.coe_sub, Ideal.exp_coe, Real.exp_sub, Real.exp_log ((Y.head n h).cut.Z_pos i)]
  · rw [EReal.bot_sub, Ideal.exp_bot, zero_div, EReal.coe_zero]

theorem p_hi (i j : Fin 128) : res_main_v95 V0 (ix6 0 h 0 n i (hi j)) = (((Y.head n h).cut.pC i j : ℝ) : EReal) := by
  pointwise [res_main_v95]
  rw [score_hi H, lse_val H h n hM i]
  unfold Head.pC Head.eC
  split
  · rw [← EReal.coe_sub, Ideal.exp_coe, Real.exp_sub, Real.exp_log ((Y.head n h).cut.Z_pos i)]
  · rw [EReal.bot_sub, Ideal.exp_bot, zero_div, EReal.coe_zero]

/-- The gradients of the weights times the weights. -/
theorem t_lo (i j : Fin 128) : res_main_v121 V0 (ix6 0 h 0 n i (lo j))
    = (((∑ e, (Y.head n h).od i e * (Y.head n h).cut.vp j e) * (Y.head n h).cut.pP i j : ℝ) : EReal) := by
  pointwise [res_main_v121]
  simp only [od_val H, vp_val H, p_lo H h n hM]
  rw [EReal.coe_mul, coe_sum]
  simp only [EReal.coe_mul]

theorem t_hi (i j : Fin 128) : res_main_v121 V0 (ix6 0 h 0 n i (hi j))
    = (((∑ e, (Y.head n h).od i e * (Y.head n h).vc j e) * (Y.head n h).cut.pC i j : ℝ) : EReal) := by
  pointwise [res_main_v121]
  simp only [od_val H, vc_val H, p_hi H h n hM]
  rw [EReal.coe_mul, coe_sum]
  simp only [EReal.coe_mul]

/-- The gradient of the values: the share for the block before. -/
theorem dv_lo (j e : Fin 128) : res_main_v119 V0 (ix6 0 h 0 n (lo j) e) = (((Y.head n h).dvP j e : ℝ) : EReal) := by
  pointwise [res_main_v119]
  simp only [od_val H, p_lo H h n hM, Head.cut_pP]
  unfold Head.dvP
  rw [coe_sum]
  simp only [EReal.coe_mul, mul_comm]

/-- The gradient of the values: the share for the same block. -/
theorem dv_hi (j e : Fin 128) : res_main_v119 V0 (ix6 0 h 0 n (hi j) e) = (((Y.head n h).dvC j e : ℝ) : EReal) := by
  pointwise [res_main_v119]
  simp only [od_val H, p_hi H h n hM, Head.cut_pC]
  unfold Head.dvC
  rw [coe_sum]
  simp only [EReal.coe_mul, mul_comm]

omit H hM in
/-- The weights' gradients against the weights add up to the output's gradient against the output. -/
theorem sum_t (X : Head) (i : Fin 128) :
    ∑ j, -((∑ e, X.od i e * X.vp j e) * X.pP i j) + ∑ j, -((∑ e, X.od i e * X.vc j e) * X.pC i j)
      = -∑ e, X.od i e * X.o i e := by
  rw [Finset.sum_neg_distrib, Finset.sum_neg_distrib, ← neg_add]
  congr 1
  unfold Head.o
  simp only [mul_add, Finset.sum_add_distrib, Finset.mul_sum, Finset.sum_mul]
  congr 1
  · rw [Finset.sum_comm]
    exact Finset.sum_congr rfl fun e _ => Finset.sum_congr rfl fun j _ => by ring
  · rw [Finset.sum_comm]
    exact Finset.sum_congr rfl fun e _ => Finset.sum_congr rfl fun j _ => by ring

/-- What the gradients of a query's scores all have added. -/
theorem d_val (i : Fin 128) :
    (Host.reduceAdd (F := Ideal) (φ := .f32) (Host.negf (res_main_v121 V0)) (constant S_ .f32 0x00000000#32)
      reducesTo_S1x4x1x32x128x256_S1x4x1x32x128_d5 h_S_) (ix5 0 h 0 n i)
      = ((-∑ e, (Y.head n h).od i e * (Y.head n h).cut.o i e : ℝ) : EReal) := by
  have hz : (constant (F := Ideal) S_ FTy.f32 0x00000000#32 (Shape.Idx.first h_S_) : EReal) = 0 := by
    show Ideal.ofBits .f32 0#32 = 0
    simp [Ideal.ofBits, Ideal.ieee]
  refine (sum_last reducesTo_S1x4x1x32x128x256_S1x4x1x32x128_d5 (Host.negf (res_main_v121 V0)) _ 0 h 0 n i).trans ?_
  rw [hz, zero_add, sum_halves]
  have e1 : ∀ j, (Host.negf (F := Ideal) (φ := .f32) (res_main_v121 V0)) (ix6 0 h 0 n i (lo j))
      = ((-((∑ e, (Y.head n h).od i e * (Y.head n h).cut.vp j e) * (Y.head n h).cut.pP i j) : ℝ) : EReal) := fun j => by
    rw [EReal.coe_neg, ← t_lo H h n hM i j]; rfl
  have e2 : ∀ j, (Host.negf (F := Ideal) (φ := .f32) (res_main_v121 V0)) (ix6 0 h 0 n i (hi j))
      = ((-((∑ e, (Y.head n h).od i e * (Y.head n h).vc j e) * (Y.head n h).cut.pC i j) : ℝ) : EReal) := fun j => by
    rw [EReal.coe_neg, ← t_hi H h n hM i j]; rfl
  simp only [e1, e2]
  rw [← coe_sum, ← coe_sum, ← EReal.coe_add]
  exact congrArg _ (sum_t (Y.head n h).cut i)

/-- The gradients of the products, over a half of the window where the mask says `m`, the softmax is `p` and the
    gradient of the weight is `t`. -/
theorem g_of (i : Fin 128) (k : Fin 256) (m : Prop) (t x : ℝ) (hm : res_main_v78_1 V0 (ix6 0 h 0 n i k) = 1#1 ↔ m)
    (ht : res_main_v121 V0 (ix6 0 h 0 n i k) = ((t * (x / (Y.head n h).cut.Z i) : ℝ) : EReal))
    (hx : res_main_v88 V0 (ix6 0 h 0 n i k) = ((Real.exp (-M i) * x : ℝ) : EReal)) (h0 : ¬ m → x = 0) :
    res_main_v134 V0 (ix6 0 h 0 n i k)
      = ((x / (Y.head n h).cut.Z i * (t + (Y.head n h).cut.D i) * (Y.head n h).c : ℝ) : EReal) := by
  have hz := (Y.head n h).cut.Z_pos i
  have hw := Real.exp_pos (-M i)
  have hd : Ideal.hostReduceAdd reducesTo_S1x4x1x32x128x1_S4x32x128_d0_2_5
      (shapeCast S1x4x1x32x128x1 (Host.reduceAdd (F := Ideal) (φ := .f32) (Host.negf (res_main_v121 V0)) (constant S_ .f32 0x00000000#32)
        reducesTo_S1x4x1x32x128x256_S1x4x1x32x128_d5 h_S_) shapeCasts_S1x4x1x32x128_S1x4x1x32x128x1) 0 (ix3 h n i)
      = ((-∑ e, (Y.head n h).od i e * (Y.head n h).cut.o i e : ℝ) : EReal) := by
    refine (sum_ones _ _ _ h n i).trans ?_
    rw [zero_add]
    refine Eq.trans ?_ (d_val H h n hM i)
    pointwise []
  pointwise [res_main_v134]
  rw [select_of hm, ht, hx, hd, den_val H h n hM i, H.c]
  have hL : (∑ e : Fin 128, V0 (Proc.tc.devRef main_arg4) (ix2 ⟨n.val * 128 + i.val, by omega⟩ ⟨h.val * 128 + e.val, by omega⟩) : EReal)
      = ((∑ e, (Y.head n h).dl i e : ℝ) : EReal) := by
    rw [coe_sum]
    exact Finset.sum_congr rfl fun e _ => H.L (row n i) (col h e)
  by_cases hh : m
  · rw [if_pos hh]
    refine Eq.trans (congrArg (fun s => ((_ : EReal) + Ideal.div (s + _) _ * _) * _) hL) ?_
    rw [← EReal.coe_add, Ideal.div_coe (mul_pos hw hz).ne', ← EReal.coe_mul, ← EReal.coe_mul, ← EReal.coe_add, ← EReal.coe_mul]
    congr 1
    show (t * (x / _) + (∑ e, (Y.head n h).dl i e + -∑ e, (Y.head n h).od i e * (Y.head n h).cut.o i e) * (1 / _) * _) * (Y.head n h).c = _
    rw [show (Y.head n h).cut.D i = ∑ e, (Y.head n h).dl i e + -∑ e, (Y.head n h).od i e * (Y.head n h).cut.o i e from
      sub_eq_add_neg _ _]
    field_simp
  · rw [if_neg hh, h0 hh, zero_div, zero_mul, zero_mul, EReal.coe_zero]

theorem g_lo (i j : Fin 128) : res_main_v134 V0 (ix6 0 h 0 n i (lo j)) = (((Y.head n h).gP i j : ℝ) : EReal) := by
  rw [← Head.cut_gP]
  exact g_of H h n hM i (lo j) _ _ _ (mask_lo h n i j) (t_lo H h n hM i j) (exp_lo H h n hM i j) fun hm => if_neg hm

theorem g_hi (i j : Fin 128) : res_main_v134 V0 (ix6 0 h 0 n i (hi j)) = (((Y.head n h).gC i j : ℝ) : EReal) := by
  rw [← Head.cut_gC]
  exact g_of H h n hM i (hi j) _ _ _ (mask_hi h n i j) (t_hi H h n hM i j) (exp_hi H h n hM i j) fun hm => if_neg hm

end shifted

/-- The gradient of the values, at the keys of the block before. -/
theorem v_lo (j e : Fin 128) : res_main_v119 V0 (ix6 0 h 0 n (lo j) e) = (((Y.head n h).dvP j e : ℝ) : EReal) := by
  choose M hM using max_val H h n
  exact dv_lo H h n hM j e

/-- The gradient of the values, at the keys of the same block. -/
theorem v_hi (j e : Fin 128) : res_main_v119 V0 (ix6 0 h 0 n (hi j) e) = (((Y.head n h).dvC j e : ℝ) : EReal) := by
  choose M hM using max_val H h n
  exact dv_hi H h n hM j e

/-- The gradient of the keys, at the keys of the block before. -/
theorem k_lo (j e : Fin 128) : res_main_v135 V0 (ix6 0 h 0 n (lo j) e) = (((Y.head n h).dkP j e : ℝ) : EReal) := by
  choose M hM using max_val H h n
  pointwise [res_main_v135]
  simp only [g_lo H h n hM, q_val H]
  unfold Head.dkP
  rw [coe_sum]
  simp only [EReal.coe_mul]

/-- The gradient of the keys, at the keys of the same block. -/
theorem k_hi (j e : Fin 128) : res_main_v135 V0 (ix6 0 h 0 n (hi j) e) = (((Y.head n h).dkC j e : ℝ) : EReal) := by
  choose M hM using max_val H h n
  pointwise [res_main_v135]
  simp only [g_hi H h n hM, q_val H]
  unfold Head.dkC
  rw [coe_sum]
  simp only [EReal.coe_mul]

/-- The gradient of the queries, before its axes are put back in order. -/
theorem dq_val (i e : Fin 128) :
    (Finset.sum (M := EReal) Finset.univ fun k => @HMul.hMul EReal EReal EReal _ (res_main_v134 V0 (ix6 0 h 0 n i k)) (res_main_v24 V0 (ix6 0 h 0 n k e))) = (((Y.dQ n h i e) : ℝ) : EReal) := by
  choose M hM using max_val H h n
  rw [sum_halves]
  simp only [g_lo H h n hM, g_hi H h n hM, kp_val H, kc_val H, ← EReal.coe_mul]
  rw [← coe_sum, ← coe_sum, ← EReal.coe_add]
  congr 1
  show _ = (Y.head n h).dq i e
  rw [← Head.cut_dq, add_comm]
  unfold Head.dq
  simp only [Head.cut_gP, Head.cut_gC]
  rfl

end Cert.Attn.Ref
-- ==== Proof.RefOut.lean ====
/- The reference's three results, position by position and lane by lane: the whole arrays' gradients. -/
module

public import proofs.«01_k».proof.Proof.Ref

@[expose] public section

set_option maxRecDepth 16384

noncomputable section

namespace Cert.Attn.Ref

open Cert.ReferenceIdeal Cert.ReferenceIdeal.Gen Cert.ReferenceIdeal.Value Idealize.ShloMosaic Idealize.ShloMosaic.TcCoe Idealize.SL.Sem Idealize.ShloMosaic.StableHlo
open scoped BigOperators

/-- The reference's result for the gradient of the queries, of the launch contents. -/
def outQ (V0 : Valuation τ sig (Elt Ideal)) : Vec Ideal S4096x512 .f32 :=
  shapeCast _ (shapeCast _ (transpose S1x4096x1x4x128 [0, 3, 2, 1, 4] (shapeCast _ (Host.dotGeneral (φ₂ := FTy.f32) dot_S1x4x1x32x128x256_S1x4x1x32x256x128_S1x4x1x32x128x128_5_4_4_5_0123_0123 none (res_main_v134 V0) (res_main_v24 V0)) shapeCasts_S1x4x1x32x128x128_S1x4x1x4096x128) transposes_S1x4x1x4096x128_S1x4096x1x4x128_0_3_2_1_4) shapeCasts_S1x4096x1x4x128_S1x4096x4x128) shapeCasts_S1x4096x4x128_S4096x512

/-- Each position's two shares added: that of its own block's window, and that of the window of the block after, which
    the last block does not have. -/
def merge (A : Vec Ideal S1x4x1x32x256x128 .f32) : Vec Ideal S4096x512 .f32 :=
  shapeCast _ (shapeCast _ (transpose S1x4096x1x4x128 [0, 3, 2, 1, 4] (addf (F := Ideal) (φ := .f32) (shapeCast _ (extractStridedSlice S1x4x1x32x128x128 ![0, 0, 0, 0, 128, 0] A slices_S1x4x1x32x256x128_S1x4x1x32x128x128_0_0_0_0_128_0) shapeCasts_S1x4x1x32x128x128_S1x4x1x4096x128) (extractStridedSlice S1x4x1x4096x128 ![0, 0, 0, 128, 0] (pad S1x4x1x4224x128 ![0, 0, 0, 0, 0] ![0, 0, 0, 128, 0] ![0, 0, 0, 0, 0] (shapeCast _ (extractStridedSlice S1x4x1x32x128x128 ![0, 0, 0, 0, 0, 0] A slices_S1x4x1x32x256x128_S1x4x1x32x128x128_0_0_0_0_0_0) shapeCasts_S1x4x1x32x128x128_S1x4x1x4096x128) (constant (F := Ideal) S_ .f32 0x00000000#32) pads_S1x4x1x4096x128_S1x4x1x4224x128_000_000_000_01280_000 h_S_) slices_S1x4x1x4224x128_S1x4x1x4096x128_0_0_0_128_0)) transposes_S1x4x1x4096x128_S1x4096x1x4x128_0_3_2_1_4) shapeCasts_S1x4096x1x4x128_S1x4096x4x128) shapeCasts_S1x4096x4x128_S4096x512

/-- The reference's result for the gradient of the keys, of the launch contents. -/
def outK (V0 : Valuation τ sig (Elt Ideal)) : Vec Ideal S4096x512 .f32 := merge (res_main_v135 V0)

/-- The reference's result for the gradient of the values, of the launch contents. -/
def outV (V0 : Valuation τ sig (Elt Ideal)) : Vec Ideal S4096x512 .f32 := merge (res_main_v119 V0)

/-- How the added shares read at a position and a lane. -/
theorem merge_apply (A : Vec Ideal S1x4x1x32x256x128 .f32) (h : Fin 4) (n : Fin 32) (j e : Fin 128) (a b : ℝ)
    (hh : A (ix6 0 h 0 n (hi j) e) = ((a : ℝ) : EReal))
    (hl : ∀ hn : n.val + 1 < 32, A (ix6 0 h 0 ⟨n.val + 1, hn⟩ (lo j) e) = ((b : ℝ) : EReal))
    (hb : ¬ n.val + 1 < 32 → b = 0) :
    merge A (ix2 (row n j) (col h e)) = ((a + b : ℝ) : EReal) := by
  unfold row col
  pointwise [merge]
  refine Eq.trans (congrArg₂ (fun x y : EReal => x + y) hh ?_) (EReal.coe_add a b).symm
  by_cases hn : n.val + 1 < 32
  · refine (dif_pos (by omega)).trans (Eq.trans ?_ (hl hn))
    exact congrArg (fun b => A (ix6 0 h 0 b (lo j) e))
      (Fin.ext (show (128 + (n.val * 128 + j.val)) / 128 = n.val + 1 by omega))
  · rw [hb hn]
    exact dif_neg (by omega)

variable {Y : Data} {V0 : Valuation τ sig (Elt Ideal)} (H : Holds Y V0) (h : Fin 4) (n : Fin 32)

include H

theorem outQ_val (i e : Fin 128) : outQ V0 (ix2 (row n i) (col h e)) = ((Y.dQ n h i e : ℝ) : EReal) := by
  unfold row col
  pointwise [outQ]
  exact dq_val H h n i e

theorem outK_val (j e : Fin 128) : outK V0 (ix2 (row n j) (col h e)) = ((Y.dK n h j e : ℝ) : EReal) := by
  refine merge_apply _ h n j e _ (Y.laterK n h j e) (k_hi H h n j e) (fun hn => ?_) fun hn => dif_neg hn
  rw [show Y.laterK n h j e = _ from dif_pos hn]
  exact k_lo H h ⟨n.val + 1, hn⟩ j e

theorem outV_val (j e : Fin 128) : outV V0 (ix2 (row n j) (col h e)) = ((Y.dV n h j e : ℝ) : EReal) := by
  refine merge_apply _ h n j e _ (Y.laterV n h j e) (v_hi H h n j e) (fun hn => ?_) fun hn => dif_neg hn
  rw [show Y.laterV n h j e = _ from dif_pos hn]
  exact v_lo H h ⟨n.val + 1, hn⟩ j e

end Cert.Attn.Ref
-- ==== Proof.Finite.lean ====
/- Where the precondition holds, everything the two programs are given is a real number. -/
module

public import proofs.«01_k».proof.Proof.Arrays
public import proofs.«01_k».proof.Proof.RefOut
public import proofs.«01_k».proof.Proof.Gen.Pre_finite

@[expose] public section

set_option maxRecDepth 16384

noncomputable section

namespace Cert.Attn

open Cert.Pre_finite Idealize.ShloMosaic Idealize.ShloMosaic.TcCoe Idealize.ShloMosaic.Tactic

/-- A number whose absolute value is below infinity is a real number. -/
theorem real_of_abs {x : Ideal .f32} (h : BitVec.ofBool (decide (FloatOps.absf x < Ideal.ofBits .f32 2139095040#32)) = 1#1) :
    ∃ r : ℝ, (x : EReal) = (r : EReal) := by
  have hb : Ideal.ofBits .f32 2139095040#32 = ⊤ := by simp [Ideal.ofBits, Ideal.ieee]
  have hl : max (x : EReal) (-(x : EReal)) < ⊤ := by
    rw [hb] at h
    by_contra hc
    rw [show decide (FloatOps.absf x < (⊤ : Ideal .f32)) = false from decide_eq_false hc] at h
    exact absurd h (by decide)
  refine coe_of_ne (fun e => ?_) fun e => ?_
  · rw [e] at hl
    exact absurd hl (by simp)
  · rw [e] at hl
    exact absurd hl (by simp)

/-- Both of two conjoined bits are set. -/
theorem andi_one {a b : BitVec 1} (h : IntOp.andi a b = 1#1) : a = 1#1 ∧ b = 1#1 := by
  unfold IntOp.andi at h
  revert h
  revert a b
  decide

variable {a0 a1 : FVec Ideal S4096x1536 .f32} {a2 : FVec Ideal S4096x12288 .f32} {a3 a4 : FVec Ideal S4096x512 .f32}

/-- Where the precondition's array is all ones, the entries it reads are real numbers. -/
theorem real_of_fn (H : Cert.Pre_finite.fn a0 a1 a2 a3 a4 = fun _ => 1#1) (r : Fin 4096) (l : Fin 512) :
    (∃ x : ℝ, a0 (ix2 r ⟨l.val, by omega⟩) = (x : EReal)) ∧ (∃ x : ℝ, a1 (ix2 r ⟨l.val, by omega⟩) = (x : EReal))
    ∧ (∃ x : ℝ, a2 (ix2 r ⟨4608 + l.val, by omega⟩) = (x : EReal)) ∧ (∃ x : ℝ, a3 (ix2 r l) = (x : EReal))
    ∧ (∃ x : ℝ, a4 (ix2 r l) = (x : EReal)) := by
  have h := congrFun H (ix2 r l)
  have e : Cert.Pre_finite.fn a0 a1 a2 a3 a4 (ix2 r l)
      = IntOp.andi (IntOp.andi (IntOp.andi (IntOp.andi
          (BitVec.ofBool (decide (FloatOps.absf (a0 (ix2 r ⟨l.val, by omega⟩)) < Ideal.ofBits .f32 2139095040#32)))
          (BitVec.ofBool (decide (FloatOps.absf (a1 (ix2 r ⟨l.val, by omega⟩)) < Ideal.ofBits .f32 2139095040#32))))
          (BitVec.ofBool (decide (FloatOps.absf (a2 (ix2 r ⟨4608 + l.val, by omega⟩)) < Ideal.ofBits .f32 2139095040#32))))
          (BitVec.ofBool (decide (FloatOps.absf (a3 (ix2 r l)) < Ideal.ofBits .f32 2139095040#32))))
          (BitVec.ofBool (decide (FloatOps.absf (a4 (ix2 r l)) < Ideal.ofBits .f32 2139095040#32))) := by
    pointwise [Cert.Pre_finite.fn, Cert.Pre_finite.fn_part1]
  rw [e] at h
  obtain ⟨h, h4⟩ := andi_one h
  obtain ⟨h, h3⟩ := andi_one h
  obtain ⟨h, h2⟩ := andi_one h
  obtain ⟨h0, h1⟩ := andi_one h
  exact ⟨real_of_abs h0, real_of_abs h1, real_of_abs h2, real_of_abs h3, real_of_abs h4⟩

/-- The scale is a real number. -/
theorem scale_real : ∃ x : ℝ, Ideal.ofBits .f32 0x3DB504F3#32 = (x : EReal) := by
  simp only [Ideal.ofBits, Ideal.ieee]
  norm_num
  exact ⟨_, (EReal.coe_mul _ _).symm⟩

/-- The slopes are real numbers. -/
theorem slope_real (h : Fin 4) : ∃ x : ℝ, Ideal.ofBits .f32 (Arrays.word h) = (x : EReal) := by
  fin_cases h <;> simp [Arrays.word, Ideal.ofBits, Ideal.ieee] <;> exact ⟨_, (EReal.coe_mul _ _).symm⟩

/-- The reference's way of choosing a head's slope gives the head's word. -/
theorem choose_word (h : Fin 4) : (if _ : h.val < 1 then Ideal.ofBits .f32 1060439283#32 else
    if _ : h.val - 1 < 1 then Ideal.ofBits .f32 1056964608#32 else
      if _ : h.val - 1 - 1 < 1 then Ideal.ofBits .f32 1052050675#32 else Ideal.ofBits .f32 1048576000#32)
    = Ideal.ofBits .f32 (Arrays.word h) := by
  fin_cases h <;> rfl

/-- Two 4096 by 512 arrays that agree at every position of every block and every lane of every head are equal. -/
theorem ext_blocks {A B : FVec Ideal S4096x512 .f32}
    (H : ∀ (n : Fin 32) (h : Fin 4) (i e : Fin 128), A (ix2 (row n i) (col h e)) = B (ix2 (row n i) (col h e))) : A = B := by
  funext y
  have l0 : (y 0).val < 4096 := (y 0).isLt
  have l1 : (y 1).val < 512 := (y 1).isLt
  have ey : y = ix2 (row ⟨(y 0).val / 128, by omega⟩ ⟨(y 0).val % 128, by omega⟩) (col ⟨(y 1).val / 128, by omega⟩ ⟨(y 1).val % 128, by omega⟩) := by
    funext a
    match a with
    | ⟨0, _⟩ => exact Fin.ext (show (y 0).val = (y 0).val / 128 * 128 + (y 0).val % 128 by omega)
    | ⟨1, _⟩ => exact Fin.ext (show (y 1).val = (y 1).val / 128 * 128 + (y 1).val % 128 by omega)
  rw [ey]
  exact H _ _ _ _

end Cert.Attn
-- ==== Proof.lean ====
/- The certificate's claims put together.  For the attention's backward call: the frames of the three programs, the named
   constant, and the value claim that the three arrays are the reference's, each entry of both being the same real number.
   For each product call: the frames of its three programs and the value claim.  For each call of the optimiser: these, and
   its two named constants. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.InProj
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjDx
public import proofs.«01_k».proof.Proof.Gen.InProjDxIdeal
public import proofs.«01_k».proof.Proof.Gen.InProjDxIdeal.Frame
public import proofs.«01_k».proof.Proof.Gen.InProjDxIdeal.Value
public import proofs.«01_k».proof.Proof.Gen.InProjDxRefIdeal
public import proofs.«01_k».proof.Proof.Gen.InProjDxRefIdeal.Run
public import proofs.«01_k».proof.Proof.Gen.InProjDw
public import proofs.«01_k».proof.Proof.Gen.InProjDwIdeal
public import proofs.«01_k».proof.Proof.Gen.InProjDwIdeal.Frame
public import proofs.«01_k».proof.Proof.Gen.InProjDwIdeal.Value
public import proofs.«01_k».proof.Proof.Gen.InProjDwRefIdeal
public import proofs.«01_k».proof.Proof.Gen.InProjDwRefIdeal.Run
public import proofs.«01_k».proof.Proof.Gen.Ff1
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff1Dx
public import proofs.«01_k».proof.Proof.Gen.Ff1DxIdeal
public import proofs.«01_k».proof.Proof.Gen.Ff1DxIdeal.Frame
public import proofs.«01_k».proof.Proof.Gen.Ff1DxIdeal.Value
public import proofs.«01_k».proof.Proof.Gen.Ff1DxRefIdeal
public import proofs.«01_k».proof.Proof.Gen.Ff1DxRefIdeal.Run
public import proofs.«01_k».proof.Proof.Gen.Ff1Dw
public import proofs.«01_k».proof.Proof.Gen.Ff1DwIdeal
public import proofs.«01_k».proof.Proof.Gen.Ff1DwIdeal.Frame
public import proofs.«01_k».proof.Proof.Gen.Ff1DwIdeal.Value
public import proofs.«01_k».proof.Proof.Gen.Ff1DwRefIdeal
public import proofs.«01_k».proof.Proof.Gen.Ff1DwRefIdeal.Run
public import proofs.«01_k».proof.Proof.Gen.Ff2
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Ff2Dx
public import proofs.«01_k».proof.Proof.Gen.Ff2DxIdeal
public import proofs.«01_k».proof.Proof.Gen.Ff2DxIdeal.Frame
public import proofs.«01_k».proof.Proof.Gen.Ff2DxIdeal.Value
public import proofs.«01_k».proof.Proof.Gen.Ff2DxRefIdeal
public import proofs.«01_k».proof.Proof.Gen.Ff2DxRefIdeal.Run
public import proofs.«01_k».proof.Proof.Gen.Ff2Dw
public import proofs.«01_k».proof.Proof.Gen.Ff2DwIdeal
public import proofs.«01_k».proof.Proof.Gen.Ff2DwIdeal.Frame
public import proofs.«01_k».proof.Proof.Gen.Ff2DwIdeal.Value
public import proofs.«01_k».proof.Proof.Gen.Ff2DwRefIdeal
public import proofs.«01_k».proof.Proof.Gen.Ff2DwRefIdeal.Run
public import proofs.«01_k».proof.Proof.Gen.Out
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutDx
public import proofs.«01_k».proof.Proof.Gen.OutDxIdeal
public import proofs.«01_k».proof.Proof.Gen.OutDxIdeal.Frame
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDwIdeal
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.AttnOut
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.AttnOutDx
public import proofs.«01_k».proof.Proof.Gen.AttnOutDxIdeal
public import proofs.«01_k».proof.Proof.Gen.AttnOutDxIdeal.Frame
public import proofs.«01_k».proof.Proof.Gen.AttnOutDxIdeal.Value
public import proofs.«01_k».proof.Proof.Gen.AttnOutDxRefIdeal
public import proofs.«01_k».proof.Proof.Gen.AttnOutDxRefIdeal.Run
public import proofs.«01_k».proof.Proof.Gen.AttnOutDw
public import proofs.«01_k».proof.Proof.Gen.AttnOutDwIdeal
public import proofs.«01_k».proof.Proof.Gen.AttnOutDwIdeal.Frame
public import proofs.«01_k».proof.Proof.Gen.AttnOutDwIdeal.Value
public import proofs.«01_k».proof.Proof.Gen.AttnOutDwRefIdeal
public import proofs.«01_k».proof.Proof.Gen.AttnOutDwRefIdeal.Run
public import proofs.«01_k».proof.Proof.Gen.AdamAda
public import proofs.«01_k».proof.Proof.Gen.AdamAdaIdeal
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAda.Frame
public import proofs.«01_k».proof.Proof.Gen.AdamConv
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConv.Frame
public import proofs.«01_k».proof.Proof.Gen.AdamSmall
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmall.Frame
public import proofs.«01_k».proof.Proof.Gen.AdamFf2
public import proofs.«01_k».proof.Proof.Gen.AdamFf2Ideal
public import proofs.«01_k».proof.Proof.Gen.AdamFf2Ideal.Frame
public import proofs.«01_k».proof.Proof.Gen.AdamFf2RefIdeal
public import proofs.«01_k».proof.Proof.Gen.AdamFf2RefIdeal.Run
public import proofs.«01_k».proof.Proof.Gen.AdamFf2.Frame
public import proofs.«01_k».proof.Proof.Gen.AdamIn
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamIn.Frame
public import proofs.«01_k».proof.Proof.InProj
public import proofs.«01_k».proof.Proof.Ff1
public import proofs.«01_k».proof.Proof.Ff2
public import proofs.«01_k».proof.Proof.Out
public import proofs.«01_k».proof.Proof.AttnOut
public import proofs.«01_k».proof.Proof.Optim
public import proofs.«01_k».proof.Proof.PassFf2
public import proofs.«01_k».proof.Proof.PassIn
public import proofs.«01_k».proof.Proof.Gen.Pre_finite
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Cert.Attn

/-- The table of real numbers that the precondition makes of the kernel's arguments. -/
theorem exists_data (m : (ℓ : Loc Cert.KernelIdeal.nD Cert.KernelIdeal.τ Cert.KernelIdeal.sig) → Buf (Elt Ideal) ℓ)
    (H : Cert.Pre_KernelIdeal_finite (hPre_finite := Cert.Pre_finite.Gen.facts) m) (c : Dev Cert.KernelIdeal.nD) :
    ∃ Y : Data, Arrays.Given Y m c := by
  have h := fun r l => real_of_fn (H c) r l
  obtain ⟨s, hs⟩ := scale_real
  choose σ hσ using slope_real
  exact ⟨⟨s, σ, fun r l => (h r l).1.choose, fun r l => (h r l).2.1.choose, fun r l => (h r l).2.2.1.choose,
      fun r l => (h r l).2.2.2.1.choose, fun r l => (h r l).2.2.2.2.choose⟩,
    ⟨hs, hσ, fun r l => (h r l).1.choose_spec, fun r l => (h r l).2.1.choose_spec, fun r l => (h r l).2.2.1.choose_spec,
      fun r l => (h r l).2.2.2.1.choose_spec, fun r l => (h r l).2.2.2.2.choose_spec⟩⟩

/-- The reference is given the same real numbers. -/
theorem holds_of_given {Y : Data} {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ}
    {c : Dev Cert.KernelIdeal.nD} (G : Arrays.Given Y m c)
    (E : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Ref.Holds Y (StableHlo.launchContents m' c) where
  c := G.scale
  σ h := (choose_word h).trans (G.σ h)
  Q r l := (congrFun E.1 _).trans (G.Q r l)
  K r l := (congrFun E.2.1 _).trans (G.K r l)
  V r l := (congrFun E.2.2.1 _).trans (G.V r l)
  O r l := (congrFun E.2.2.2.1 _).trans (G.O r l)
  L r l := (congrFun E.2.2.2.2 _).trans (G.L r l)

/-- The kernel's three arrays are the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre E
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    Cert.KernelIdeal.Value.run_blocks m g, ?_⟩
  refine (θ_run _ _ _).mono (fun r h c => ?_) (Cert.ReferenceIdeal.Value.run m' g')
  obtain ⟨Y, G⟩ := exists_data m hpre c
  have R := holds_of_given G (E c)
  obtain ⟨h0, h1, h2, hargs⟩ := h c
  refine ⟨h0.trans ?_, h1.trans ?_, h2.trans ?_, hargs⟩
  · exact ext_blocks (A := Ref.outQ (StableHlo.launchContents m' c)) fun n h i e =>
      (Ref.outQ_val R h n i e).trans (Arrays.arr_q G n h i e).symm
  · exact ext_blocks (A := Ref.outK (StableHlo.launchContents m' c)) fun n h i e =>
      (Ref.outK_val R h n i e).trans (Arrays.arr_k G n h i e).symm
  · exact ext_blocks (A := Ref.outV (StableHlo.launchContents m' c)) fun n h i e =>
      (Ref.outV_val R h n i e).trans (Arrays.arr_v G n h i e).symm

/-- The reference ends from any memory, its arguments unchanged and every counter at zero. -/
theorem frame_reference : Cert.quiescent_ReferenceIdeal (hReferenceIdeal := Cert.ReferenceIdeal.Gen.facts) := fun m g _ =>
  (θ_run Cert.ReferenceIdeal.defs _ _).mono (fun r h => ⟨fun c => (h c).2.2.2,
    Idealize.ShloMosaic.sem_eq_zero_of_no_sems (by decide) r.2⟩) (Cert.ReferenceIdeal.Value.run (F := Ideal) m g)

/-- All the claims. -/
theorem claim : Cert.Claim := ⟨Cert.Kernel.Gen.facts, Cert.KernelIdeal.Gen.facts, Cert.ReferenceIdeal.Gen.facts,
  Cert.InProj.Gen.facts, Cert.InProjIdeal.Gen.facts, Cert.InProjRefIdeal.Gen.facts,
  Cert.InProjDx.Gen.facts, Cert.InProjDxIdeal.Gen.facts, Cert.InProjDxRefIdeal.Gen.facts,
  Cert.InProjDw.Gen.facts, Cert.InProjDwIdeal.Gen.facts, Cert.InProjDwRefIdeal.Gen.facts,
  Cert.Ff1.Gen.facts, Cert.Ff1Ideal.Gen.facts, Cert.Ff1RefIdeal.Gen.facts,
  Cert.Ff1Dx.Gen.facts, Cert.Ff1DxIdeal.Gen.facts, Cert.Ff1DxRefIdeal.Gen.facts,
  Cert.Ff1Dw.Gen.facts, Cert.Ff1DwIdeal.Gen.facts, Cert.Ff1DwRefIdeal.Gen.facts,
  Cert.Ff2.Gen.facts, Cert.Ff2Ideal.Gen.facts, Cert.Ff2RefIdeal.Gen.facts,
  Cert.Ff2Dx.Gen.facts, Cert.Ff2DxIdeal.Gen.facts, Cert.Ff2DxRefIdeal.Gen.facts,
  Cert.Ff2Dw.Gen.facts, Cert.Ff2DwIdeal.Gen.facts, Cert.Ff2DwRefIdeal.Gen.facts,
  Cert.Out.Gen.facts, Cert.OutIdeal.Gen.facts, Cert.OutRefIdeal.Gen.facts,
  Cert.OutDx.Gen.facts, Cert.OutDxIdeal.Gen.facts, Cert.OutDxRefIdeal.Gen.facts,
  Cert.OutDw.Gen.facts, Cert.OutDwIdeal.Gen.facts, Cert.OutDwRefIdeal.Gen.facts,
  Cert.AttnOut.Gen.facts, Cert.AttnOutIdeal.Gen.facts, Cert.AttnOutRefIdeal.Gen.facts,
  Cert.AttnOutDx.Gen.facts, Cert.AttnOutDxIdeal.Gen.facts, Cert.AttnOutDxRefIdeal.Gen.facts,
  Cert.AttnOutDw.Gen.facts, Cert.AttnOutDwIdeal.Gen.facts, Cert.AttnOutDwRefIdeal.Gen.facts,
  Cert.AdamAda.Gen.facts, Cert.AdamAdaIdeal.Gen.facts, Cert.AdamAdaRefIdeal.Gen.facts,
  Cert.AdamConv.Gen.facts, Cert.AdamConvIdeal.Gen.facts, Cert.AdamConvRefIdeal.Gen.facts,
  Cert.AdamSmall.Gen.facts, Cert.AdamSmallIdeal.Gen.facts, Cert.AdamSmallRefIdeal.Gen.facts,
  Cert.AdamFf2.Gen.facts, Cert.AdamFf2Ideal.Gen.facts, Cert.AdamFf2RefIdeal.Gen.facts,
  Cert.AdamIn.Gen.facts, Cert.AdamInIdeal.Gen.facts, Cert.AdamInRefIdeal.Gen.facts,
  Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  Cert.Prf.InProj.frame,
  fun m ρ _ => Cert.InProjIdeal.Gen.frame m ρ,
  fun m ρ _ => (θ_run _ _ _).mono (fun r h => ⟨fun c => (h c).2, sem_eq_zero_of_no_sems (by decide) r.2⟩)
    (Cert.InProjRefIdeal.Value.run (F := Ideal) m ρ),
  Cert.Prf.InProjDx.frame,
  fun m ρ _ => Cert.InProjDxIdeal.Gen.frame m ρ,
  fun m ρ _ => (θ_run _ _ _).mono (fun r h => ⟨fun c => (h c).2, sem_eq_zero_of_no_sems (by decide) r.2⟩)
    (Cert.InProjDxRefIdeal.Value.run (F := Ideal) m ρ),
  Cert.Prf.InProjDw.frame,
  fun m ρ _ => Cert.InProjDwIdeal.Gen.frame m ρ,
  fun m ρ _ => (θ_run _ _ _).mono (fun r h => ⟨fun c => (h c).2, sem_eq_zero_of_no_sems (by decide) r.2⟩)
    (Cert.InProjDwRefIdeal.Value.run (F := Ideal) m ρ),
  Cert.Prf.Ff1.frame,
  fun m ρ _ => Cert.Ff1Ideal.Gen.frame m ρ,
  fun m ρ _ => (θ_run _ _ _).mono (fun r h => ⟨fun c => (h c).2.2, sem_eq_zero_of_no_sems (by decide) r.2⟩)
    (Cert.Ff1RefIdeal.Value.run (F := Ideal) m ρ),
  Cert.Prf.Ff1Dx.frame,
  fun m ρ _ => Cert.Ff1DxIdeal.Gen.frame m ρ,
  fun m ρ _ => (θ_run _ _ _).mono (fun r h => ⟨fun c => (h c).2, sem_eq_zero_of_no_sems (by decide) r.2⟩)
    (Cert.Ff1DxRefIdeal.Value.run (F := Ideal) m ρ),
  Cert.Prf.Ff1Dw.frame,
  fun m ρ _ => Cert.Ff1DwIdeal.Gen.frame m ρ,
  fun m ρ _ => (θ_run _ _ _).mono (fun r h => ⟨fun c => (h c).2, sem_eq_zero_of_no_sems (by decide) r.2⟩)
    (Cert.Ff1DwRefIdeal.Value.run (F := Ideal) m ρ),
  Cert.Prf.Ff2.frame,
  fun m ρ _ => Cert.Ff2Ideal.Gen.frame m ρ,
  fun m ρ _ => (θ_run _ _ _).mono (fun r h => ⟨fun c => (h c).2, sem_eq_zero_of_no_sems (by decide) r.2⟩)
    (Cert.Ff2RefIdeal.Value.run (F := Ideal) m ρ),
  Cert.Prf.Ff2Dx.frame,
  fun m ρ _ => Cert.Ff2DxIdeal.Gen.frame m ρ,
  fun m ρ _ => (θ_run _ _ _).mono (fun r h => ⟨fun c => (h c).2, sem_eq_zero_of_no_sems (by decide) r.2⟩)
    (Cert.Ff2DxRefIdeal.Value.run (F := Ideal) m ρ),
  Cert.Prf.Ff2Dw.frame,
  fun m ρ _ => Cert.Ff2DwIdeal.Gen.frame m ρ,
  fun m ρ _ => (θ_run _ _ _).mono (fun r h => ⟨fun c => (h c).2, sem_eq_zero_of_no_sems (by decide) r.2⟩)
    (Cert.Ff2DwRefIdeal.Value.run (F := Ideal) m ρ),
  Cert.Prf.Out.frame,
  fun m ρ _ => Cert.OutIdeal.Gen.frame m ρ,
  fun m ρ _ => (θ_run _ _ _).mono (fun r h => ⟨fun c => (h c).2, sem_eq_zero_of_no_sems (by decide) r.2⟩)
    (Cert.OutRefIdeal.Value.run (F := Ideal) m ρ),
  Cert.Prf.OutDx.frame,
  fun m ρ _ => Cert.OutDxIdeal.Gen.frame m ρ,
  fun m ρ _ => (θ_run _ _ _).mono (fun r h => ⟨fun c => (h c).2, sem_eq_zero_of_no_sems (by decide) r.2⟩)
    (Cert.OutDxRefIdeal.Value.run (F := Ideal) m ρ),
  Cert.Prf.OutDw.frame,
  fun m ρ _ => Cert.OutDwIdeal.Gen.frame m ρ,
  fun m ρ _ => (θ_run _ _ _).mono (fun r h => ⟨fun c => (h c).2, sem_eq_zero_of_no_sems (by decide) r.2⟩)
    (Cert.OutDwRefIdeal.Value.run (F := Ideal) m ρ),
  Cert.Prf.AttnOut.frame,
  fun m ρ _ => Cert.AttnOutIdeal.Gen.frame m ρ,
  fun m ρ _ => (θ_run _ _ _).mono (fun r h => ⟨fun c => (h c).2, sem_eq_zero_of_no_sems (by decide) r.2⟩)
    (Cert.AttnOutRefIdeal.Value.run (F := Ideal) m ρ),
  Cert.Prf.AttnOutDx.frame,
  fun m ρ _ => Cert.AttnOutDxIdeal.Gen.frame m ρ,
  fun m ρ _ => (θ_run _ _ _).mono (fun r h => ⟨fun c => (h c).2, sem_eq_zero_of_no_sems (by decide) r.2⟩)
    (Cert.AttnOutDxRefIdeal.Value.run (F := Ideal) m ρ),
  Cert.Prf.AttnOutDw.frame,
  fun m ρ _ => Cert.AttnOutDwIdeal.Gen.frame m ρ,
  fun m ρ _ => (θ_run _ _ _).mono (fun r h => ⟨fun c => (h c).2, sem_eq_zero_of_no_sems (by decide) r.2⟩)
    (Cert.AttnOutDwRefIdeal.Value.run (F := Ideal) m ρ),
  fun m ρ _ => Cert.AdamAda.Gen.frame m ρ,
  fun m ρ _ => Cert.AdamAdaIdeal.Gen.frame m ρ,
  fun m ρ _ => (θ_run _ _ _).mono (fun r h => ⟨fun c => (h c).2.2.2.2, sem_eq_zero_of_no_sems (by decide) r.2⟩)
    (Cert.AdamAdaRefIdeal.Value.run (F := Ideal) m ρ),
  fun m ρ _ => Cert.AdamConv.Gen.frame m ρ,
  fun m ρ _ => Cert.AdamConvIdeal.Gen.frame m ρ,
  fun m ρ _ => (θ_run _ _ _).mono (fun r h => ⟨fun c => (h c).2.2.2.2, sem_eq_zero_of_no_sems (by decide) r.2⟩)
    (Cert.AdamConvRefIdeal.Value.run (F := Ideal) m ρ),
  fun m ρ _ => Cert.AdamSmall.Gen.frame m ρ,
  fun m ρ _ => Cert.AdamSmallIdeal.Gen.frame m ρ,
  fun m ρ _ => (θ_run _ _ _).mono (fun r h => ⟨fun c => (h c).2.2.2.2, sem_eq_zero_of_no_sems (by decide) r.2⟩)
    (Cert.AdamSmallRefIdeal.Value.run (F := Ideal) m ρ),
  fun m ρ _ => Cert.AdamFf2.Gen.frame m ρ,
  fun m ρ _ => Cert.AdamFf2Ideal.Gen.frame m ρ,
  fun m ρ _ => (θ_run _ _ _).mono (fun r h => ⟨fun c => (h c).2.2.2.2, sem_eq_zero_of_no_sems (by decide) r.2⟩)
    (Cert.AdamFf2RefIdeal.Value.run (F := Ideal) m ρ),
  fun m ρ _ => Cert.AdamIn.Gen.frame m ρ,
  fun m ρ _ => Cert.AdamInIdeal.Gen.frame m ρ,
  fun m ρ _ => (θ_run _ _ _).mono (fun r h => ⟨fun c => (h c).2.2.2.2, sem_eq_zero_of_no_sems (by decide) r.2⟩)
    (Cert.AdamInRefIdeal.Value.run (F := Ideal) m ρ),
  IdealRules.named_const.statement Cert.KernelIdeal.κ "mask" .f32 0xF149F2CA#32 ⊥ rfl,
  algebraic,
  trivial, Cert.Prf.InProj.algebraic,
  trivial, Cert.Prf.InProjDx.algebraic,
  trivial, Cert.Prf.InProjDw.algebraic,
  trivial, Cert.Prf.Ff1.algebraic,
  trivial, Cert.Prf.Ff1Dx.algebraic,
  trivial, Cert.Prf.Ff1Dw.algebraic,
  trivial, Cert.Prf.Ff2.algebraic,
  trivial, Cert.Prf.Ff2Dx.algebraic,
  trivial, Cert.Prf.Ff2Dw.algebraic,
  trivial, Cert.Prf.Out.algebraic,
  trivial, Cert.Prf.OutDx.algebraic,
  trivial, Cert.Prf.OutDw.algebraic,
  trivial, Cert.Prf.AttnOut.algebraic,
  trivial, Cert.Prf.AttnOutDx.algebraic,
  trivial, Cert.Prf.AttnOutDw.algebraic,
  Cert.Prf.AdamAda.preserves, Cert.Prf.AdamAda.algebraic,
  Cert.Prf.AdamConv.preserves, Cert.Prf.AdamConv.algebraic,
  Cert.Prf.AdamSmall.preserves, Cert.Prf.AdamSmall.algebraic,
  Cert.Prf.AdamFf2.preserves, Cert.Prf.AdamFf2.algebraic,
  Cert.Prf.AdamIn.preserves, Cert.Prf.AdamIn.algebraic⟩

end Cert.Proof

end
